-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routes_in_range_KernelIdeal [hPre_routes_in_range_KernelIdeal : Cert.Pre_routes_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routes_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routes_in_range_ReferenceIdeal [hPre_routes_in_range_ReferenceIdeal : Cert.Pre_routes_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routes_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routes_in_range_KernelIdeal [hKernelIdeal : Cert.KernelIdeal.Facts] [hPre_routes_in_range_KernelIdeal : Cert.Pre_routes_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routes_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routes_in_range_ReferenceIdeal [hReferenceIdeal : Cert.ReferenceIdeal.Facts] [hPre_routes_in_range_ReferenceIdeal : Cert.Pre_routes_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routes_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routes_in_range_KernelIdeal [hKernelIdeal : Cert.KernelIdeal.Facts] [hReferenceIdeal : Cert.ReferenceIdeal.Facts] [hPre_routes_in_range_KernelIdeal : Cert.Pre_routes_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routes_in_range_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![64, 512, 1024]⟩ 0 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = Layout.block ⟨2, ![128, 1024]⟩ ⟨2, ![2048, 1024]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v26) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routes_in_range_KernelIdeal : Cert.Pre_routes_in_range_KernelIdeal.Facts) (hPre_routes_in_range_ReferenceIdeal : Cert.Pre_routes_in_range_ReferenceIdeal.Facts),
    quiescent_Kernel (hKernel := hKernel)
    ∧ quiescent_KernelIdeal (hKernelIdeal := hKernelIdeal)
    ∧ quiescent_KernelIdeal_pre_routes_in_range_KernelIdeal (hKernelIdeal := hKernelIdeal) (hPre_routes_in_range_KernelIdeal := hPre_routes_in_range_KernelIdeal)
    ∧ quiescent_ReferenceIdeal (hReferenceIdeal := hReferenceIdeal)
    ∧ quiescent_ReferenceIdeal_pre_routes_in_range_ReferenceIdeal (hReferenceIdeal := hReferenceIdeal) (hPre_routes_in_range_ReferenceIdeal := hPre_routes_in_range_ReferenceIdeal)
    ∧ preserves_Kernel_KernelIdeal
    ∧ algebraic_KernelIdeal_ReferenceIdeal_pre_routes_in_range_KernelIdeal (hKernelIdeal := hKernelIdeal) (hReferenceIdeal := hReferenceIdeal) (hPre_routes_in_range_KernelIdeal := hPre_routes_in_range_KernelIdeal)
-- ==== Pre_routes_in_range_KernelIdeal.lean ====
abbrev S2048x512 : Shape := ⟨2, ![2048, 512]⟩
abbrev S512x64 : Shape := ⟨2, ![512, 64]⟩
abbrev S2048x1 : Shape := ⟨2, ![2048, 1]⟩
abbrev S4x512x1024 : Shape := ⟨3, ![4, 512, 1024]⟩
abbrev S_ : Shape := ⟨0, ![]⟩

class Facts : Prop where
  bcast_S_S2048x1 : S_.BroadcastsInDim S2048x1 (![] : Fin 0 → Fin S2048x1.rank)
  reducesTo_S2048x1_S_d0_1 : S2048x1.ReducesTo [0, 1] S_
  h_S_ : 0 < S_.numel

variable [Facts]

def fn {F : FTy → Type} [FloatOps F] (main_arg0 : FVec F S2048x512 .f32) (main_arg1 : FVec F S512x64 .f32) (main_arg2 : IVec S2048x1 32) (main_arg3 : FVec F S4x512x1024 .f32) : IVec S_ 1 :=
  let main_c : IVec S_ 32 := constantI S_ 32 0#32
  let main_v0 : IVec S2048x1 32 := broadcastInDim S2048x1 ![] bcast_S_S2048x1 main_c
  let main_v1 : IVec S2048x1 1 := cmpi .sge main_arg2 main_v0
  let main_c_0 : IVec S_ 32 := constantI S_ 32 64#32
  let main_v2 : IVec S2048x1 32 := broadcastInDim S2048x1 ![] bcast_S_S2048x1 main_c_0
  let main_v3 : IVec S2048x1 1 := cmpi .slt main_arg2 main_v2
  let main_v4 : IVec S2048x1 1 := andi main_v1 main_v3
  let main_c_1 : IVec S_ 1 := constantI S_ 1 1#1
  let main_v5 : IVec S_ 1 := (fun x v => Host.reduce IntOp.andi x v reducesTo_S2048x1_S_d0_1 h_S_) main_v4 main_c_1
  main_v5
-- ==== Pre_routes_in_range_ReferenceIdeal.lean ====
abbrev S2048x512 : Shape := ⟨2, ![2048, 512]⟩
abbrev S512x64 : Shape := ⟨2, ![512, 64]⟩
abbrev S2048x1 : Shape := ⟨2, ![2048, 1]⟩
abbrev S64x512x1024 : Shape := ⟨3, ![64, 512, 1024]⟩
abbrev S_ : Shape := ⟨0, ![]⟩

class Facts : Prop where
  bcast_S_S2048x1 : S_.BroadcastsInDim S2048x1 (![] : Fin 0 → Fin S2048x1.rank)
  reducesTo_S2048x1_S_d0_1 : S2048x1.ReducesTo [0, 1] S_
  h_S_ : 0 < S_.numel

variable [Facts]

def fn {F : FTy → Type} [FloatOps F] (main_arg0 : FVec F S2048x512 .f32) (main_arg1 : FVec F S512x64 .f32) (main_arg2 : IVec S2048x1 32) (main_arg3 : FVec F S64x512x1024 .f32) : IVec S_ 1 :=
  let main_c : IVec S_ 32 := constantI S_ 32 0#32
  let main_v0 : IVec S2048x1 32 := broadcastInDim S2048x1 ![] bcast_S_S2048x1 main_c
  let main_v1 : IVec S2048x1 1 := cmpi .sge main_arg2 main_v0
  let main_c_0 : IVec S_ 32 := constantI S_ 32 64#32
  let main_v2 : IVec S2048x1 32 := broadcastInDim S2048x1 ![] bcast_S_S2048x1 main_c_0
  let main_v3 : IVec S2048x1 1 := cmpi .slt main_arg2 main_v2
  let main_v4 : IVec S2048x1 1 := andi main_v1 main_v3
  let main_c_1 : IVec S_ 1 := constantI S_ 1 1#1
  let main_v5 : IVec S_ 1 := (fun x v => Host.reduce IntOp.andi x v reducesTo_S2048x1_S_d0_1 h_S_) main_v4 main_c_1
  main_v5
-- ==== Kernel.lean ====
abbrev S2048x512 : Shape := ⟨2, ![2048, 512]⟩
abbrev S512x64 : Shape := ⟨2, ![512, 64]⟩
abbrev S2048x1 : Shape := ⟨2, ![2048, 1]⟩
abbrev S4x512x1024 : Shape := ⟨3, ![4, 512, 1024]⟩
abbrev S_ : Shape := ⟨0, ![]⟩
abbrev S1 : Shape := ⟨1, ![1]⟩
abbrev S3 : Shape := ⟨1, ![3]⟩
abbrev S1x2048 : Shape := ⟨2, ![1, 2048]⟩
abbrev S128x1024 : Shape := ⟨2, ![128, 1024]⟩
abbrev S16x128x1024 : Shape := ⟨3, ![16, 128, 1024]⟩
abbrev S5 : Shape := ⟨1, ![5]⟩
abbrev S8x8 : Shape := ⟨2, ![8, 8]⟩
abbrev S7x8 : Shape := ⟨2, ![7, 8]⟩
abbrev S1x512x1024 : Shape := ⟨3, ![1, 512, 1024]⟩
abbrev S512x1024 : Shape := ⟨2, ![512, 1024]⟩
abbrev S8x2048 : Shape := ⟨2, ![8, 2048]⟩
abbrev S8x1 : Shape := ⟨2, ![8, 1]⟩
abbrev S8x2047 : Shape := ⟨2, ![8, 2047]⟩
abbrev S8x2 : Shape := ⟨2, ![8, 2]⟩
abbrev S8x2046 : Shape := ⟨2, ![8, 2046]⟩
abbrev S8x4 : Shape := ⟨2, ![8, 4]⟩
abbrev S8x2044 : Shape := ⟨2, ![8, 2044]⟩
abbrev S8x2040 : Shape := ⟨2, ![8, 2040]⟩
abbrev S8x16 : Shape := ⟨2, ![8, 16]⟩
abbrev S8x2032 : Shape := ⟨2, ![8, 2032]⟩
abbrev S8x32 : Shape := ⟨2, ![8, 32]⟩
abbrev S8x2016 : Shape := ⟨2, ![8, 2016]⟩
abbrev S8x64 : Shape := ⟨2, ![8, 64]⟩
abbrev S8x1984 : Shape := ⟨2, ![8, 1984]⟩
abbrev S8x128 : Shape := ⟨2, ![8, 128]⟩
abbrev S8x1920 : Shape := ⟨2, ![8, 1920]⟩
abbrev S8x256 : Shape := ⟨2, ![8, 256]⟩
abbrev S8x1792 : Shape := ⟨2, ![8, 1792]⟩
abbrev S8x512 : Shape := ⟨2, ![8, 512]⟩
abbrev S8x1536 : Shape := ⟨2, ![8, 1536]⟩
abbrev S8x1024 : Shape := ⟨2, ![8, 1024]⟩
abbrev S4x2048 : Shape := ⟨2, ![4, 2048]⟩
abbrev S4x1x2048 : Shape := ⟨3, ![4, 1, 2048]⟩
abbrev S4x32x2048 : Shape := ⟨3, ![4, 32, 2048]⟩
abbrev S128x2048 : Shape := ⟨2, ![128, 2048]⟩
abbrev S32x2048 : Shape := ⟨2, ![32, 2048]⟩
abbrev S32x512 : Shape := ⟨2, ![32, 512]⟩
abbrev S32x1024 : Shape := ⟨2, ![32, 1024]⟩
abbrev S1x32x1024 : Shape := ⟨3, ![1, 32, 1024]⟩
abbrev S1x1 : Shape := ⟨2, ![1, 1]⟩
abbrev S1x16x1024 : Shape := ⟨3, ![1, 16, 1024]⟩
abbrev S16x1024 : Shape := ⟨2, ![16, 1024]⟩
abbrev S1x128 : Shape := ⟨2, ![1, 128]⟩
abbrev S2048x128 : Shape := ⟨2, ![2048, 128]⟩
abbrev S128x128 : Shape := ⟨2, ![128, 128]⟩
abbrev S1x128x1024 : Shape := ⟨3, ![1, 128, 1024]⟩

abbrev nBuf : Space → Nat
  | .hbm => 118
  | .vmem => 6
  | .smem => 1
  | _ => 0

abbrev bufTy : (tb : Table) → Fin (tcTables nBuf tb) → BufTy
  | .hbm, ⟨0, _⟩ => ⟨S2048x512, .f32⟩
  | .hbm, ⟨1, _⟩ => ⟨S512x64, .f32⟩
  | .hbm, ⟨2, _⟩ => ⟨S2048x1, .i32⟩
  | .hbm, ⟨3, _⟩ => ⟨S4x512x1024, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i1⟩
  | .hbm, ⟨39, _⟩ => ⟨S_, .i32⟩
  | .hbm, ⟨40, _⟩ => ⟨S_, .i32⟩
  | .hbm, ⟨41, _⟩ => ⟨S_, .i1⟩
  | .hbm, ⟨42, _⟩ => ⟨S_, .i1⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S_, .i1⟩
  | .hbm, ⟨65, _⟩ => ⟨S_, .i1⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S_, .i1⟩
  | .hbm, ⟨75, _⟩ => ⟨S_, .i32⟩
  | .hbm, ⟨76, _⟩ => ⟨S_, .i32⟩
  | .hbm, ⟨77, _⟩ => ⟨S_, .i32⟩
  | .hbm, ⟨78, _⟩ => ⟨S_, .i32⟩
  | .hbm, ⟨79, _⟩ => ⟨S_, .i32⟩
  | .hbm, ⟨80, _⟩ => ⟨S_, .i32⟩
  | .hbm, ⟨81, _⟩ => ⟨S_, .i32⟩
  | .hbm, ⟨82, _⟩ => ⟨S_, .i32⟩
  | .hbm, ⟨83, _⟩ => ⟨S_, .i32⟩
  | .hbm, ⟨84, _⟩ => ⟨S_, .i32⟩
  | .hbm, ⟨85, _⟩ => ⟨S_, .i32⟩
  | .hbm, ⟨86, _⟩ => ⟨S_, .i32⟩
  | .hbm, ⟨87, _⟩ => ⟨S_, .i32⟩
  | .hbm, ⟨88, _⟩ => ⟨S_, .i32⟩
  | .hbm, ⟨89, _⟩ => ⟨S_, .i32⟩
  | .hbm, ⟨90, _⟩ => ⟨S_, .i32⟩
  | .hbm, ⟨91, _⟩ => ⟨S_, .i32⟩
  | .hbm, ⟨92, _⟩ => ⟨S_, .i1⟩
  | .hbm, ⟨93, _⟩ => ⟨S_, .i32⟩
  | .hbm, ⟨94, _⟩ => ⟨S_, .i32⟩
  | .hbm, ⟨95, _⟩ => ⟨S_, .i1⟩
  | .hbm, ⟨96, _⟩ => ⟨S_, .i1⟩
  | .hbm, ⟨97, _⟩ => ⟨S_, .i32⟩
  | .hbm, ⟨98, _⟩ => ⟨S_, .i32⟩
  | .hbm, ⟨99, _⟩ => ⟨S_, .i32⟩
  | .hbm, ⟨100, _⟩ => ⟨S_, .i32⟩
  | .hbm, ⟨101, _⟩ => ⟨S_, .i32⟩
  | .hbm, ⟨102, _⟩ => ⟨S_, .i32⟩
  | .hbm, ⟨103, _⟩ => ⟨S_, .i32⟩
  | .hbm, ⟨104, _⟩ => ⟨S_, .i32⟩
  | .hbm, ⟨105, _⟩ => ⟨S_, .i1⟩
  | .hbm, ⟨106, _⟩ => ⟨S_, .i32⟩
  | .hbm, ⟨107, _⟩ => ⟨S_, .i32⟩
  | .hbm, ⟨108, _⟩ => ⟨S_, .i32⟩
  | .hbm, ⟨109, _⟩ => ⟨S_, .i32⟩
  | .hbm, ⟨110, _⟩ => ⟨S_, .i32⟩
  | .hbm, ⟨111, _⟩ => ⟨S_, .i32⟩
  | .hbm, ⟨112, _⟩ => ⟨S1, .i32⟩
  | .hbm, ⟨113, _⟩ => ⟨S1, .i32⟩
  | .hbm, ⟨114, _⟩ => ⟨S1, .i32⟩
  | .hbm, ⟨115, _⟩ => ⟨S3, .i32⟩
  | .hbm, ⟨116, _⟩ => ⟨S1x2048, .i32⟩
  | .hbm, ⟨117, _⟩ => ⟨S128x1024, .f32⟩
  | .local _ .vmem, ⟨0, _⟩ => ⟨S1x2048, .i32⟩
  | .local _ .vmem, ⟨1, _⟩ => ⟨S2048x1, .i32⟩
  | .local _ .vmem, ⟨2, _⟩ => ⟨S128x1024, .f32⟩
  | .local _ .vmem, ⟨3, _⟩ => ⟨S2048x512, .f32⟩
  | .local _ .vmem, ⟨4, _⟩ => ⟨S4x512x1024, .f32⟩
  | .local _ .vmem, ⟨5, _⟩ => ⟨S16x128x1024, .bf16⟩
  | .local _ .smem, ⟨0, _⟩ => ⟨S3, .i32⟩
  | _, _ => ⟨S2048x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 1 → Bool
  | ⟨0, _⟩ => false
  | _ => false

abbrev dmaSemScoped : Fin 249 → Bool
  | ⟨i, _⟩ => dmaSemScopedAt i

abbrev sig : RefSig :=
  (ofTc nBuf bufTy 1 249 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_c_2 : Ref sig .tc := ⟨.hbm, 12, rfl⟩
abbrev main_v6 : Ref sig .tc := ⟨.hbm, 13, rfl⟩
abbrev main_c_3 : Ref sig .tc := ⟨.hbm, 14, rfl⟩
abbrev main_v7 : Ref sig .tc := ⟨.hbm, 15, rfl⟩
abbrev main_c_4 : Ref sig .tc := ⟨.hbm, 16, rfl⟩
abbrev main_v8 : Ref sig .tc := ⟨.hbm, 17, rfl⟩
abbrev main_c_5 : Ref sig .tc := ⟨.hbm, 18, rfl⟩
abbrev main_v9 : Ref sig .tc := ⟨.hbm, 19, rfl⟩
abbrev main_c_6 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c : Ref sig .tc := ⟨.hbm, 27, rfl⟩
abbrev main_call0_v6 : Ref sig .tc := ⟨.hbm, 28, rfl⟩
abbrev main_call0_v7 : Ref sig .tc := ⟨.hbm, 29, rfl⟩
abbrev main_call0_c_0 : Ref sig .tc := ⟨.hbm, 30, rfl⟩
abbrev main_call0_v8 : Ref sig .tc := ⟨.hbm, 31, rfl⟩
abbrev main_v10 : Ref sig .tc := ⟨.hbm, 32, rfl⟩
abbrev main_c_7 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c : Ref sig .tc := ⟨.hbm, 40, rfl⟩
abbrev main_call1_v6 : Ref sig .tc := ⟨.hbm, 41, rfl⟩
abbrev main_call1_v7 : Ref sig .tc := ⟨.hbm, 42, rfl⟩
abbrev main_call1_c_0 : Ref sig .tc := ⟨.hbm, 43, rfl⟩
abbrev main_call1_v8 : Ref sig .tc := ⟨.hbm, 44, rfl⟩
abbrev main_v11 : Ref sig .tc := ⟨.hbm, 45, rfl⟩
abbrev main_c_8 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_c_9 : Ref sig .tc := ⟨.hbm, 50, rfl⟩
abbrev main_v15 : Ref sig .tc := ⟨.hbm, 51, rfl⟩
abbrev main_c_10 : Ref sig .tc := ⟨.hbm, 52, rfl⟩
abbrev main_v16 : Ref sig .tc := ⟨.hbm, 53, rfl⟩
abbrev main_c_11 : Ref sig .tc := ⟨.hbm, 54, rfl⟩
abbrev main_v17 : Ref sig .tc := ⟨.hbm, 55, rfl⟩
abbrev main_c_12 : Ref sig .tc := ⟨.hbm, 56, rfl⟩
abbrev main_call3_v0 : Ref sig .tc := ⟨.hbm, 57, rfl⟩
abbrev main_call3_v1 : Ref sig .tc := ⟨.hbm, 58, rfl⟩
abbrev main_call3_v2 : Ref sig .tc := ⟨.hbm, 59, rfl⟩
abbrev main_call3_v3 : Ref sig .tc := ⟨.hbm, 60, rfl⟩
abbrev main_call3_v4 : Ref sig .tc := ⟨.hbm, 61, rfl⟩
abbrev main_call3_v5 : Ref sig .tc := ⟨.hbm, 62, rfl⟩
abbrev main_call3_c : Ref sig .tc := ⟨.hbm, 63, rfl⟩
abbrev main_call3_v6 : Ref sig .tc := ⟨.hbm, 64, rfl⟩
abbrev main_call3_v7 : Ref sig .tc := ⟨.hbm, 65, rfl⟩
abbrev main_call3_c_0 : Ref sig .tc := ⟨.hbm, 66, rfl⟩
abbrev main_call3_v8 : Ref sig .tc := ⟨.hbm, 67, rfl⟩
abbrev main_v18 : Ref sig .tc := ⟨.hbm, 68, rfl⟩
abbrev main_c_13 : Ref sig .tc := ⟨.hbm, 69, rfl⟩
abbrev main_v19 : Ref sig .tc := ⟨.hbm, 70, rfl⟩
abbrev main_c_14 : Ref sig .tc := ⟨.hbm, 71, rfl⟩
abbrev main_v20 : Ref sig .tc := ⟨.hbm, 72, rfl⟩
abbrev main_c_15 : Ref sig .tc := ⟨.hbm, 73, rfl⟩
abbrev main_v21 : Ref sig .tc := ⟨.hbm, 74, rfl⟩
abbrev main_c_16 : Ref sig .tc := ⟨.hbm, 75, rfl⟩
abbrev main_v22 : Ref sig .tc := ⟨.hbm, 76, rfl⟩
abbrev main_v23 : Ref sig .tc := ⟨.hbm, 77, rfl⟩
abbrev main_c_17 : Ref sig .tc := ⟨.hbm, 78, rfl⟩
abbrev main_v24 : Ref sig .tc := ⟨.hbm, 79, rfl⟩
abbrev main_v25 : Ref sig .tc := ⟨.hbm, 80, rfl⟩
abbrev main_c_18 : Ref sig .tc := ⟨.hbm, 81, rfl⟩
abbrev main_v26 : Ref sig .tc := ⟨.hbm, 82, rfl⟩
abbrev main_c_19 : Ref sig .tc := ⟨.hbm, 83, rfl⟩
abbrev main_v27 : Ref sig .tc := ⟨.hbm, 84, rfl⟩
abbrev main_c_20 : Ref sig .tc := ⟨.hbm, 85, rfl⟩
abbrev main_v28 : Ref sig .tc := ⟨.hbm, 86, rfl⟩
abbrev main_c_21 : Ref sig .tc := ⟨.hbm, 87, rfl⟩
abbrev main_call5_v0 : Ref sig .tc := ⟨.hbm, 88, rfl⟩
abbrev main_call5_v1 : Ref sig .tc := ⟨.hbm, 89, rfl⟩
abbrev main_call5_v2 : Ref sig .tc := ⟨.hbm, 90, rfl⟩
abbrev main_call5_v3 : Ref sig .tc := ⟨.hbm, 91, rfl⟩
abbrev main_call5_v4 : Ref sig .tc := ⟨.hbm, 92, rfl⟩
abbrev main_call5_v5 : Ref sig .tc := ⟨.hbm, 93, rfl⟩
abbrev main_call5_c : Ref sig .tc := ⟨.hbm, 94, rfl⟩
abbrev main_call5_v6 : Ref sig .tc := ⟨.hbm, 95, rfl⟩
abbrev main_call5_v7 : Ref sig .tc := ⟨.hbm, 96, rfl⟩
abbrev main_call5_c_0 : Ref sig .tc := ⟨.hbm, 97, rfl⟩
abbrev main_call5_v8 : Ref sig .tc := ⟨.hbm, 98, rfl⟩
abbrev main_v29 : Ref sig .tc := ⟨.hbm, 99, rfl⟩
abbrev main_c_22 : Ref sig .tc := ⟨.hbm, 100, rfl⟩
abbrev main_v30 : Ref sig .tc := ⟨.hbm, 101, rfl⟩
abbrev main_c_23 : Ref sig .tc := ⟨.hbm, 102, rfl⟩
abbrev main_v31 : Ref sig .tc := ⟨.hbm, 103, rfl⟩
abbrev main_c_24 : Ref sig .tc := ⟨.hbm, 104, rfl⟩
abbrev main_v32 : Ref sig .tc := ⟨.hbm, 105, rfl⟩
abbrev main_c_25 : Ref sig .tc := ⟨.hbm, 106, rfl⟩
abbrev main_v33 : Ref sig .tc := ⟨.hbm, 107, rfl⟩
abbrev main_v34 : Ref sig .tc := ⟨.hbm, 108, rfl⟩
abbrev main_c_26 : Ref sig .tc := ⟨.hbm, 109, rfl⟩
abbrev main_v35 : Ref sig .tc := ⟨.hbm, 110, rfl⟩
abbrev main_v36 : Ref sig .tc := ⟨.hbm, 111, rfl⟩
abbrev main_v37 : Ref sig .tc := ⟨.hbm, 112, rfl⟩
abbrev main_v38 : Ref sig .tc := ⟨.hbm, 113, rfl⟩
abbrev main_v39 : Ref sig .tc := ⟨.hbm, 114, rfl⟩
abbrev main_v40 : Ref sig .tc := ⟨.hbm, 115, rfl⟩
abbrev main_v41 : Ref sig .tc := ⟨.hbm, 116, rfl⟩
abbrev main_v42 : Ref sig .tc := ⟨.hbm, 117, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_stg2_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (v4 : BitVec 32) : Nat :=
  let c0_i32_27 : BitVec 32 := 0#32
  let c1_i32_26 : BitVec 32 := 1#32
  let v32 : BitVec 32 := Scalar.muli v4 c1_i32_26
  let v33 : BitVec 32 := Scalar.addi c0_i32_27 v32
  v33.toNat

def k0_dev2 (v3 : BitVec 32) : Nat :=
  let c0_i32_30 : BitVec 32 := 0#32
  let c1_i32_29 : BitVec 32 := 1#32
  let v34 : BitVec 32 := Scalar.muli v3 c1_i32_29
  let v35 : BitVec 32 := Scalar.addi c0_i32_30 v34
  v35.toNat

def k0_dev3 (v3 : BitVec 32) : Nat :=
  let c0_i32_71 : BitVec 32 := 0#32
  let c1_i32_70 : BitVec 32 := 1#32
  let v132 : BitVec 32 := Scalar.muli v3 c1_i32_70
  let v133 : BitVec 32 := Scalar.addi c0_i32_71 v132
  v133.toNat
def k0_dev4 (v4 : BitVec 32) : Nat :=
  let c0_i32_82 : BitVec 32 := 0#32
  let c1_i32_81 : BitVec 32 := 1#32
  let v142 : BitVec 32 := Scalar.muli v4 c1_i32_81
  let v143 : BitVec 32 := Scalar.addi c0_i32_82 v142
  v143.toNat
def k0_dev5 (v3 : BitVec 32) : Nat :=
  let c0_i32_94 : BitVec 32 := 0#32
  let c1_i32_93 : BitVec 32 := 1#32
  let v152 : BitVec 32 := Scalar.muli v3 c1_i32_93
  let v153 : BitVec 32 := Scalar.addi c0_i32_94 v152
  v153.toNat
def k0_dev6 (v4 : BitVec 32) : Nat :=
  let c0_i32_106 : BitVec 32 := 0#32
  let c1_i32_105 : BitVec 32 := 1#32
  let v162 : BitVec 32 := Scalar.muli v4 c1_i32_105
  let v163 : BitVec 32 := Scalar.addi c0_i32_106 v162
  v163.toNat
def k0_dev7 (v3 : BitVec 32) : Nat :=
  let c0_i32_134 : BitVec 32 := 0#32
  let c1_i32_133 : BitVec 32 := 1#32
  let v188 : BitVec 32 := Scalar.muli v3 c1_i32_133
  let v189 : BitVec 32 := Scalar.addi c0_i32_134 v188
  v189.toNat
def k0_dev8 (v4 : BitVec 32) : Nat :=
  let c0_i32_146 : BitVec 32 := 0#32
  let c1_i32_145 : BitVec 32 := 1#32
  let v198 : BitVec 32 := Scalar.muli v4 c1_i32_145
  let v199 : BitVec 32 := Scalar.addi c0_i32_146 v198
  v199.toNat
def k0_dev9 (v3 : BitVec 32) : Nat :=
  let c0_i32_158 : BitVec 32 := 0#32
  let c1_i32_157 : BitVec 32 := 1#32
  let v208 : BitVec 32 := Scalar.muli v3 c1_i32_157
  let v209 : BitVec 32 := Scalar.addi c0_i32_158 v208
  v209.toNat
def k0_dev10 (v4 : BitVec 32) : Nat :=
  let c0_i32_169 : BitVec 32 := 0#32
  let c1_i32_168 : BitVec 32 := 1#32
  let v218 : BitVec 32 := Scalar.muli v4 c1_i32_168
  let v219 : BitVec 32 := Scalar.addi c0_i32_169 v218
  v219.toNat
def k0_dev11 (v3 : BitVec 32) : Nat :=
  let c0_i32_196 : BitVec 32 := 0#32
  let c1_i32_195 : BitVec 32 := 1#32
  let v244 : BitVec 32 := Scalar.muli v3 c1_i32_195
  let v245 : BitVec 32 := Scalar.addi c0_i32_196 v244
  v245.toNat
def k0_dev12 (v4 : BitVec 32) : Nat :=
  let c0_i32_207 : BitVec 32 := 0#32
  let c1_i32_206 : BitVec 32 := 1#32
  let v254 : BitVec 32 := Scalar.muli v4 c1_i32_206
  let v255 : BitVec 32 := Scalar.addi c0_i32_207 v254
  v255.toNat
def k0_dev13 (v3 : BitVec 32) : Nat :=
  let c0_i32_218 : BitVec 32 := 0#32
  let c1_i32_217 : BitVec 32 := 1#32
  let v264 : BitVec 32 := Scalar.muli v3 c1_i32_217
  let v265 : BitVec 32 := Scalar.addi c0_i32_218 v264
  v265.toNat
def k0_dev14 (v4 : BitVec 32) : Nat :=
  let c0_i32_229 : BitVec 32 := 0#32
  let c1_i32_228 : BitVec 32 := 1#32
  let v274 : BitVec 32 := Scalar.muli v4 c1_i32_228
  let v275 : BitVec 32 := Scalar.addi c0_i32_229 v274
  v275.toNat
def k0_dev15 (v3 : BitVec 32) : Nat :=
  let c0_i32_255 : BitVec 32 := 0#32
  let c1_i32_254 : BitVec 32 := 1#32
  let v300 : BitVec 32 := Scalar.muli v3 c1_i32_254
  let v301 : BitVec 32 := Scalar.addi c0_i32_255 v300
  v301.toNat
def k0_dev16 (v4 : BitVec 32) : Nat :=
  let c0_i32_266 : BitVec 32 := 0#32
  let c1_i32_265 : BitVec 32 := 1#32
  let v310 : BitVec 32 := Scalar.muli v4 c1_i32_265
  let v311 : BitVec 32 := Scalar.addi c0_i32_266 v310
  v311.toNat
def k0_dev17 (v3 : BitVec 32) : Nat :=
  let c0_i32_277 : BitVec 32 := 0#32
  let c1_i32_276 : BitVec 32 := 1#32
  let v320 : BitVec 32 := Scalar.muli v3 c1_i32_276
  let v321 : BitVec 32 := Scalar.addi c0_i32_277 v320
  v321.toNat
def k0_dev18 (v4 : BitVec 32) : Nat :=
  let c0_i32_288 : BitVec 32 := 0#32
  let c1_i32_287 : BitVec 32 := 1#32
  let v330 : BitVec 32 := Scalar.muli v4 c1_i32_287
  let v331 : BitVec 32 := Scalar.addi c0_i32_288 v330
  v331.toNat
def k0_off1 (d0 : Dev nD) : Fin 2 → Nat :=
  let c0_293 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32 : BitVec 32 := 128#32
  let v340 : BitVec 32 := Scalar.muli v2 c128_i32
  let v341 : Index := Scalar.indexCast v340
  ![0, v341.toNat]
def k0_dev19 (v3 : BitVec 32) : Nat :=
  let c0_i32_351 : BitVec 32 := 0#32
  let c1_i32_350 : BitVec 32 := 1#32
  let v462 : BitVec 32 := Scalar.muli v3 c1_i32_350
  let v463 : BitVec 32 := Scalar.addi c0_i32_351 v462
  v463.toNat
def k0_dev20 (v3 : BitVec 32) : Nat :=
  let c0_i32_375 : BitVec 32 := 0#32
  let c1_i32_374 : BitVec 32 := 1#32
  let v480 : BitVec 32 := Scalar.muli v3 c1_i32_374
  let v481 : BitVec 32 := Scalar.addi c0_i32_375 v480
  v481.toNat
def k0_dev21 (v3 : BitVec 32) : Nat :=
  let c0_i32_399 : BitVec 32 := 0#32
  let c1_i32_398 : BitVec 32 := 1#32
  let v498 : BitVec 32 := Scalar.muli v3 c1_i32_398
  let v499 : BitVec 32 := Scalar.addi c0_i32_399 v498
  v499.toNat
def k0_dev22 (v3 : BitVec 32) : Nat :=
  let c0_i32_423 : BitVec 32 := 0#32
  let c1_i32_422 : BitVec 32 := 1#32
  let v516 : BitVec 32 := Scalar.muli v3 c1_i32_422
  let v517 : BitVec 32 := Scalar.addi c0_i32_423 v516
  v517.toNat
def k0_dev23 (v3 : BitVec 32) : Nat :=
  let c0_i32_447 : BitVec 32 := 0#32
  let c1_i32_446 : BitVec 32 := 1#32
  let v534 : BitVec 32 := Scalar.muli v3 c1_i32_446
  let v535 : BitVec 32 := Scalar.addi c0_i32_447 v534
  v535.toNat
def k0_dev24 (v3 : BitVec 32) : Nat :=
  let c0_i32_471 : BitVec 32 := 0#32
  let c1_i32_470 : BitVec 32 := 1#32
  let v552 : BitVec 32 := Scalar.muli v3 c1_i32_470
  let v553 : BitVec 32 := Scalar.addi c0_i32_471 v552
  v553.toNat
def k0_dev25 (v3 : BitVec 32) : Nat :=
  let c0_i32_495 : BitVec 32 := 0#32
  let c1_i32_494 : BitVec 32 := 1#32
  let v570 : BitVec 32 := Scalar.muli v3 c1_i32_494
  let v571 : BitVec 32 := Scalar.addi c0_i32_495 v570
  v571.toNat
def k0_dev26 (v3 : BitVec 32) : Nat :=
  let c0_i32_519 : BitVec 32 := 0#32
  let c1_i32_518 : BitVec 32 := 1#32
  let v588 : BitVec 32 := Scalar.muli v3 c1_i32_518
  let v589 : BitVec 32 := Scalar.addi c0_i32_519 v588
  v589.toNat
def k0_dev27 (v4 : BitVec 32) : Nat :=
  let c0_i32_542 : BitVec 32 := 0#32
  let c1_i32_541 : BitVec 32 := 1#32
  let v606 : BitVec 32 := Scalar.muli v4 c1_i32_541
  let v607 : BitVec 32 := Scalar.addi c0_i32_542 v606
  v607.toNat
def k0_dev28 (v4 : BitVec 32) : Nat :=
  let c0_i32_566 : BitVec 32 := 0#32
  let c1_i32_565 : BitVec 32 := 1#32
  let v624 : BitVec 32 := Scalar.muli v4 c1_i32_565
  let v625 : BitVec 32 := Scalar.addi c0_i32_566 v624
  v625.toNat
def k0_dev29 (v4 : BitVec 32) : Nat :=
  let c0_i32_590 : BitVec 32 := 0#32
  let c1_i32_589 : BitVec 32 := 1#32
  let v642 : BitVec 32 := Scalar.muli v4 c1_i32_589
  let v643 : BitVec 32 := Scalar.addi c0_i32_590 v642
  v643.toNat
def k0_dev30 (v4 : BitVec 32) : Nat :=
  let c0_i32_614 : BitVec 32 := 0#32
  let c1_i32_613 : BitVec 32 := 1#32
  let v660 : BitVec 32 := Scalar.muli v4 c1_i32_613
  let v661 : BitVec 32 := Scalar.addi c0_i32_614 v660
  v661.toNat
def k0_dev31 (v4 : BitVec 32) : Nat :=
  let c0_i32_638 : BitVec 32 := 0#32
  let c1_i32_637 : BitVec 32 := 1#32
  let v678 : BitVec 32 := Scalar.muli v4 c1_i32_637
  let v679 : BitVec 32 := Scalar.addi c0_i32_638 v678
  v679.toNat
def k0_dev32 (v4 : BitVec 32) : Nat :=
  let c0_i32_662 : BitVec 32 := 0#32
  let c1_i32_661 : BitVec 32 := 1#32
  let v696 : BitVec 32 := Scalar.muli v4 c1_i32_661
  let v697 : BitVec 32 := Scalar.addi c0_i32_662 v696
  v697.toNat
def k0_dev33 (v4 : BitVec 32) : Nat :=
  let c0_i32_686 : BitVec 32 := 0#32
  let c1_i32_685 : BitVec 32 := 1#32
  let v714 : BitVec 32 := Scalar.muli v4 c1_i32_685
  let v715 : BitVec 32 := Scalar.addi c0_i32_686 v714
  v715.toNat
def k0_dev34 (v4 : BitVec 32) : Nat :=
  let c0_i32_710 : BitVec 32 := 0#32
  let c1_i32_709 : BitVec 32 := 1#32
  let v732 : BitVec 32 := Scalar.muli v4 c1_i32_709
  let v733 : BitVec 32 := Scalar.addi c0_i32_710 v732
  v733.toNat
def k0_dev35 (v3 : BitVec 32) : Nat :=
  let c0_i32_750 : BitVec 32 := 0#32
  let c1_i32_749 : BitVec 32 := 1#32
  let v784 : BitVec 32 := Scalar.muli v3 c1_i32_749
  let v785 : BitVec 32 := Scalar.addi c0_i32_750 v784
  v785.toNat
def k0_dev36 (v3 : BitVec 32) : Nat :=
  let c0_i32_774 : BitVec 32 := 0#32
  let c1_i32_773 : BitVec 32 := 1#32
  let v802 : BitVec 32 := Scalar.muli v3 c1_i32_773
  let v803 : BitVec 32 := Scalar.addi c0_i32_774 v802
  v803.toNat
def k0_dev37 (v3 : BitVec 32) : Nat :=
  let c0_i32_798 : BitVec 32 := 0#32
  let c1_i32_797 : BitVec 32 := 1#32
  let v820 : BitVec 32 := Scalar.muli v3 c1_i32_797
  let v821 : BitVec 32 := Scalar.addi c0_i32_798 v820
  v821.toNat
def k0_dev38 (v3 : BitVec 32) : Nat :=
  let c0_i32_822 : BitVec 32 := 0#32
  let c1_i32_821 : BitVec 32 := 1#32
  let v838 : BitVec 32 := Scalar.muli v3 c1_i32_821
  let v839 : BitVec 32 := Scalar.addi c0_i32_822 v838
  v839.toNat
def k0_dev39 (v3 : BitVec 32) : Nat :=
  let c0_i32_846 : BitVec 32 := 0#32
  let c1_i32_845 : BitVec 32 := 1#32
  let v856 : BitVec 32 := Scalar.muli v3 c1_i32_845
  let v857 : BitVec 32 := Scalar.addi c0_i32_846 v856
  v857.toNat
def k0_dev40 (v3 : BitVec 32) : Nat :=
  let c0_i32_870 : BitVec 32 := 0#32
  let c1_i32_869 : BitVec 32 := 1#32
  let v874 : BitVec 32 := Scalar.muli v3 c1_i32_869
  let v875 : BitVec 32 := Scalar.addi c0_i32_870 v874
  v875.toNat
def k0_dev41 (v3 : BitVec 32) : Nat :=
  let c0_i32_894 : BitVec 32 := 0#32
  let c1_i32_893 : BitVec 32 := 1#32
  let v892 : BitVec 32 := Scalar.muli v3 c1_i32_893
  let v893 : BitVec 32 := Scalar.addi c0_i32_894 v892
  v893.toNat
def k0_dev42 (v3 : BitVec 32) : Nat :=
  let c0_i32_918 : BitVec 32 := 0#32
  let c1_i32_917 : BitVec 32 := 1#32
  let v910 : BitVec 32 := Scalar.muli v3 c1_i32_917
  let v911 : BitVec 32 := Scalar.addi c0_i32_918 v910
  v911.toNat
def k0_dev43 (v4 : BitVec 32) : Nat :=
  let c0_i32_941 : BitVec 32 := 0#32
  let c1_i32_940 : BitVec 32 := 1#32
  let v928 : BitVec 32 := Scalar.muli v4 c1_i32_940
  let v929 : BitVec 32 := Scalar.addi c0_i32_941 v928
  v929.toNat
def k0_dev44 (v4 : BitVec 32) : Nat :=
  let c0_i32_965 : BitVec 32 := 0#32
  let c1_i32_964 : BitVec 32 := 1#32
  let v946 : BitVec 32 := Scalar.muli v4 c1_i32_964
  let v947 : BitVec 32 := Scalar.addi c0_i32_965 v946
  v947.toNat
def k0_dev45 (v4 : BitVec 32) : Nat :=
  let c0_i32_989 : BitVec 32 := 0#32
  let c1_i32_988 : BitVec 32 := 1#32
  let v964 : BitVec 32 := Scalar.muli v4 c1_i32_988
  let v965 : BitVec 32 := Scalar.addi c0_i32_989 v964
  v965.toNat
def k0_dev46 (v4 : BitVec 32) : Nat :=
  let c0_i32_1013 : BitVec 32 := 0#32
  let c1_i32_1012 : BitVec 32 := 1#32
  let v982 : BitVec 32 := Scalar.muli v4 c1_i32_1012
  let v983 : BitVec 32 := Scalar.addi c0_i32_1013 v982
  v983.toNat
def k0_dev47 (v4 : BitVec 32) : Nat :=
  let c0_i32_1037 : BitVec 32 := 0#32
  let c1_i32_1036 : BitVec 32 := 1#32
  let v1000 : BitVec 32 := Scalar.muli v4 c1_i32_1036
  let v1001 : BitVec 32 := Scalar.addi c0_i32_1037 v1000
  v1001.toNat
def k0_dev48 (v4 : BitVec 32) : Nat :=
  let c0_i32_1061 : BitVec 32 := 0#32
  let c1_i32_1060 : BitVec 32 := 1#32
  let v1018 : BitVec 32 := Scalar.muli v4 c1_i32_1060
  let v1019 : BitVec 32 := Scalar.addi c0_i32_1061 v1018
  v1019.toNat
def k0_dev49 (v4 : BitVec 32) : Nat :=
  let c0_i32_1085 : BitVec 32 := 0#32
  let c1_i32_1084 : BitVec 32 := 1#32
  let v1036 : BitVec 32 := Scalar.muli v4 c1_i32_1084
  let v1037 : BitVec 32 := Scalar.addi c0_i32_1085 v1036
  v1037.toNat
def k0_dev50 (v4 : BitVec 32) : Nat :=
  let c0_i32_1109 : BitVec 32 := 0#32
  let c1_i32_1108 : BitVec 32 := 1#32
  let v1054 : BitVec 32 := Scalar.muli v4 c1_i32_1108
  let v1055 : BitVec 32 := Scalar.addi c0_i32_1109 v1054
  v1055.toNat
def k0_dev51 (v3 : BitVec 32) : Nat :=
  let c0_i32_1148 : BitVec 32 := 0#32
  let c1_i32_1147 : BitVec 32 := 1#32
  let v1106 : BitVec 32 := Scalar.muli v3 c1_i32_1147
  let v1107 : BitVec 32 := Scalar.addi c0_i32_1148 v1106
  v1107.toNat
def k0_dev52 (v3 : BitVec 32) : Nat :=
  let c0_i32_1172 : BitVec 32 := 0#32
  let c1_i32_1171 : BitVec 32 := 1#32
  let v1124 : BitVec 32 := Scalar.muli v3 c1_i32_1171
  let v1125 : BitVec 32 := Scalar.addi c0_i32_1172 v1124
  v1125.toNat
def k0_dev53 (v3 : BitVec 32) : Nat :=
  let c0_i32_1196 : BitVec 32 := 0#32
  let c1_i32_1195 : BitVec 32 := 1#32
  let v1142 : BitVec 32 := Scalar.muli v3 c1_i32_1195
  let v1143 : BitVec 32 := Scalar.addi c0_i32_1196 v1142
  v1143.toNat
def k0_dev54 (v3 : BitVec 32) : Nat :=
  let c0_i32_1220 : BitVec 32 := 0#32
  let c1_i32_1219 : BitVec 32 := 1#32
  let v1160 : BitVec 32 := Scalar.muli v3 c1_i32_1219
  let v1161 : BitVec 32 := Scalar.addi c0_i32_1220 v1160
  v1161.toNat
def k0_dev55 (v3 : BitVec 32) : Nat :=
  let c0_i32_1244 : BitVec 32 := 0#32
  let c1_i32_1243 : BitVec 32 := 1#32
  let v1178 : BitVec 32 := Scalar.muli v3 c1_i32_1243
  let v1179 : BitVec 32 := Scalar.addi c0_i32_1244 v1178
  v1179.toNat
def k0_dev56 (v3 : BitVec 32) : Nat :=
  let c0_i32_1268 : BitVec 32 := 0#32
  let c1_i32_1267 : BitVec 32 := 1#32
  let v1196 : BitVec 32 := Scalar.muli v3 c1_i32_1267
  let v1197 : BitVec 32 := Scalar.addi c0_i32_1268 v1196
  v1197.toNat
def k0_dev57 (v3 : BitVec 32) : Nat :=
  let c0_i32_1292 : BitVec 32 := 0#32
  let c1_i32_1291 : BitVec 32 := 1#32
  let v1214 : BitVec 32 := Scalar.muli v3 c1_i32_1291
  let v1215 : BitVec 32 := Scalar.addi c0_i32_1292 v1214
  v1215.toNat
def k0_dev58 (v3 : BitVec 32) : Nat :=
  let c0_i32_1316 : BitVec 32 := 0#32
  let c1_i32_1315 : BitVec 32 := 1#32
  let v1232 : BitVec 32 := Scalar.muli v3 c1_i32_1315
  let v1233 : BitVec 32 := Scalar.addi c0_i32_1316 v1232
  v1233.toNat
def k0_dev59 (v4 : BitVec 32) : Nat :=
  let c0_i32_1339 : BitVec 32 := 0#32
  let c1_i32_1338 : BitVec 32 := 1#32
  let v1250 : BitVec 32 := Scalar.muli v4 c1_i32_1338
  let v1251 : BitVec 32 := Scalar.addi c0_i32_1339 v1250
  v1251.toNat
def k0_dev60 (v4 : BitVec 32) : Nat :=
  let c0_i32_1363 : BitVec 32 := 0#32
  let c1_i32_1362 : BitVec 32 := 1#32
  let v1268 : BitVec 32 := Scalar.muli v4 c1_i32_1362
  let v1269 : BitVec 32 := Scalar.addi c0_i32_1363 v1268
  v1269.toNat
def k0_dev61 (v4 : BitVec 32) : Nat :=
  let c0_i32_1387 : BitVec 32 := 0#32
  let c1_i32_1386 : BitVec 32 := 1#32
  let v1286 : BitVec 32 := Scalar.muli v4 c1_i32_1386
  let v1287 : BitVec 32 := Scalar.addi c0_i32_1387 v1286
  v1287.toNat
def k0_dev62 (v4 : BitVec 32) : Nat :=
  let c0_i32_1411 : BitVec 32 := 0#32
  let c1_i32_1410 : BitVec 32 := 1#32
  let v1304 : BitVec 32 := Scalar.muli v4 c1_i32_1410
  let v1305 : BitVec 32 := Scalar.addi c0_i32_1411 v1304
  v1305.toNat
def k0_dev63 (v4 : BitVec 32) : Nat :=
  let c0_i32_1435 : BitVec 32 := 0#32
  let c1_i32_1434 : BitVec 32 := 1#32
  let v1322 : BitVec 32 := Scalar.muli v4 c1_i32_1434
  let v1323 : BitVec 32 := Scalar.addi c0_i32_1435 v1322
  v1323.toNat
def k0_dev64 (v4 : BitVec 32) : Nat :=
  let c0_i32_1459 : BitVec 32 := 0#32
  let c1_i32_1458 : BitVec 32 := 1#32
  let v1340 : BitVec 32 := Scalar.muli v4 c1_i32_1458
  let v1341 : BitVec 32 := Scalar.addi c0_i32_1459 v1340
  v1341.toNat
def k0_dev65 (v4 : BitVec 32) : Nat :=
  let c0_i32_1483 : BitVec 32 := 0#32
  let c1_i32_1482 : BitVec 32 := 1#32
  let v1358 : BitVec 32 := Scalar.muli v4 c1_i32_1482
  let v1359 : BitVec 32 := Scalar.addi c0_i32_1483 v1358
  v1359.toNat
def k0_dev66 (v4 : BitVec 32) : Nat :=
  let c0_i32_1507 : BitVec 32 := 0#32
  let c1_i32_1506 : BitVec 32 := 1#32
  let v1376 : BitVec 32 := Scalar.muli v4 c1_i32_1506
  let v1377 : BitVec 32 := Scalar.addi c0_i32_1507 v1376
  v1377.toNat
def k0_dev67 (v3 : BitVec 32) : Nat :=
  let c0_i32_1546 : BitVec 32 := 0#32
  let c1_i32_1545 : BitVec 32 := 1#32
  let v1428 : BitVec 32 := Scalar.muli v3 c1_i32_1545
  let v1429 : BitVec 32 := Scalar.addi c0_i32_1546 v1428
  v1429.toNat
def k0_dev68 (v3 : BitVec 32) : Nat :=
  let c0_i32_1570 : BitVec 32 := 0#32
  let c1_i32_1569 : BitVec 32 := 1#32
  let v1446 : BitVec 32 := Scalar.muli v3 c1_i32_1569
  let v1447 : BitVec 32 := Scalar.addi c0_i32_1570 v1446
  v1447.toNat
def k0_dev69 (v3 : BitVec 32) : Nat :=
  let c0_i32_1594 : BitVec 32 := 0#32
  let c1_i32_1593 : BitVec 32 := 1#32
  let v1464 : BitVec 32 := Scalar.muli v3 c1_i32_1593
  let v1465 : BitVec 32 := Scalar.addi c0_i32_1594 v1464
  v1465.toNat
def k0_dev70 (v3 : BitVec 32) : Nat :=
  let c0_i32_1618 : BitVec 32 := 0#32
  let c1_i32_1617 : BitVec 32 := 1#32
  let v1482 : BitVec 32 := Scalar.muli v3 c1_i32_1617
  let v1483 : BitVec 32 := Scalar.addi c0_i32_1618 v1482
  v1483.toNat
def k0_dev71 (v3 : BitVec 32) : Nat :=
  let c0_i32_1642 : BitVec 32 := 0#32
  let c1_i32_1641 : BitVec 32 := 1#32
  let v1500 : BitVec 32 := Scalar.muli v3 c1_i32_1641
  let v1501 : BitVec 32 := Scalar.addi c0_i32_1642 v1500
  v1501.toNat
def k0_dev72 (v3 : BitVec 32) : Nat :=
  let c0_i32_1666 : BitVec 32 := 0#32
  let c1_i32_1665 : BitVec 32 := 1#32
  let v1518 : BitVec 32 := Scalar.muli v3 c1_i32_1665
  let v1519 : BitVec 32 := Scalar.addi c0_i32_1666 v1518
  v1519.toNat
def k0_dev73 (v3 : BitVec 32) : Nat :=
  let c0_i32_1690 : BitVec 32 := 0#32
  let c1_i32_1689 : BitVec 32 := 1#32
  let v1536 : BitVec 32 := Scalar.muli v3 c1_i32_1689
  let v1537 : BitVec 32 := Scalar.addi c0_i32_1690 v1536
  v1537.toNat
def k0_dev74 (v3 : BitVec 32) : Nat :=
  let c0_i32_1714 : BitVec 32 := 0#32
  let c1_i32_1713 : BitVec 32 := 1#32
  let v1554 : BitVec 32 := Scalar.muli v3 c1_i32_1713
  let v1555 : BitVec 32 := Scalar.addi c0_i32_1714 v1554
  v1555.toNat
def k0_dev75 (v4 : BitVec 32) : Nat :=
  let c0_i32_1737 : BitVec 32 := 0#32
  let c1_i32_1736 : BitVec 32 := 1#32
  let v1572 : BitVec 32 := Scalar.muli v4 c1_i32_1736
  let v1573 : BitVec 32 := Scalar.addi c0_i32_1737 v1572
  v1573.toNat
def k0_dev76 (v4 : BitVec 32) : Nat :=
  let c0_i32_1761 : BitVec 32 := 0#32
  let c1_i32_1760 : BitVec 32 := 1#32
  let v1590 : BitVec 32 := Scalar.muli v4 c1_i32_1760
  let v1591 : BitVec 32 := Scalar.addi c0_i32_1761 v1590
  v1591.toNat
def k0_dev77 (v4 : BitVec 32) : Nat :=
  let c0_i32_1785 : BitVec 32 := 0#32
  let c1_i32_1784 : BitVec 32 := 1#32
  let v1608 : BitVec 32 := Scalar.muli v4 c1_i32_1784
  let v1609 : BitVec 32 := Scalar.addi c0_i32_1785 v1608
  v1609.toNat
def k0_dev78 (v4 : BitVec 32) : Nat :=
  let c0_i32_1809 : BitVec 32 := 0#32
  let c1_i32_1808 : BitVec 32 := 1#32
  let v1626 : BitVec 32 := Scalar.muli v4 c1_i32_1808
  let v1627 : BitVec 32 := Scalar.addi c0_i32_1809 v1626
  v1627.toNat
def k0_dev79 (v4 : BitVec 32) : Nat :=
  let c0_i32_1833 : BitVec 32 := 0#32
  let c1_i32_1832 : BitVec 32 := 1#32
  let v1644 : BitVec 32 := Scalar.muli v4 c1_i32_1832
  let v1645 : BitVec 32 := Scalar.addi c0_i32_1833 v1644
  v1645.toNat
def k0_dev80 (v4 : BitVec 32) : Nat :=
  let c0_i32_1857 : BitVec 32 := 0#32
  let c1_i32_1856 : BitVec 32 := 1#32
  let v1662 : BitVec 32 := Scalar.muli v4 c1_i32_1856
  let v1663 : BitVec 32 := Scalar.addi c0_i32_1857 v1662
  v1663.toNat
def k0_dev81 (v4 : BitVec 32) : Nat :=
  let c0_i32_1881 : BitVec 32 := 0#32
  let c1_i32_1880 : BitVec 32 := 1#32
  let v1680 : BitVec 32 := Scalar.muli v4 c1_i32_1880
  let v1681 : BitVec 32 := Scalar.addi c0_i32_1881 v1680
  v1681.toNat
def k0_dev82 (v4 : BitVec 32) : Nat :=
  let c0_i32_1905 : BitVec 32 := 0#32
  let c1_i32_1904 : BitVec 32 := 1#32
  let v1698 : BitVec 32 := Scalar.muli v4 c1_i32_1904
  let v1699 : BitVec 32 := Scalar.addi c0_i32_1905 v1698
  v1699.toNat
def k0_dev83 (v3 : BitVec 32) : Nat :=
  let c0_i32_1943 : BitVec 32 := 0#32
  let c1_i32_1942 : BitVec 32 := 1#32
  let v1750 : BitVec 32 := Scalar.muli v3 c1_i32_1942
  let v1751 : BitVec 32 := Scalar.addi c0_i32_1943 v1750
  v1751.toNat
def k0_dev84 (v3 : BitVec 32) : Nat :=
  let c0_i32_1967 : BitVec 32 := 0#32
  let c1_i32_1966 : BitVec 32 := 1#32
  let v1768 : BitVec 32 := Scalar.muli v3 c1_i32_1966
  let v1769 : BitVec 32 := Scalar.addi c0_i32_1967 v1768
  v1769.toNat
def k0_dev85 (v3 : BitVec 32) : Nat :=
  let c0_i32_1991 : BitVec 32 := 0#32
  let c1_i32_1990 : BitVec 32 := 1#32
  let v1786 : BitVec 32 := Scalar.muli v3 c1_i32_1990
  let v1787 : BitVec 32 := Scalar.addi c0_i32_1991 v1786
  v1787.toNat
def k0_dev86 (v3 : BitVec 32) : Nat :=
  let c0_i32_2015 : BitVec 32 := 0#32
  let c1_i32_2014 : BitVec 32 := 1#32
  let v1804 : BitVec 32 := Scalar.muli v3 c1_i32_2014
  let v1805 : BitVec 32 := Scalar.addi c0_i32_2015 v1804
  v1805.toNat
def k0_dev87 (v3 : BitVec 32) : Nat :=
  let c0_i32_2039 : BitVec 32 := 0#32
  let c1_i32_2038 : BitVec 32 := 1#32
  let v1822 : BitVec 32 := Scalar.muli v3 c1_i32_2038
  let v1823 : BitVec 32 := Scalar.addi c0_i32_2039 v1822
  v1823.toNat
def k0_dev88 (v3 : BitVec 32) : Nat :=
  let c0_i32_2063 : BitVec 32 := 0#32
  let c1_i32_2062 : BitVec 32 := 1#32
  let v1840 : BitVec 32 := Scalar.muli v3 c1_i32_2062
  let v1841 : BitVec 32 := Scalar.addi c0_i32_2063 v1840
  v1841.toNat
def k0_dev89 (v3 : BitVec 32) : Nat :=
  let c0_i32_2087 : BitVec 32 := 0#32
  let c1_i32_2086 : BitVec 32 := 1#32
  let v1858 : BitVec 32 := Scalar.muli v3 c1_i32_2086
  let v1859 : BitVec 32 := Scalar.addi c0_i32_2087 v1858
  v1859.toNat
def k0_dev90 (v3 : BitVec 32) : Nat :=
  let c0_i32_2111 : BitVec 32 := 0#32
  let c1_i32_2110 : BitVec 32 := 1#32
  let v1876 : BitVec 32 := Scalar.muli v3 c1_i32_2110
  let v1877 : BitVec 32 := Scalar.addi c0_i32_2111 v1876
  v1877.toNat
def k0_dev91 (v4 : BitVec 32) : Nat :=
  let c0_i32_2134 : BitVec 32 := 0#32
  let c1_i32_2133 : BitVec 32 := 1#32
  let v1894 : BitVec 32 := Scalar.muli v4 c1_i32_2133
  let v1895 : BitVec 32 := Scalar.addi c0_i32_2134 v1894
  v1895.toNat
def k0_dev92 (v4 : BitVec 32) : Nat :=
  let c0_i32_2158 : BitVec 32 := 0#32
  let c1_i32_2157 : BitVec 32 := 1#32
  let v1912 : BitVec 32 := Scalar.muli v4 c1_i32_2157
  let v1913 : BitVec 32 := Scalar.addi c0_i32_2158 v1912
  v1913.toNat
def k0_dev93 (v4 : BitVec 32) : Nat :=
  let c0_i32_2182 : BitVec 32 := 0#32
  let c1_i32_2181 : BitVec 32 := 1#32
  let v1930 : BitVec 32 := Scalar.muli v4 c1_i32_2181
  let v1931 : BitVec 32 := Scalar.addi c0_i32_2182 v1930
  v1931.toNat
def k0_dev94 (v4 : BitVec 32) : Nat :=
  let c0_i32_2206 : BitVec 32 := 0#32
  let c1_i32_2205 : BitVec 32 := 1#32
  let v1948 : BitVec 32 := Scalar.muli v4 c1_i32_2205
  let v1949 : BitVec 32 := Scalar.addi c0_i32_2206 v1948
  v1949.toNat
def k0_dev95 (v4 : BitVec 32) : Nat :=
  let c0_i32_2230 : BitVec 32 := 0#32
  let c1_i32_2229 : BitVec 32 := 1#32
  let v1966 : BitVec 32 := Scalar.muli v4 c1_i32_2229
  let v1967 : BitVec 32 := Scalar.addi c0_i32_2230 v1966
  v1967.toNat
def k0_dev96 (v4 : BitVec 32) : Nat :=
  let c0_i32_2254 : BitVec 32 := 0#32
  let c1_i32_2253 : BitVec 32 := 1#32
  let v1984 : BitVec 32 := Scalar.muli v4 c1_i32_2253
  let v1985 : BitVec 32 := Scalar.addi c0_i32_2254 v1984
  v1985.toNat
def k0_dev97 (v4 : BitVec 32) : Nat :=
  let c0_i32_2278 : BitVec 32 := 0#32
  let c1_i32_2277 : BitVec 32 := 1#32
  let v2002 : BitVec 32 := Scalar.muli v4 c1_i32_2277
  let v2003 : BitVec 32 := Scalar.addi c0_i32_2278 v2002
  v2003.toNat
def k0_dev98 (v4 : BitVec 32) : Nat :=
  let c0_i32_2302 : BitVec 32 := 0#32
  let c1_i32_2301 : BitVec 32 := 1#32
  let v2020 : BitVec 32 := Scalar.muli v4 c1_i32_2301
  let v2021 : BitVec 32 := Scalar.addi c0_i32_2302 v2020
  v2021.toNat
def k0_dev99 (v3 : BitVec 32) : Nat :=
  let c0_i32_2340 : BitVec 32 := 0#32
  let c1_i32_2339 : BitVec 32 := 1#32
  let v2072 : BitVec 32 := Scalar.muli v3 c1_i32_2339
  let v2073 : BitVec 32 := Scalar.addi c0_i32_2340 v2072
  v2073.toNat
def k0_dev100 (v3 : BitVec 32) : Nat :=
  let c0_i32_2364 : BitVec 32 := 0#32
  let c1_i32_2363 : BitVec 32 := 1#32
  let v2090 : BitVec 32 := Scalar.muli v3 c1_i32_2363
  let v2091 : BitVec 32 := Scalar.addi c0_i32_2364 v2090
  v2091.toNat
def k0_dev101 (v3 : BitVec 32) : Nat :=
  let c0_i32_2388 : BitVec 32 := 0#32
  let c1_i32_2387 : BitVec 32 := 1#32
  let v2108 : BitVec 32 := Scalar.muli v3 c1_i32_2387
  let v2109 : BitVec 32 := Scalar.addi c0_i32_2388 v2108
  v2109.toNat
def k0_dev102 (v3 : BitVec 32) : Nat :=
  let c0_i32_2412 : BitVec 32 := 0#32
  let c1_i32_2411 : BitVec 32 := 1#32
  let v2126 : BitVec 32 := Scalar.muli v3 c1_i32_2411
  let v2127 : BitVec 32 := Scalar.addi c0_i32_2412 v2126
  v2127.toNat
def k0_dev103 (v3 : BitVec 32) : Nat :=
  let c0_i32_2436 : BitVec 32 := 0#32
  let c1_i32_2435 : BitVec 32 := 1#32
  let v2144 : BitVec 32 := Scalar.muli v3 c1_i32_2435
  let v2145 : BitVec 32 := Scalar.addi c0_i32_2436 v2144
  v2145.toNat
def k0_dev104 (v3 : BitVec 32) : Nat :=
  let c0_i32_2460 : BitVec 32 := 0#32
  let c1_i32_2459 : BitVec 32 := 1#32
  let v2162 : BitVec 32 := Scalar.muli v3 c1_i32_2459
  let v2163 : BitVec 32 := Scalar.addi c0_i32_2460 v2162
  v2163.toNat
def k0_dev105 (v3 : BitVec 32) : Nat :=
  let c0_i32_2484 : BitVec 32 := 0#32
  let c1_i32_2483 : BitVec 32 := 1#32
  let v2180 : BitVec 32 := Scalar.muli v3 c1_i32_2483
  let v2181 : BitVec 32 := Scalar.addi c0_i32_2484 v2180
  v2181.toNat
def k0_dev106 (v3 : BitVec 32) : Nat :=
  let c0_i32_2508 : BitVec 32 := 0#32
  let c1_i32_2507 : BitVec 32 := 1#32
  let v2198 : BitVec 32 := Scalar.muli v3 c1_i32_2507
  let v2199 : BitVec 32 := Scalar.addi c0_i32_2508 v2198
  v2199.toNat
def k0_dev107 (v4 : BitVec 32) : Nat :=
  let c0_i32_2531 : BitVec 32 := 0#32
  let c1_i32_2530 : BitVec 32 := 1#32
  let v2216 : BitVec 32 := Scalar.muli v4 c1_i32_2530
  let v2217 : BitVec 32 := Scalar.addi c0_i32_2531 v2216
  v2217.toNat
def k0_dev108 (v4 : BitVec 32) : Nat :=
  let c0_i32_2555 : BitVec 32 := 0#32
  let c1_i32_2554 : BitVec 32 := 1#32
  let v2234 : BitVec 32 := Scalar.muli v4 c1_i32_2554
  let v2235 : BitVec 32 := Scalar.addi c0_i32_2555 v2234
  v2235.toNat
def k0_dev109 (v4 : BitVec 32) : Nat :=
  let c0_i32_2579 : BitVec 32 := 0#32
  let c1_i32_2578 : BitVec 32 := 1#32
  let v2252 : BitVec 32 := Scalar.muli v4 c1_i32_2578
  let v2253 : BitVec 32 := Scalar.addi c0_i32_2579 v2252
  v2253.toNat
def k0_dev110 (v4 : BitVec 32) : Nat :=
  let c0_i32_2603 : BitVec 32 := 0#32
  let c1_i32_2602 : BitVec 32 := 1#32
  let v2270 : BitVec 32 := Scalar.muli v4 c1_i32_2602
  let v2271 : BitVec 32 := Scalar.addi c0_i32_2603 v2270
  v2271.toNat
def k0_dev111 (v4 : BitVec 32) : Nat :=
  let c0_i32_2627 : BitVec 32 := 0#32
  let c1_i32_2626 : BitVec 32 := 1#32
  let v2288 : BitVec 32 := Scalar.muli v4 c1_i32_2626
  let v2289 : BitVec 32 := Scalar.addi c0_i32_2627 v2288
  v2289.toNat
def k0_dev112 (v4 : BitVec 32) : Nat :=
  let c0_i32_2651 : BitVec 32 := 0#32
  let c1_i32_2650 : BitVec 32 := 1#32
  let v2306 : BitVec 32 := Scalar.muli v4 c1_i32_2650
  let v2307 : BitVec 32 := Scalar.addi c0_i32_2651 v2306
  v2307.toNat
def k0_dev113 (v4 : BitVec 32) : Nat :=
  let c0_i32_2675 : BitVec 32 := 0#32
  let c1_i32_2674 : BitVec 32 := 1#32
  let v2324 : BitVec 32 := Scalar.muli v4 c1_i32_2674
  let v2325 : BitVec 32 := Scalar.addi c0_i32_2675 v2324
  v2325.toNat
def k0_dev114 (v4 : BitVec 32) : Nat :=
  let c0_i32_2699 : BitVec 32 := 0#32
  let c1_i32_2698 : BitVec 32 := 1#32
  let v2342 : BitVec 32 := Scalar.muli v4 c1_i32_2698
  let v2343 : BitVec 32 := Scalar.addi c0_i32_2699 v2342
  v2343.toNat

def k0_chk1_0 (v4 : BitVec 32) : Prop :=
  ((k0_dev1 v4) < nD) ∧
  ((k0_dev4 v4) < nD) ∧
  ((k0_dev6 v4) < nD) ∧
  ((k0_dev8 v4) < nD) ∧
  ((k0_dev10 v4) < nD) ∧
  ((k0_dev12 v4) < nD) ∧
  ((k0_dev14 v4) < nD) ∧
  ((k0_dev16 v4) < nD) ∧
  ((k0_dev18 v4) < nD) ∧
  ((k0_dev27 v4) < nD) ∧
  ((k0_dev28 v4) < nD) ∧
  ((k0_dev29 v4) < nD) ∧
  ((k0_dev30 v4) < nD) ∧
  ((k0_dev31 v4) < nD) ∧
  ((k0_dev32 v4) < nD) ∧
  ((k0_dev33 v4) < nD) ∧
  ((k0_dev34 v4) < nD) ∧
  ((k0_dev43 v4) < nD) ∧
  ((k0_dev44 v4) < nD) ∧
  ((k0_dev45 v4) < nD) ∧
  ((k0_dev46 v4) < nD) ∧
  ((k0_dev47 v4) < nD) ∧
  ((k0_dev48 v4) < nD) ∧
  ((k0_dev49 v4) < nD) ∧
  ((k0_dev50 v4) < nD) ∧
  ((k0_dev59 v4) < nD) ∧
  ((k0_dev60 v4) < nD) ∧
  ((k0_dev61 v4) < nD) ∧
  ((k0_dev62 v4) < nD) ∧
  ((k0_dev63 v4) < nD) ∧
  ((k0_dev64 v4) < nD) ∧
  ((k0_dev65 v4) < nD)
def k0_chk1_1 (v4 : BitVec 32) : Prop :=
  ((k0_dev66 v4) < nD) ∧
  ((k0_dev75 v4) < nD) ∧
  ((k0_dev76 v4) < nD) ∧
  ((k0_dev77 v4) < nD) ∧
  ((k0_dev78 v4) < nD) ∧
  ((k0_dev79 v4) < nD) ∧
  ((k0_dev80 v4) < nD) ∧
  ((k0_dev81 v4) < nD) ∧
  ((k0_dev82 v4) < nD) ∧
  ((k0_dev91 v4) < nD) ∧
  ((k0_dev92 v4) < nD) ∧
  ((k0_dev93 v4) < nD) ∧
  ((k0_dev94 v4) < nD) ∧
  ((k0_dev95 v4) < nD) ∧
  ((k0_dev96 v4) < nD) ∧
  ((k0_dev97 v4) < nD) ∧
  ((k0_dev98 v4) < nD) ∧
  ((k0_dev107 v4) < nD) ∧
  ((k0_dev108 v4) < nD) ∧
  ((k0_dev109 v4) < nD) ∧
  ((k0_dev110 v4) < nD) ∧
  ((k0_dev111 v4) < nD) ∧
  ((k0_dev112 v4) < nD) ∧
  ((k0_dev113 v4) < nD) ∧
  ((k0_dev114 v4) < nD)
def k0_chk1 (v4 : BitVec 32) : Prop :=
  k0_chk1_0 v4 ∧
  k0_chk1_1 v4
theorem k0_dev1_lt : ∀ (v4 : BitVec 32) (k0_hw1 : k0_chk1 v4), (k0_dev1 v4) < nD := fun v4 k0_hw1 => k0_hw1.1.1
theorem k0_dev4_lt : ∀ (v4 : BitVec 32) (k0_hw1 : k0_chk1 v4), (k0_dev4 v4) < nD := fun v4 k0_hw1 => k0_hw1.1.2.1
theorem k0_dev6_lt : ∀ (v4 : BitVec 32) (k0_hw1 : k0_chk1 v4), (k0_dev6 v4) < nD := fun v4 k0_hw1 => k0_hw1.1.2.2.1
theorem k0_dev8_lt : ∀ (v4 : BitVec 32) (k0_hw1 : k0_chk1 v4), (k0_dev8 v4) < nD := fun v4 k0_hw1 => k0_hw1.1.2.2.2.1
theorem k0_dev10_lt : ∀ (v4 : BitVec 32) (k0_hw1 : k0_chk1 v4), (k0_dev10 v4) < nD := fun v4 k0_hw1 => k0_hw1.1.2.2.2.2.1
theorem k0_dev12_lt : ∀ (v4 : BitVec 32) (k0_hw1 : k0_chk1 v4), (k0_dev12 v4) < nD := fun v4 k0_hw1 => k0_hw1.1.2.2.2.2.2.1
theorem k0_dev14_lt : ∀ (v4 : BitVec 32) (k0_hw1 : k0_chk1 v4), (k0_dev14 v4) < nD := fun v4 k0_hw1 => k0_hw1.1.2.2.2.2.2.2.1
theorem k0_dev16_lt : ∀ (v4 : BitVec 32) (k0_hw1 : k0_chk1 v4), (k0_dev16 v4) < nD := fun v4 k0_hw1 => k0_hw1.1.2.2.2.2.2.2.2.1
theorem k0_dev18_lt : ∀ (v4 : BitVec 32) (k0_hw1 : k0_chk1 v4), (k0_dev18 v4) < nD := fun v4 k0_hw1 => k0_hw1.1.2.2.2.2.2.2.2.2.1
theorem k0_dev27_lt : ∀ (v4 : BitVec 32) (k0_hw1 : k0_chk1 v4), (k0_dev27 v4) < nD := fun v4 k0_hw1 => k0_hw1.1.2.2.2.2.2.2.2.2.2.1
theorem k0_dev28_lt : ∀ (v4 : BitVec 32) (k0_hw1 : k0_chk1 v4), (k0_dev28 v4) < nD := fun v4 k0_hw1 => k0_hw1.1.2.2.2.2.2.2.2.2.2.2.1
theorem k0_dev29_lt : ∀ (v4 : BitVec 32) (k0_hw1 : k0_chk1 v4), (k0_dev29 v4) < nD := fun v4 k0_hw1 => k0_hw1.1.2.2.2.2.2.2.2.2.2.2.2.1
theorem k0_dev30_lt : ∀ (v4 : BitVec 32) (k0_hw1 : k0_chk1 v4), (k0_dev30 v4) < nD := fun v4 k0_hw1 => k0_hw1.1.2.2.2.2.2.2.2.2.2.2.2.2.1
theorem k0_dev31_lt : ∀ (v4 : BitVec 32) (k0_hw1 : k0_chk1 v4), (k0_dev31 v4) < nD := fun v4 k0_hw1 => k0_hw1.1.2.2.2.2.2.2.2.2.2.2.2.2.2.1
theorem k0_dev32_lt : ∀ (v4 : BitVec 32) (k0_hw1 : k0_chk1 v4), (k0_dev32 v4) < nD := fun v4 k0_hw1 => k0_hw1.1.2.2.2.2.2.2.2.2.2.2.2.2.2.2.1
theorem k0_dev33_lt : ∀ (v4 : BitVec 32) (k0_hw1 : k0_chk1 v4), (k0_dev33 v4) < nD := fun v4 k0_hw1 => k0_hw1.1.2.2.2.2.2.2.2.2.2.2.2.2.2.2.2.1
theorem k0_dev34_lt : ∀ (v4 : BitVec 32) (k0_hw1 : k0_chk1 v4), (k0_dev34 v4) < nD := fun v4 k0_hw1 => k0_hw1.1.2.2.2.2.2.2.2.2.2.2.2.2.2.2.2.2.1
theorem k0_dev43_lt : ∀ (v4 : BitVec 32) (k0_hw1 : k0_chk1 v4), (k0_dev43 v4) < nD := fun v4 k0_hw1 => k0_hw1.1.2.2.2.2.2.2.2.2.2.2.2.2.2.2.2.2.2.1
theorem k0_dev44_lt : ∀ (v4 : BitVec 32) (k0_hw1 : k0_chk1 v4), (k0_dev44 v4) < nD := fun v4 k0_hw1 => k0_hw1.1.2.2.2.2.2.2.2.2.2.2.2.2.2.2.2.2.2.2.1
theorem k0_dev45_lt : ∀ (v4 : BitVec 32) (k0_hw1 : k0_chk1 v4), (k0_dev45 v4) < nD := fun v4 k0_hw1 => k0_hw1.1.2.2.2.2.2.2.2.2.2.2.2.2.2.2.2.2.2.2.2.1
theorem k0_dev46_lt : ∀ (v4 : BitVec 32) (k0_hw1 : k0_chk1 v4), (k0_dev46 v4) < nD := fun v4 k0_hw1 => k0_hw1.1.2.2.2.2.2.2.2.2.2.2.2.2.2.2.2.2.2.2.2.2.1
theorem k0_dev47_lt : ∀ (v4 : BitVec 32) (k0_hw1 : k0_chk1 v4), (k0_dev47 v4) < nD := fun v4 k0_hw1 => k0_hw1.1.2.2.2.2.2.2.2.2.2.2.2.2.2.2.2.2.2.2.2.2.2.1
theorem k0_dev48_lt : ∀ (v4 : BitVec 32) (k0_hw1 : k0_chk1 v4), (k0_dev48 v4) < nD := fun v4 k0_hw1 => k0_hw1.1.2.2.2.2.2.2.2.2.2.2.2.2.2.2.2.2.2.2.2.2.2.2.1
theorem k0_dev49_lt : ∀ (v4 : BitVec 32) (k0_hw1 : k0_chk1 v4), (k0_dev49 v4) < nD := fun v4 k0_hw1 => k0_hw1.1.2.2.2.2.2.2.2.2.2.2.2.2.2.2.2.2.2.2.2.2.2.2.2.1
theorem k0_dev50_lt : ∀ (v4 : BitVec 32) (k0_hw1 : k0_chk1 v4), (k0_dev50 v4) < nD := fun v4 k0_hw1 => k0_hw1.1.2.2.2.2.2.2.2.2.2.2.2.2.2.2.2.2.2.2.2.2.2.2.2.2.1
theorem k0_dev59_lt : ∀ (v4 : BitVec 32) (k0_hw1 : k0_chk1 v4), (k0_dev59 v4) < nD := fun v4 k0_hw1 => k0_hw1.1.2.2.2.2.2.2.2.2.2.2.2.2.2.2.2.2.2.2.2.2.2.2.2.2.2.1
theorem k0_dev60_lt : ∀ (v4 : BitVec 32) (k0_hw1 : k0_chk1 v4), (k0_dev60 v4) < nD := fun v4 k0_hw1 => k0_hw1.1.2.2.2.2.2.2.2.2.2.2.2.2.2.2.2.2.2.2.2.2.2.2.2.2.2.2.1
theorem k0_dev61_lt : ∀ (v4 : BitVec 32) (k0_hw1 : k0_chk1 v4), (k0_dev61 v4) < nD := fun v4 k0_hw1 => k0_hw1.1.2.2.2.2.2.2.2.2.2.2.2.2.2.2.2.2.2.2.2.2.2.2.2.2.2.2.2.1
theorem k0_dev62_lt : ∀ (v4 : BitVec 32) (k0_hw1 : k0_chk1 v4), (k0_dev62 v4) < nD := fun v4 k0_hw1 => k0_hw1.1.2.2.2.2.2.2.2.2.2.2.2.2.2.2.2.2.2.2.2.2.2.2.2.2.2.2.2.2.1
theorem k0_dev63_lt : ∀ (v4 : BitVec 32) (k0_hw1 : k0_chk1 v4), (k0_dev63 v4) < nD := fun v4 k0_hw1 => k0_hw1.1.2.2.2.2.2.2.2.2.2.2.2.2.2.2.2.2.2.2.2.2.2.2.2.2.2.2.2.2.2.1
theorem k0_dev64_lt : ∀ (v4 : BitVec 32) (k0_hw1 : k0_chk1 v4), (k0_dev64 v4) < nD := fun v4 k0_hw1 => k0_hw1.1.2.2.2.2.2.2.2.2.2.2.2.2.2.2.2.2.2.2.2.2.2.2.2.2.2.2.2.2.2.2.1
theorem k0_dev65_lt : ∀ (v4 : BitVec 32) (k0_hw1 : k0_chk1 v4), (k0_dev65 v4) < nD := fun v4 k0_hw1 => k0_hw1.1.2.2.2.2.2.2.2.2.2.2.2.2.2.2.2.2.2.2.2.2.2.2.2.2.2.2.2.2.2.2.2
theorem k0_dev66_lt : ∀ (v4 : BitVec 32) (k0_hw1 : k0_chk1 v4), (k0_dev66 v4) < nD := fun v4 k0_hw1 => k0_hw1.2.1
theorem k0_dev75_lt : ∀ (v4 : BitVec 32) (k0_hw1 : k0_chk1 v4), (k0_dev75 v4) < nD := fun v4 k0_hw1 => k0_hw1.2.2.1
theorem k0_dev76_lt : ∀ (v4 : BitVec 32) (k0_hw1 : k0_chk1 v4), (k0_dev76 v4) < nD := fun v4 k0_hw1 => k0_hw1.2.2.2.1
theorem k0_dev77_lt : ∀ (v4 : BitVec 32) (k0_hw1 : k0_chk1 v4), (k0_dev77 v4) < nD := fun v4 k0_hw1 => k0_hw1.2.2.2.2.1
theorem k0_dev78_lt : ∀ (v4 : BitVec 32) (k0_hw1 : k0_chk1 v4), (k0_dev78 v4) < nD := fun v4 k0_hw1 => k0_hw1.2.2.2.2.2.1
theorem k0_dev79_lt : ∀ (v4 : BitVec 32) (k0_hw1 : k0_chk1 v4), (k0_dev79 v4) < nD := fun v4 k0_hw1 => k0_hw1.2.2.2.2.2.2.1
theorem k0_dev80_lt : ∀ (v4 : BitVec 32) (k0_hw1 : k0_chk1 v4), (k0_dev80 v4) < nD := fun v4 k0_hw1 => k0_hw1.2.2.2.2.2.2.2.1
theorem k0_dev81_lt : ∀ (v4 : BitVec 32) (k0_hw1 : k0_chk1 v4), (k0_dev81 v4) < nD := fun v4 k0_hw1 => k0_hw1.2.2.2.2.2.2.2.2.1
theorem k0_dev82_lt : ∀ (v4 : BitVec 32) (k0_hw1 : k0_chk1 v4), (k0_dev82 v4) < nD := fun v4 k0_hw1 => k0_hw1.2.2.2.2.2.2.2.2.2.1
theorem k0_dev91_lt : ∀ (v4 : BitVec 32) (k0_hw1 : k0_chk1 v4), (k0_dev91 v4) < nD := fun v4 k0_hw1 => k0_hw1.2.2.2.2.2.2.2.2.2.2.1
theorem k0_dev92_lt : ∀ (v4 : BitVec 32) (k0_hw1 : k0_chk1 v4), (k0_dev92 v4) < nD := fun v4 k0_hw1 => k0_hw1.2.2.2.2.2.2.2.2.2.2.2.1
theorem k0_dev93_lt : ∀ (v4 : BitVec 32) (k0_hw1 : k0_chk1 v4), (k0_dev93 v4) < nD := fun v4 k0_hw1 => k0_hw1.2.2.2.2.2.2.2.2.2.2.2.2.1
theorem k0_dev94_lt : ∀ (v4 : BitVec 32) (k0_hw1 : k0_chk1 v4), (k0_dev94 v4) < nD := fun v4 k0_hw1 => k0_hw1.2.2.2.2.2.2.2.2.2.2.2.2.2.1
theorem k0_dev95_lt : ∀ (v4 : BitVec 32) (k0_hw1 : k0_chk1 v4), (k0_dev95 v4) < nD := fun v4 k0_hw1 => k0_hw1.2.2.2.2.2.2.2.2.2.2.2.2.2.2.1
theorem k0_dev96_lt : ∀ (v4 : BitVec 32) (k0_hw1 : k0_chk1 v4), (k0_dev96 v4) < nD := fun v4 k0_hw1 => k0_hw1.2.2.2.2.2.2.2.2.2.2.2.2.2.2.2.1
theorem k0_dev97_lt : ∀ (v4 : BitVec 32) (k0_hw1 : k0_chk1 v4), (k0_dev97 v4) < nD := fun v4 k0_hw1 => k0_hw1.2.2.2.2.2.2.2.2.2.2.2.2.2.2.2.2.1
theorem k0_dev98_lt : ∀ (v4 : BitVec 32) (k0_hw1 : k0_chk1 v4), (k0_dev98 v4) < nD := fun v4 k0_hw1 => k0_hw1.2.2.2.2.2.2.2.2.2.2.2.2.2.2.2.2.2.1
theorem k0_dev107_lt : ∀ (v4 : BitVec 32) (k0_hw1 : k0_chk1 v4), (k0_dev107 v4) < nD := fun v4 k0_hw1 => k0_hw1.2.2.2.2.2.2.2.2.2.2.2.2.2.2.2.2.2.2.1
theorem k0_dev108_lt : ∀ (v4 : BitVec 32) (k0_hw1 : k0_chk1 v4), (k0_dev108 v4) < nD := fun v4 k0_hw1 => k0_hw1.2.2.2.2.2.2.2.2.2.2.2.2.2.2.2.2.2.2.2.1
theorem k0_dev109_lt : ∀ (v4 : BitVec 32) (k0_hw1 : k0_chk1 v4), (k0_dev109 v4) < nD := fun v4 k0_hw1 => k0_hw1.2.2.2.2.2.2.2.2.2.2.2.2.2.2.2.2.2.2.2.2.1
theorem k0_dev110_lt : ∀ (v4 : BitVec 32) (k0_hw1 : k0_chk1 v4), (k0_dev110 v4) < nD := fun v4 k0_hw1 => k0_hw1.2.2.2.2.2.2.2.2.2.2.2.2.2.2.2.2.2.2.2.2.2.1
theorem k0_dev111_lt : ∀ (v4 : BitVec 32) (k0_hw1 : k0_chk1 v4), (k0_dev111 v4) < nD := fun v4 k0_hw1 => k0_hw1.2.2.2.2.2.2.2.2.2.2.2.2.2.2.2.2.2.2.2.2.2.2.1
theorem k0_dev112_lt : ∀ (v4 : BitVec 32) (k0_hw1 : k0_chk1 v4), (k0_dev112 v4) < nD := fun v4 k0_hw1 => k0_hw1.2.2.2.2.2.2.2.2.2.2.2.2.2.2.2.2.2.2.2.2.2.2.2.1
theorem k0_dev113_lt : ∀ (v4 : BitVec 32) (k0_hw1 : k0_chk1 v4), (k0_dev113 v4) < nD := fun v4 k0_hw1 => k0_hw1.2.2.2.2.2.2.2.2.2.2.2.2.2.2.2.2.2.2.2.2.2.2.2.2.1
theorem k0_dev114_lt : ∀ (v4 : BitVec 32) (k0_hw1 : k0_chk1 v4), (k0_dev114 v4) < nD := fun v4 k0_hw1 => k0_hw1.2.2.2.2.2.2.2.2.2.2.2.2.2.2.2.2.2.2.2.2.2.2.2.2.2

def k0_dev115 (v3 : BitVec 32) : Nat :=
  let c0_i32_2736 : BitVec 32 := 0#32
  let c1_i32_2735 : BitVec 32 := 1#32
  let v2394 : BitVec 32 := Scalar.muli v3 c1_i32_2735
  let v2395 : BitVec 32 := Scalar.addi c0_i32_2736 v2394
  v2395.toNat
def k0_dev116 (v3 : BitVec 32) : Nat :=
  let c0_i32_2760 : BitVec 32 := 0#32
  let c1_i32_2759 : BitVec 32 := 1#32
  let v2412 : BitVec 32 := Scalar.muli v3 c1_i32_2759
  let v2413 : BitVec 32 := Scalar.addi c0_i32_2760 v2412
  v2413.toNat
def k0_dev117 (v3 : BitVec 32) : Nat :=
  let c0_i32_2784 : BitVec 32 := 0#32
  let c1_i32_2783 : BitVec 32 := 1#32
  let v2430 : BitVec 32 := Scalar.muli v3 c1_i32_2783
  let v2431 : BitVec 32 := Scalar.addi c0_i32_2784 v2430
  v2431.toNat
def k0_dev118 (v3 : BitVec 32) : Nat :=
  let c0_i32_2808 : BitVec 32 := 0#32
  let c1_i32_2807 : BitVec 32 := 1#32
  let v2448 : BitVec 32 := Scalar.muli v3 c1_i32_2807
  let v2449 : BitVec 32 := Scalar.addi c0_i32_2808 v2448
  v2449.toNat
def k0_dev119 (v3 : BitVec 32) : Nat :=
  let c0_i32_2832 : BitVec 32 := 0#32
  let c1_i32_2831 : BitVec 32 := 1#32
  let v2466 : BitVec 32 := Scalar.muli v3 c1_i32_2831
  let v2467 : BitVec 32 := Scalar.addi c0_i32_2832 v2466
  v2467.toNat
def k0_dev120 (v3 : BitVec 32) : Nat :=
  let c0_i32_2856 : BitVec 32 := 0#32
  let c1_i32_2855 : BitVec 32 := 1#32
  let v2484 : BitVec 32 := Scalar.muli v3 c1_i32_2855
  let v2485 : BitVec 32 := Scalar.addi c0_i32_2856 v2484
  v2485.toNat
def k0_dev121 (v3 : BitVec 32) : Nat :=
  let c0_i32_2880 : BitVec 32 := 0#32
  let c1_i32_2879 : BitVec 32 := 1#32
  let v2502 : BitVec 32 := Scalar.muli v3 c1_i32_2879
  let v2503 : BitVec 32 := Scalar.addi c0_i32_2880 v2502
  v2503.toNat
def k0_dev122 (v3 : BitVec 32) : Nat :=
  let c0_i32_2904 : BitVec 32 := 0#32
  let c1_i32_2903 : BitVec 32 := 1#32
  let v2520 : BitVec 32 := Scalar.muli v3 c1_i32_2903
  let v2521 : BitVec 32 := Scalar.addi c0_i32_2904 v2520
  v2521.toNat

def k0_chk2_0 (v3 : BitVec 32) : Prop :=
  ((k0_dev2 v3) < nD) ∧
  ((k0_dev3 v3) < nD) ∧
  ((k0_dev5 v3) < nD) ∧
  ((k0_dev7 v3) < nD) ∧
  ((k0_dev9 v3) < nD) ∧
  ((k0_dev11 v3) < nD) ∧
  ((k0_dev13 v3) < nD) ∧
  ((k0_dev15 v3) < nD) ∧
  ((k0_dev17 v3) < nD) ∧
  ((k0_dev19 v3) < nD) ∧
  ((k0_dev20 v3) < nD) ∧
  ((k0_dev21 v3) < nD) ∧
  ((k0_dev22 v3) < nD) ∧
  ((k0_dev23 v3) < nD) ∧
  ((k0_dev24 v3) < nD) ∧
  ((k0_dev25 v3) < nD) ∧
  ((k0_dev26 v3) < nD) ∧
  ((k0_dev35 v3) < nD) ∧
  ((k0_dev36 v3) < nD) ∧
  ((k0_dev37 v3) < nD) ∧
  ((k0_dev38 v3) < nD) ∧
  ((k0_dev39 v3) < nD) ∧
  ((k0_dev40 v3) < nD) ∧
  ((k0_dev41 v3) < nD) ∧
  ((k0_dev42 v3) < nD) ∧
  ((k0_dev51 v3) < nD) ∧
  ((k0_dev52 v3) < nD) ∧
  ((k0_dev53 v3) < nD) ∧
  ((k0_dev54 v3) < nD) ∧
  ((k0_dev55 v3) < nD) ∧
  ((k0_dev56 v3) < nD) ∧
  ((k0_dev57 v3) < nD)
def k0_chk2_1 (v3 : BitVec 32) : Prop :=
  ((k0_dev58 v3) < nD) ∧
  ((k0_dev67 v3) < nD) ∧
  ((k0_dev68 v3) < nD) ∧
  ((k0_dev69 v3) < nD) ∧
  ((k0_dev70 v3) < nD) ∧
  ((k0_dev71 v3) < nD) ∧
  ((k0_dev72 v3) < nD) ∧
  ((k0_dev73 v3) < nD) ∧
  ((k0_dev74 v3) < nD) ∧
  ((k0_dev83 v3) < nD) ∧
  ((k0_dev84 v3) < nD) ∧
  ((k0_dev85 v3) < nD) ∧
  ((k0_dev86 v3) < nD) ∧
  ((k0_dev87 v3) < nD) ∧
  ((k0_dev88 v3) < nD) ∧
  ((k0_dev89 v3) < nD) ∧
  ((k0_dev90 v3) < nD) ∧
  ((k0_dev99 v3) < nD) ∧
  ((k0_dev100 v3) < nD) ∧
  ((k0_dev101 v3) < nD) ∧
  ((k0_dev102 v3) < nD) ∧
  ((k0_dev103 v3) < nD) ∧
  ((k0_dev104 v3) < nD) ∧
  ((k0_dev105 v3) < nD) ∧
  ((k0_dev106 v3) < nD) ∧
  ((k0_dev115 v3) < nD) ∧
  ((k0_dev116 v3) < nD) ∧
  ((k0_dev117 v3) < nD) ∧
  ((k0_dev118 v3) < nD) ∧
  ((k0_dev119 v3) < nD) ∧
  ((k0_dev120 v3) < nD) ∧
  ((k0_dev121 v3) < nD)
def k0_chk2_2 (v3 : BitVec 32) : Prop :=
  ((k0_dev122 v3) < nD)
def k0_chk2 (v3 : BitVec 32) : Prop :=
  k0_chk2_0 v3 ∧
  k0_chk2_1 v3 ∧
  k0_chk2_2 v3
theorem k0_dev2_lt : ∀ (v3 : BitVec 32) (k0_hw2 : k0_chk2 v3), (k0_dev2 v3) < nD := fun v3 k0_hw2 => k0_hw2.1.1
theorem k0_dev3_lt : ∀ (v3 : BitVec 32) (k0_hw2 : k0_chk2 v3), (k0_dev3 v3) < nD := fun v3 k0_hw2 => k0_hw2.1.2.1
theorem k0_dev5_lt : ∀ (v3 : BitVec 32) (k0_hw2 : k0_chk2 v3), (k0_dev5 v3) < nD := fun v3 k0_hw2 => k0_hw2.1.2.2.1
theorem k0_dev7_lt : ∀ (v3 : BitVec 32) (k0_hw2 : k0_chk2 v3), (k0_dev7 v3) < nD := fun v3 k0_hw2 => k0_hw2.1.2.2.2.1
theorem k0_dev9_lt : ∀ (v3 : BitVec 32) (k0_hw2 : k0_chk2 v3), (k0_dev9 v3) < nD := fun v3 k0_hw2 => k0_hw2.1.2.2.2.2.1
theorem k0_dev11_lt : ∀ (v3 : BitVec 32) (k0_hw2 : k0_chk2 v3), (k0_dev11 v3) < nD := fun v3 k0_hw2 => k0_hw2.1.2.2.2.2.2.1
theorem k0_dev13_lt : ∀ (v3 : BitVec 32) (k0_hw2 : k0_chk2 v3), (k0_dev13 v3) < nD := fun v3 k0_hw2 => k0_hw2.1.2.2.2.2.2.2.1
theorem k0_dev15_lt : ∀ (v3 : BitVec 32) (k0_hw2 : k0_chk2 v3), (k0_dev15 v3) < nD := fun v3 k0_hw2 => k0_hw2.1.2.2.2.2.2.2.2.1
theorem k0_dev17_lt : ∀ (v3 : BitVec 32) (k0_hw2 : k0_chk2 v3), (k0_dev17 v3) < nD := fun v3 k0_hw2 => k0_hw2.1.2.2.2.2.2.2.2.2.1
theorem k0_dev19_lt : ∀ (v3 : BitVec 32) (k0_hw2 : k0_chk2 v3), (k0_dev19 v3) < nD := fun v3 k0_hw2 => k0_hw2.1.2.2.2.2.2.2.2.2.2.1
theorem k0_dev20_lt : ∀ (v3 : BitVec 32) (k0_hw2 : k0_chk2 v3), (k0_dev20 v3) < nD := fun v3 k0_hw2 => k0_hw2.1.2.2.2.2.2.2.2.2.2.2.1
theorem k0_dev21_lt : ∀ (v3 : BitVec 32) (k0_hw2 : k0_chk2 v3), (k0_dev21 v3) < nD := fun v3 k0_hw2 => k0_hw2.1.2.2.2.2.2.2.2.2.2.2.2.1
theorem k0_dev22_lt : ∀ (v3 : BitVec 32) (k0_hw2 : k0_chk2 v3), (k0_dev22 v3) < nD := fun v3 k0_hw2 => k0_hw2.1.2.2.2.2.2.2.2.2.2.2.2.2.1
theorem k0_dev23_lt : ∀ (v3 : BitVec 32) (k0_hw2 : k0_chk2 v3), (k0_dev23 v3) < nD := fun v3 k0_hw2 => k0_hw2.1.2.2.2.2.2.2.2.2.2.2.2.2.2.1
theorem k0_dev24_lt : ∀ (v3 : BitVec 32) (k0_hw2 : k0_chk2 v3), (k0_dev24 v3) < nD := fun v3 k0_hw2 => k0_hw2.1.2.2.2.2.2.2.2.2.2.2.2.2.2.2.1
theorem k0_dev25_lt : ∀ (v3 : BitVec 32) (k0_hw2 : k0_chk2 v3), (k0_dev25 v3) < nD := fun v3 k0_hw2 => k0_hw2.1.2.2.2.2.2.2.2.2.2.2.2.2.2.2.2.1
theorem k0_dev26_lt : ∀ (v3 : BitVec 32) (k0_hw2 : k0_chk2 v3), (k0_dev26 v3) < nD := fun v3 k0_hw2 => k0_hw2.1.2.2.2.2.2.2.2.2.2.2.2.2.2.2.2.2.1
theorem k0_dev35_lt : ∀ (v3 : BitVec 32) (k0_hw2 : k0_chk2 v3), (k0_dev35 v3) < nD := fun v3 k0_hw2 => k0_hw2.1.2.2.2.2.2.2.2.2.2.2.2.2.2.2.2.2.2.1
theorem k0_dev36_lt : ∀ (v3 : BitVec 32) (k0_hw2 : k0_chk2 v3), (k0_dev36 v3) < nD := fun v3 k0_hw2 => k0_hw2.1.2.2.2.2.2.2.2.2.2.2.2.2.2.2.2.2.2.2.1
theorem k0_dev37_lt : ∀ (v3 : BitVec 32) (k0_hw2 : k0_chk2 v3), (k0_dev37 v3) < nD := fun v3 k0_hw2 => k0_hw2.1.2.2.2.2.2.2.2.2.2.2.2.2.2.2.2.2.2.2.2.1
theorem k0_dev38_lt : ∀ (v3 : BitVec 32) (k0_hw2 : k0_chk2 v3), (k0_dev38 v3) < nD := fun v3 k0_hw2 => k0_hw2.1.2.2.2.2.2.2.2.2.2.2.2.2.2.2.2.2.2.2.2.2.1
theorem k0_dev39_lt : ∀ (v3 : BitVec 32) (k0_hw2 : k0_chk2 v3), (k0_dev39 v3) < nD := fun v3 k0_hw2 => k0_hw2.1.2.2.2.2.2.2.2.2.2.2.2.2.2.2.2.2.2.2.2.2.2.1
theorem k0_dev40_lt : ∀ (v3 : BitVec 32) (k0_hw2 : k0_chk2 v3), (k0_dev40 v3) < nD := fun v3 k0_hw2 => k0_hw2.1.2.2.2.2.2.2.2.2.2.2.2.2.2.2.2.2.2.2.2.2.2.2.1
theorem k0_dev41_lt : ∀ (v3 : BitVec 32) (k0_hw2 : k0_chk2 v3), (k0_dev41 v3) < nD := fun v3 k0_hw2 => k0_hw2.1.2.2.2.2.2.2.2.2.2.2.2.2.2.2.2.2.2.2.2.2.2.2.2.1
theorem k0_dev42_lt : ∀ (v3 : BitVec 32) (k0_hw2 : k0_chk2 v3), (k0_dev42 v3) < nD := fun v3 k0_hw2 => k0_hw2.1.2.2.2.2.2.2.2.2.2.2.2.2.2.2.2.2.2.2.2.2.2.2.2.2.1
theorem k0_dev51_lt : ∀ (v3 : BitVec 32) (k0_hw2 : k0_chk2 v3), (k0_dev51 v3) < nD := fun v3 k0_hw2 => k0_hw2.1.2.2.2.2.2.2.2.2.2.2.2.2.2.2.2.2.2.2.2.2.2.2.2.2.2.1
theorem k0_dev52_lt : ∀ (v3 : BitVec 32) (k0_hw2 : k0_chk2 v3), (k0_dev52 v3) < nD := fun v3 k0_hw2 => k0_hw2.1.2.2.2.2.2.2.2.2.2.2.2.2.2.2.2.2.2.2.2.2.2.2.2.2.2.2.1
theorem k0_dev53_lt : ∀ (v3 : BitVec 32) (k0_hw2 : k0_chk2 v3), (k0_dev53 v3) < nD := fun v3 k0_hw2 => k0_hw2.1.2.2.2.2.2.2.2.2.2.2.2.2.2.2.2.2.2.2.2.2.2.2.2.2.2.2.2.1
theorem k0_dev54_lt : ∀ (v3 : BitVec 32) (k0_hw2 : k0_chk2 v3), (k0_dev54 v3) < nD := fun v3 k0_hw2 => k0_hw2.1.2.2.2.2.2.2.2.2.2.2.2.2.2.2.2.2.2.2.2.2.2.2.2.2.2.2.2.2.1
theorem k0_dev55_lt : ∀ (v3 : BitVec 32) (k0_hw2 : k0_chk2 v3), (k0_dev55 v3) < nD := fun v3 k0_hw2 => k0_hw2.1.2.2.2.2.2.2.2.2.2.2.2.2.2.2.2.2.2.2.2.2.2.2.2.2.2.2.2.2.2.1
theorem k0_dev56_lt : ∀ (v3 : BitVec 32) (k0_hw2 : k0_chk2 v3), (k0_dev56 v3) < nD := fun v3 k0_hw2 => k0_hw2.1.2.2.2.2.2.2.2.2.2.2.2.2.2.2.2.2.2.2.2.2.2.2.2.2.2.2.2.2.2.2.1
theorem k0_dev57_lt : ∀ (v3 : BitVec 32) (k0_hw2 : k0_chk2 v3), (k0_dev57 v3) < nD := fun v3 k0_hw2 => k0_hw2.1.2.2.2.2.2.2.2.2.2.2.2.2.2.2.2.2.2.2.2.2.2.2.2.2.2.2.2.2.2.2.2
theorem k0_dev58_lt : ∀ (v3 : BitVec 32) (k0_hw2 : k0_chk2 v3), (k0_dev58 v3) < nD := fun v3 k0_hw2 => k0_hw2.2.1.1
theorem k0_dev67_lt : ∀ (v3 : BitVec 32) (k0_hw2 : k0_chk2 v3), (k0_dev67 v3) < nD := fun v3 k0_hw2 => k0_hw2.2.1.2.1
theorem k0_dev68_lt : ∀ (v3 : BitVec 32) (k0_hw2 : k0_chk2 v3), (k0_dev68 v3) < nD := fun v3 k0_hw2 => k0_hw2.2.1.2.2.1
theorem k0_dev69_lt : ∀ (v3 : BitVec 32) (k0_hw2 : k0_chk2 v3), (k0_dev69 v3) < nD := fun v3 k0_hw2 => k0_hw2.2.1.2.2.2.1
theorem k0_dev70_lt : ∀ (v3 : BitVec 32) (k0_hw2 : k0_chk2 v3), (k0_dev70 v3) < nD := fun v3 k0_hw2 => k0_hw2.2.1.2.2.2.2.1
theorem k0_dev71_lt : ∀ (v3 : BitVec 32) (k0_hw2 : k0_chk2 v3), (k0_dev71 v3) < nD := fun v3 k0_hw2 => k0_hw2.2.1.2.2.2.2.2.1
theorem k0_dev72_lt : ∀ (v3 : BitVec 32) (k0_hw2 : k0_chk2 v3), (k0_dev72 v3) < nD := fun v3 k0_hw2 => k0_hw2.2.1.2.2.2.2.2.2.1
theorem k0_dev73_lt : ∀ (v3 : BitVec 32) (k0_hw2 : k0_chk2 v3), (k0_dev73 v3) < nD := fun v3 k0_hw2 => k0_hw2.2.1.2.2.2.2.2.2.2.1
theorem k0_dev74_lt : ∀ (v3 : BitVec 32) (k0_hw2 : k0_chk2 v3), (k0_dev74 v3) < nD := fun v3 k0_hw2 => k0_hw2.2.1.2.2.2.2.2.2.2.2.1
theorem k0_dev83_lt : ∀ (v3 : BitVec 32) (k0_hw2 : k0_chk2 v3), (k0_dev83 v3) < nD := fun v3 k0_hw2 => k0_hw2.2.1.2.2.2.2.2.2.2.2.2.1
theorem k0_dev84_lt : ∀ (v3 : BitVec 32) (k0_hw2 : k0_chk2 v3), (k0_dev84 v3) < nD := fun v3 k0_hw2 => k0_hw2.2.1.2.2.2.2.2.2.2.2.2.2.1
theorem k0_dev85_lt : ∀ (v3 : BitVec 32) (k0_hw2 : k0_chk2 v3), (k0_dev85 v3) < nD := fun v3 k0_hw2 => k0_hw2.2.1.2.2.2.2.2.2.2.2.2.2.2.1
theorem k0_dev86_lt : ∀ (v3 : BitVec 32) (k0_hw2 : k0_chk2 v3), (k0_dev86 v3) < nD := fun v3 k0_hw2 => k0_hw2.2.1.2.2.2.2.2.2.2.2.2.2.2.2.1
theorem k0_dev87_lt : ∀ (v3 : BitVec 32) (k0_hw2 : k0_chk2 v3), (k0_dev87 v3) < nD := fun v3 k0_hw2 => k0_hw2.2.1.2.2.2.2.2.2.2.2.2.2.2.2.2.1
theorem k0_dev88_lt : ∀ (v3 : BitVec 32) (k0_hw2 : k0_chk2 v3), (k0_dev88 v3) < nD := fun v3 k0_hw2 => k0_hw2.2.1.2.2.2.2.2.2.2.2.2.2.2.2.2.2.1
theorem k0_dev89_lt : ∀ (v3 : BitVec 32) (k0_hw2 : k0_chk2 v3), (k0_dev89 v3) < nD := fun v3 k0_hw2 => k0_hw2.2.1.2.2.2.2.2.2.2.2.2.2.2.2.2.2.2.1
theorem k0_dev90_lt : ∀ (v3 : BitVec 32) (k0_hw2 : k0_chk2 v3), (k0_dev90 v3) < nD := fun v3 k0_hw2 => k0_hw2.2.1.2.2.2.2.2.2.2.2.2.2.2.2.2.2.2.2.1
theorem k0_dev99_lt : ∀ (v3 : BitVec 32) (k0_hw2 : k0_chk2 v3), (k0_dev99 v3) < nD := fun v3 k0_hw2 => k0_hw2.2.1.2.2.2.2.2.2.2.2.2.2.2.2.2.2.2.2.2.1
theorem k0_dev100_lt : ∀ (v3 : BitVec 32) (k0_hw2 : k0_chk2 v3), (k0_dev100 v3) < nD := fun v3 k0_hw2 => k0_hw2.2.1.2.2.2.2.2.2.2.2.2.2.2.2.2.2.2.2.2.2.1
theorem k0_dev101_lt : ∀ (v3 : BitVec 32) (k0_hw2 : k0_chk2 v3), (k0_dev101 v3) < nD := fun v3 k0_hw2 => k0_hw2.2.1.2.2.2.2.2.2.2.2.2.2.2.2.2.2.2.2.2.2.2.1
theorem k0_dev102_lt : ∀ (v3 : BitVec 32) (k0_hw2 : k0_chk2 v3), (k0_dev102 v3) < nD := fun v3 k0_hw2 => k0_hw2.2.1.2.2.2.2.2.2.2.2.2.2.2.2.2.2.2.2.2.2.2.2.1
theorem k0_dev103_lt : ∀ (v3 : BitVec 32) (k0_hw2 : k0_chk2 v3), (k0_dev103 v3) < nD := fun v3 k0_hw2 => k0_hw2.2.1.2.2.2.2.2.2.2.2.2.2.2.2.2.2.2.2.2.2.2.2.2.1
theorem k0_dev104_lt : ∀ (v3 : BitVec 32) (k0_hw2 : k0_chk2 v3), (k0_dev104 v3) < nD := fun v3 k0_hw2 => k0_hw2.2.1.2.2.2.2.2.2.2.2.2.2.2.2.2.2.2.2.2.2.2.2.2.2.1
theorem k0_dev105_lt : ∀ (v3 : BitVec 32) (k0_hw2 : k0_chk2 v3), (k0_dev105 v3) < nD := fun v3 k0_hw2 => k0_hw2.2.1.2.2.2.2.2.2.2.2.2.2.2.2.2.2.2.2.2.2.2.2.2.2.2.1
theorem k0_dev106_lt : ∀ (v3 : BitVec 32) (k0_hw2 : k0_chk2 v3), (k0_dev106 v3) < nD := fun v3 k0_hw2 => k0_hw2.2.1.2.2.2.2.2.2.2.2.2.2.2.2.2.2.2.2.2.2.2.2.2.2.2.2.1
theorem k0_dev115_lt : ∀ (v3 : BitVec 32) (k0_hw2 : k0_chk2 v3), (k0_dev115 v3) < nD := fun v3 k0_hw2 => k0_hw2.2.1.2.2.2.2.2.2.2.2.2.2.2.2.2.2.2.2.2.2.2.2.2.2.2.2.2.1
theorem k0_dev116_lt : ∀ (v3 : BitVec 32) (k0_hw2 : k0_chk2 v3), (k0_dev116 v3) < nD := fun v3 k0_hw2 => k0_hw2.2.1.2.2.2.2.2.2.2.2.2.2.2.2.2.2.2.2.2.2.2.2.2.2.2.2.2.2.1
theorem k0_dev117_lt : ∀ (v3 : BitVec 32) (k0_hw2 : k0_chk2 v3), (k0_dev117 v3) < nD := fun v3 k0_hw2 => k0_hw2.2.1.2.2.2.2.2.2.2.2.2.2.2.2.2.2.2.2.2.2.2.2.2.2.2.2.2.2.2.1
theorem k0_dev118_lt : ∀ (v3 : BitVec 32) (k0_hw2 : k0_chk2 v3), (k0_dev118 v3) < nD := fun v3 k0_hw2 => k0_hw2.2.1.2.2.2.2.2.2.2.2.2.2.2.2.2.2.2.2.2.2.2.2.2.2.2.2.2.2.2.2.1
theorem k0_dev119_lt : ∀ (v3 : BitVec 32) (k0_hw2 : k0_chk2 v3), (k0_dev119 v3) < nD := fun v3 k0_hw2 => k0_hw2.2.1.2.2.2.2.2.2.2.2.2.2.2.2.2.2.2.2.2.2.2.2.2.2.2.2.2.2.2.2.2.1
theorem k0_dev120_lt : ∀ (v3 : BitVec 32) (k0_hw2 : k0_chk2 v3), (k0_dev120 v3) < nD := fun v3 k0_hw2 => k0_hw2.2.1.2.2.2.2.2.2.2.2.2.2.2.2.2.2.2.2.2.2.2.2.2.2.2.2.2.2.2.2.2.2.1
theorem k0_dev121_lt : ∀ (v3 : BitVec 32) (k0_hw2 : k0_chk2 v3), (k0_dev121 v3) < nD := fun v3 k0_hw2 => k0_hw2.2.1.2.2.2.2.2.2.2.2.2.2.2.2.2.2.2.2.2.2.2.2.2.2.2.2.2.2.2.2.2.2.2
theorem k0_dev122_lt : ∀ (v3 : BitVec 32) (k0_hw2 : k0_chk2 v3), (k0_dev122 v3) < nD := fun v3 k0_hw2 => k0_hw2.2.2

abbrev stage0_0 : Fin 1 → Memref sig .tc .vmem S1x2048 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S3 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2048x512 : Shape := ⟨2, ![2048, 512]⟩
abbrev S512x64 : Shape := ⟨2, ![512, 64]⟩
abbrev S2048x1 : Shape := ⟨2, ![2048, 1]⟩
abbrev S64x512x1024 : Shape := ⟨3, ![64, 512, 1024]⟩
abbrev S2048 : Shape := ⟨1, ![2048]⟩
abbrev S1x2048 : Shape := ⟨2, ![1, 2048]⟩
abbrev S2048x2048 : Shape := ⟨2, ![2048, 2048]⟩
abbrev S_ : Shape := ⟨0, ![]⟩
abbrev S2048x512x1024 : Shape := ⟨3, ![2048, 512, 1024]⟩
abbrev S2048x1024 : Shape := ⟨2, ![2048, 1024]⟩

abbrev nBuf : Space → Nat
  | .hbm => 39
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x64, .f32⟩
  | .hbm, ⟨2, _⟩ => ⟨S2048x1, .i32⟩
  | .hbm, ⟨3, _⟩ => ⟨S64x512x1024, .f32⟩
  | .hbm, ⟨4, _⟩ => ⟨S2048, .i32⟩
  | .hbm, ⟨5, _⟩ => ⟨S2048, .i32⟩
  | .hbm, ⟨6, _⟩ => ⟨S1x2048, .i32⟩
  | .hbm, ⟨7, _⟩ => ⟨S2048x1, .i32⟩
  | .hbm, ⟨8, _⟩ => ⟨S2048x2048, .i32⟩
  | .hbm, ⟨9, _⟩ => ⟨S2048x2048, .i32⟩
  | .hbm, ⟨10, _⟩ => ⟨S2048x2048, .i1⟩
  | .hbm, ⟨11, _⟩ => ⟨S1x2048, .i32⟩
  | .hbm, ⟨12, _⟩ => ⟨S2048x1, .i32⟩
  | .hbm, ⟨13, _⟩ => ⟨S2048x2048, .i32⟩
  | .hbm, ⟨14, _⟩ => ⟨S2048x2048, .i32⟩
  | .hbm, ⟨15, _⟩ => ⟨S2048x2048, .i1⟩
  | .hbm, ⟨16, _⟩ => ⟨S2048x2048, .i1⟩
  | .hbm, ⟨17, _⟩ => ⟨S2048x2048, .i32⟩
  | .hbm, ⟨18, _⟩ => ⟨S_, .i32⟩
  | .hbm, ⟨19, _⟩ => ⟨S2048, .i32⟩
  | .hbm, ⟨20, _⟩ => ⟨S_, .i32⟩
  | .hbm, ⟨21, _⟩ => ⟨S2048, .i32⟩
  | .hbm, ⟨22, _⟩ => ⟨S2048, .i1⟩
  | .hbm, ⟨23, _⟩ => ⟨S_, .i32⟩
  | .hbm, ⟨24, _⟩ => ⟨S2048, .i32⟩
  | .hbm, ⟨25, _⟩ => ⟨S2048, .i32⟩
  | .hbm, ⟨26, _⟩ => ⟨S2048, .i32⟩
  | .hbm, ⟨27, _⟩ => ⟨S2048x1, .i32⟩
  | .hbm, ⟨28, _⟩ => ⟨S2048x512x1024, .f32⟩
  | .hbm, ⟨29, _⟩ => ⟨S2048x1024, .f32⟩
  | .hbm, ⟨30, _⟩ => ⟨S_, .i32⟩
  | .hbm, ⟨31, _⟩ => ⟨S2048, .i32⟩
  | .hbm, ⟨32, _⟩ => ⟨S2048, .i1⟩
  | .hbm, ⟨33, _⟩ => ⟨S2048x1, .i1⟩
  | .hbm, ⟨34, _⟩ => ⟨S_, .f32⟩
  | .hbm, ⟨35, _⟩ => ⟨S_, .f32⟩
  | .hbm, ⟨36, _⟩ => ⟨S2048x1024, .i1⟩
  | .hbm, ⟨37, _⟩ => ⟨S2048x1024, .f32⟩
  | .hbm, ⟨38, _⟩ => ⟨S2048x1024, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_v14 : Ref sig .tc := ⟨.hbm, 19, rfl⟩
abbrev main_c_0 : Ref sig .tc := ⟨.hbm, 20, rfl⟩
abbrev main_v15 : Ref sig .tc := ⟨.hbm, 21, rfl⟩
abbrev main_v16 : Ref sig .tc := ⟨.hbm, 22, rfl⟩
abbrev main_c_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v26 : Ref sig .tc := ⟨.hbm, 38, rfl⟩

abbrev nD : Nat := 1
abbrev τ : Topo := Topo.v7x

variable {F : FTy → Type} [FloatOps F]
-- ==== Proof.Steps.lean ====
/-
  The kernel body as a list of steps. The printed body is some seven hundred memory operations, but
  only six kinds of step occur in it: compute one expert's rows, send one chunk of a slot on, wait for
  one chunk to arrive, add one slot's contribution, wait for one send to be read. This module names the
  views those steps act on by SYMBOLIC slot and chunk, states each kind of step once, and proves that
  the printed body is a short prefix followed by the list of steps.

  Slot `e + 1` of the communication buffer (`e : Fin 15`) is the destination of exactly one hop:
  for `e < 8` hop `e` of the rightward direction, which comes from the left neighbour's slot `e`; for
  `e ≥ 8` hop `14 - e` of the leftward direction, from the right neighbour's slot `e + 2` (mod 16).
  So `e` indexes the hops of both directions.
-/
module

public import proofs.«01_k».proof.Proof.Gen.KernelIdeal.Skeleton
public import proofs.«01_k».proof.Proof.Gen.KernelIdeal.Points

@[expose] public section

set_option maxRecDepth 65536

noncomputable section

namespace Cert.KernelIdeal.Snake

open Idealize.ShloMosaic Idealize.SL.Sem
open Cert.KernelIdeal.Gen

variable {F : FTy → Type} [FloatOps F]

/-- The slot hop `e` reads on the sending device. -/
def srcS (e : Fin 15) : Fin 16 := if e.val < 8 then ⟨e.val, by omega⟩ else ⟨(e.val + 2) % 16, by omega⟩
/-- The slot hop `e` writes on the receiving device. -/
def dstS (e : Fin 15) : Fin 16 := ⟨e.val + 1, by omega⟩

theorem inb_chunk (k : Fin 16) (j : Fin 8) :
    ∀ a, (![k.val, 16 * j.val, 0] : Fin 3 → Nat) a + S1x16x1024.size a ≤ S16x128x1024.size a := by
  revert k j; decide

theorem words_chunk (k : Fin 16) (j : Fin 8) :
    (Rect.unit (s := S16x128x1024) ![k.val, 16 * j.val, 0] S1x16x1024.size (inb_chunk k j)).WholeWords
      (EltTy.packing .bf16) := by
  revert k j; decide

/-- The communication buffer. -/
abbrev comm : Memref sig .tc .vmem S16x128x1024 .bf16 := Memref.whole cc0_scratch2
/-- Chunk `j` (16 rows) of slot `k` of the communication buffer. -/
def chunk (k : Fin 16) (j : Fin 8) : Memref sig .tc .vmem S16x1024 .bf16 :=
  (comm.slice (Rect.unit (s := S16x128x1024) ![k.val, 16 * j.val, 0] S1x16x1024.size (inb_chunk k j))
    (fun _ => rfl)).squeeze S16x1024 squeezes_S1x16x1024_S16x1024

theorem chunk_words (k : Fin 16) (j : Fin 8) : (chunk k j).view.WordExact :=
  ((Memref.isWhole_whole cc0_scratch2).wordExact_slice rfl _ (words_chunk k j)).reshape _ _

theorem inb_S8x8 (h j : Fin 8) : ∀ a, (![h.val, j.val] : Fin 2 → Nat) a + S1x1.size a ≤ S8x8.size a := by
  revert h j; decide
theorem inb_S7x8 (h : Fin 7) (j : Fin 8) : ∀ a, (![h.val, j.val] : Fin 2 → Nat) a + S1x1.size a ≤ S7x8.size a := by
  revert h j; decide
theorem inb_S5 (s : Fin 5) : ∀ a, (![s.val] : Fin 1 → Nat) a + S1.size a ≤ S5.size a := by
  revert s; decide

/-- The semaphore of an 8 × 8 array at `(h, j)`. -/
def sem88 (A : DmaSems sig S8x8) (h j : Fin 8) : DmaSem sig :=
  ((A.slice (Rect.unit (s := S8x8) ![h.val, j.val] S1x1.size (inb_S8x8 h j))).squeeze S_ squeezes_S1x1_S_).sem
/-- The semaphore of a 7 × 8 array at `(h, j)`. -/
def sem78 (A : DmaSems sig S7x8) (h : Fin 7) (j : Fin 8) : DmaSem sig :=
  ((A.slice (Rect.unit (s := S7x8) ![h.val, j.val] S1x1.size (inb_S7x8 h j))).squeeze S_ squeezes_S1x1_S_).sem
/-- The semaphore the sender of hop `e`, chunk `j` waits on. -/
def sSem (e : Fin 15) (j : Fin 8) : DmaSem sig :=
  if h : e.val < 8 then sem88 cc0_scratch4 ⟨e.val, h⟩ j else sem78 cc0_scratch6 ⟨14 - e.val, by omega⟩ j
/-- The semaphore the receiver of hop `e`, chunk `j` waits on. -/
def rSem (e : Fin 15) (j : Fin 8) : DmaSem sig :=
  if h : e.val < 8 then sem88 cc0_scratch5 ⟨e.val, h⟩ j else sem78 cc0_scratch7 ⟨14 - e.val, by omega⟩ j
/-- The five semaphores of the loads: 0 the activations, `1 + s` expert `s`'s weights. -/
def lSem (s : Fin 5) : DmaSem sig :=
  ((cc0_scratch3.slice (Rect.unit (s := S5) ![s.val] S1.size (inb_S5 s))).squeeze S_ squeezes_S1_S_).sem

/-! ## The views of the loads -/

theorem inb_ew (s : Fin 4) : ∀ a, (![s.val, 0, 0] : Fin 3 → Nat) a + S1x512x1024.size a ≤ S4x512x1024.size a := by
  revert s; decide
/-- Expert `s`'s weights in the operand array. -/
def ewSrc (s : Fin 4) : Memref sig .tc .hbm S512x1024 .f32 :=
  ((Memref.whole main_arg3).slice (Rect.unit (s := S4x512x1024) ![s.val, 0, 0] S1x512x1024.size (inb_ew s))
    (fun _ => rfl)).squeeze S512x1024 squeezes_S1x512x1024_S512x1024
/-- Expert `s`'s weights in the scratch copy. -/
def ewDst (s : Fin 4) : Memref sig .tc .vmem S512x1024 .f32 :=
  ((Memref.whole cc0_scratch1).slice (Rect.unit (s := S4x512x1024) ![s.val, 0, 0] S1x512x1024.size (inb_ew s))
    (fun _ => rfl)).squeeze S512x1024 squeezes_S1x512x1024_S512x1024
theorem ewSrc_words (s : Fin 4) : (ewSrc s).view.WordExact := (View.wordExact_bits rfl).reshape _ _
theorem ewDst_words (s : Fin 4) : (ewDst s).view.WordExact := (View.wordExact_bits rfl).reshape _ _

/-! ## The values the steps store -/

theorem slices_rows (s : Fin 4) : S128x2048.Slices ![32 * s.val, 0] S32x2048 := by revert s; decide

/-- One expert's 32 rows: the selection of its rows of the activations, times its weights. -/
def expertVal (s : Fin 4) (psrc : FVec F S128x2048 .f32) (x : Vec F S2048x512 .f32) (w : Vec F S1x512x1024 .f32) :
    FVec F S1x32x1024 .bf16 :=
  shapeCast S1x32x1024 (truncf .bf16 (matmul dot_S32x512_S512x1024_S32x1024_1_0_0_1_n_n none
    (matmul dot_S32x2048_S2048x512_S32x512_1_0_0_1_n_n none
      (extractStridedSlice S32x2048 ![32 * s.val, 0] psrc (slices_rows s)) x (constant S32x512 .f32 0x00000000#32))
    (shapeCast S512x1024 w shapeCasts_S1x512x1024_S512x1024) (constant S32x1024 .f32 0x00000000#32)) bitsLt_bf16_f32)
    shapeCasts_S32x1024_S1x32x1024

/-- The token columns of slot `k`: token `i` has a one in row `r` iff its row in the ring is `128 k + r`
    and the token was kept. -/
def selOf (k : Fin 16) (g : FVec F S1x128 .f32) (kept : IVec S1x128 1) (io : IVec S128x128 32) : FVec F S128x128 .bf16 :=
  truncf .bf16 (sitofp .f32 (extui 32 (andi (cmpf .oeq (broadcastTo S128x128 g broadcasts_S1x128_S128x128)
    (sitofp .f32 (addi io (broadcast S128x128 (BitVec.ofNat 32 (128 * k.val))))))
    (broadcastTo S128x128 kept broadcasts_S1x128_S128x128)) natLt_1_32)) bitsLt_bf16_f32

/-- The contribution of slot `k` to the output block. -/
def contrib (k : Fin 16) (g : FVec F S1x128 .f32) (kept : IVec S1x128 1) (io : IVec S128x128 32)
    (w : Vec F S1x128x1024 .bf16) : FVec F S128x1024 .f32 :=
  matmul dot_S128x128_S128x1024_S128x1024_0_0_1_1_n_n none (selOf k g kept io)
    (shapeCast S128x1024 w shapeCasts_S1x128x1024_S128x1024) (constant S128x1024 .f32 0x00000000#32)

/-! ## The steps -/

/-- What the steps read of the prefix: the neighbours' words with their checks, the rows to select, the
    tokens' rows in the ring. -/
structure Env (F : FTy → Type) [FloatOps F] where
  v3 : BitVec 32
  h2 : k0_chk2 v3
  v4 : BitVec 32
  h1 : k0_chk1 v4

/-- The device hop `e` sends to. -/
def Env.to (E : Env F) (e : Fin 15) : Dev nD :=
  if e.val < 8 then ⟨k0_dev3 E.v3, k0_dev3_lt E.v3 E.h2⟩ else ⟨k0_dev1 E.v4, k0_dev1_lt E.v4 E.h1⟩

theorem inb_rows (s : Fin 4) : ∀ a, (![0, 32 * s.val, 0] : Fin 3 → Nat) a + S1x32x1024.size a ≤ S16x128x1024.size a := by
  revert s; decide
theorem packed_rows (s : Fin 4) :
    (Rect.unit (s := S16x128x1024) ![0, 32 * s.val, 0] S1x32x1024.size (inb_rows s)).PackedRows (EltTy.packing .bf16) := by
  revert s; decide
theorem inb_slot (k : Fin 16) : ∀ a, (![k.val, 0, 0] : Fin 3 → Nat) a + S1x128x1024.size a ≤ S16x128x1024.size a := by
  revert k; decide

abbrev rowsRect (s : Fin 4) : Rect S16x128x1024 := Rect.unit (s := S16x128x1024) ![0, 32 * s.val, 0] S1x32x1024.size (inb_rows s)
abbrev slotRect (k : Fin 16) : Rect S16x128x1024 := Rect.unit (s := S16x128x1024) ![k.val, 0, 0] S1x128x1024.size (inb_slot k)
abbrev ewRect (s : Fin 4) : Rect S4x512x1024 := Rect.unit (s := S4x512x1024) ![s.val, 0, 0] S1x512x1024.size (inb_ew s)
abbrev outRect : Rect S128x1024 := Rect.unit (s := S128x1024) ![0, 0] S128x1024.size inb_S128x1024_S128x1024_0_0
abbrev xRect : Rect S2048x512 := Rect.unit (s := S2048x512) ![0, 0] S2048x512.size inb_S2048x512_S2048x512_0_0

/-- The staging buffer of the output block. -/
abbrev outM : Memref sig .tc .vmem S128x1024 .f32 := Memref.whole cc0_stg3_0
/-- The staging buffers of the routes as a row, the routes as a column, and the ring words. -/
abbrev rowM : Memref sig .tc .vmem S1x2048 .i32 := Memref.whole cc0_stg0_0
abbrev colM : Memref sig .tc .vmem S2048x1 .i32 := Memref.whole cc0_stg1_0
abbrev nbrM : Memref sig .tc .smem S3 .i32 := Memref.whole cc0_stg2_0

abbrev P (F : FTy → Type) [FloatOps F] := Prog (TpuEff nD τ sig (Elt F) Λ₀ .tc) PUnit

/-- Compute expert `s`'s rows into slot 0. -/
def expertP (psrc : FVec F S128x2048 .f32) (s : Fin 4) : P F := do
  let v117 : Vec F S2048x512 .f32 ← Prog.lift (.load (Memref.whole cc0_scratch0) xRect.toLoadRect (View.loadsAt_vmem h_S2048x512))
  Prog.lift (.waitDma2 (lSem ⟨s.val + 1, by omega⟩) (ewSrc s) (ewDst s) (ewSrc_words s) (ewDst_words s))
  let v125 : Vec F S1x512x1024 .f32 ← Prog.lift (.load (Memref.whole cc0_scratch1) (ewRect s).toLoadRect (View.loadsAt_vmem h_S1x512x1024))
  let _v129 : Vec F S1x32x1024 .bf16 ← Prog.lift (.load comm (rowsRect s).toLoadRect (View.loadsAt_vmem h_S1x32x1024))
  Prog.lift (.store comm (rowsRect s) (expertVal s psrc v117 v125) Finset.univ
    (View.stores_vmem h_S1x32x1024 ((Memref.isWhole_whole cc0_scratch2).storeExact_slice rfl _ (packed_rows s)) (fun _ => rfl)) (.inl rfl))

/-- Send chunk `j` of hop `e`. -/
def sendP (E : Env F) (e : Fin 15) (j : Fin 8) : P F :=
  Prog.lift (.enqueueDma (chunk (srcS e) j) (.remote (Dev.tc (E.to e)) (chunk (dstS e) j) (.dma (sSem e j))) (.dma (rSem e j))
    (chunk_words _ _) (chunk_words _ _) ⟨⟨rfl, Or.inl rfl⟩, trivial⟩)

/-- Wait for chunk `j` of hop `e` to arrive. -/
def recvP (e : Fin 15) (j : Fin 8) : P F :=
  Prog.lift (.waitDma2 (rSem e j) (chunk (srcS e) j) (chunk (dstS e) j) (chunk_words _ _) (chunk_words _ _))

/-- Wait for the send of chunk `j` of hop `e` to be read. -/
def finP (e : Fin 15) (j : Fin 8) : P F :=
  Prog.lift (.waitDma2 (sSem e j) (chunk (dstS e) j) (chunk (srcS e) j) (chunk_words _ _) (chunk_words _ _))

/-- Add slot `k`'s contribution to the output block. -/
def accP (g : FVec F S1x128 .f32) (kept : IVec S1x128 1) (io : IVec S128x128 32) (k : Fin 16) : P F := do
  let o : Vec F S128x1024 .f32 ← Prog.lift (.load outM outRect.toLoadRect (View.loadsAt_vmem h_S128x1024))
  let w : Vec F S1x128x1024 .bf16 ← Prog.lift (.load comm (slotRect k).toLoadRect (View.loadsAt_vmem h_S1x128x1024))
  let _o : Vec F S128x1024 .f32 ← Prog.lift (.load outM outRect.toLoadRect (View.loadsAt_vmem h_S128x1024))
  Prog.lift (.store outM outRect (addf (shapeCast S128x1024 o shapeCasts_S128x1024_S128x1024) (contrib k g kept io w)) Finset.univ
    (View.stores_vmem_bits_univ h_S128x1024 rfl) (.inl rfl))

/-- A step of the ring phase. -/
inductive Step
  | send (e : Fin 15) (j : Fin 8)
  | recv (e : Fin 15) (j : Fin 8)
  | acc (k : Fin 16)
  | fin (e : Fin 15) (j : Fin 8)
deriving DecidableEq

def Step.prog (E : Env F) (g : FVec F S1x128 .f32) (kept : IVec S1x128 1) (io : IVec S128x128 32) : Step → P F
  | .send e j => sendP E e j
  | .recv e j => recvP e j
  | .acc k => accP g kept io k
  | .fin e j => finP e j

/-- Run a list of steps. -/
def runL (f : Step → P F) : List Step → P F
  | [] => pure ⟨⟩
  | a :: l => do f a; runL f l

/-- The eight chunk numbers. -/
def ch : List (Fin 8) := [0, 1, 2, 3, 4, 5, 6, 7]

/-- Round `t = 1 … 7` of the ring phase: `er`, `el` the rightward and leftward hops whose arrivals it takes,
    `sr`, `sl` those it sends. -/
def round (er sr : Fin 15) (el : Fin 15) (sl : Option (Fin 15)) (a b : Fin 16) : List Step :=
  (ch.flatMap fun j => [.recv er j, .send sr j]) ++
  (ch.flatMap fun j => match sl with | some s => [.recv el j, .send s j] | none => [.recv el j]) ++ [.acc a, .acc b]

/-- The ring phase, after slot 0's own contribution. -/
def ringSteps : List Step :=
  round 0 1 14 (some 13) 1 15 ++ round 1 2 13 (some 12) 2 14 ++ round 2 3 12 (some 11) 3 13 ++
  round 3 4 11 (some 10) 4 12 ++ round 4 5 10 (some 9) 5 11 ++ round 5 6 9 (some 8) 6 10 ++
  round 6 7 8 none 7 9 ++ (ch.map fun j => .recv 7 j) ++ [.acc 8]

/-- The waits for the sends, at the end. -/
def finSteps : List Step :=
  ([0, 1, 2, 3, 4, 5, 6, 7, 14, 13, 12, 11, 10, 9, 8] : List (Fin 15)).flatMap fun e => ch.map fun j => .fin e j

/-- Send both ways the two chunks an expert's rows make. -/
def sends4 (E : Env F) (j j' : Fin 8) : P F := do
  sendP E 0 j; sendP E 14 j; sendP E 0 j'; sendP E 14 j'

/-- The tokens' rows in the ring, of the values the prefix reads. -/
def gOf (v342 : Vec F S1x128 .i32) (v346 : Vec F S2048x1 .i32) (v2 v421 : BitVec 32) : FVec F S1x128 .f32 :=
  k0_pay18 (k0_pay10 v342) (k0_pay12 (k0_pay11 v2 v342 v346) (Scalar.ofBits .bf16 0x3F80#16)) (k0_pay14 (k0_pay10 v342))
    (k0_pay15 (k0_pay10 v342)) (k0_pay16 (k0_pay10 v342)) (k0_pay17 (k0_pay10 v342)) v421

def keptOf (v342 : Vec F S1x128 .i32) (v346 : Vec F S2048x1 .i32) (v2 : BitVec 32) : IVec S1x128 1 :=
  k0_pay19 (F := F) (k0_pay12 (k0_pay11 v2 v342 v346) (Scalar.ofBits .bf16 0x3F80#16))

def ioV : IVec S128x128 32 := iota .tc S128x128 32 [0] iota_S128x128_d0_w32

def psrcOf (v2 : BitVec 32) (v36 : Vec F S1x2048 .i32) : FVec F S128x2048 .f32 :=
  k0_pay4 (k0_pay1 v2 v36) (k0_pay2 v2 v36) (k0_pay3 (F := F))

/-- Start the load of expert `s`'s weights. -/
def loadEw (s : Fin 4) : P F :=
  Prog.lift (.enqueueDma (ewSrc s) (.here (ewDst s)) (.dma (lSem ⟨s.val + 1, by omega⟩)) (ewSrc_words s) (ewDst_words s) ⟨Or.inl rfl, trivial⟩)

/-- The last part: everything from the first send on, once the neighbours have signalled. -/
def tailP (E : Env F) (d0 : Dev nD) (v2 : BitVec 32) (psrc : FVec F S128x2048 .f32) : P F := do
  expertP psrc 0; sends4 E 0 1
  expertP psrc 1; sends4 E 2 3
  expertP psrc 2; sends4 E 4 5
  expertP psrc 3; sends4 E 6 7
  let v342 : Vec F S1x128 .i32 ← Prog.lift (.load rowM (Rect.unit (s := S1x2048) (k0_off1 d0) S1x128.size (k0_off1_inb d0)).toLoadRect (View.loadsAt_vmem h_S1x128))
  let v346 : Vec F S2048x1 .i32 ← Prog.lift (.load colM (Rect.unit (s := S2048x1) ![0, 0] S2048x1.size inb_S2048x1_S2048x1_0_0).toLoadRect (View.loadsAt_vmem h_S2048x1))
  let v421 : Elt F .i32 ← smemLoad nbrM (Rect.unit (s := S3) ![2] S1.size inb_S3_S1_2) numel1_S1 rfl
  let g := gOf v342 v346 v2 v421
  let kept := keptOf (F := F) v342 v346 v2
  let w : Vec F S1x128x1024 .bf16 ← Prog.lift (.load comm (slotRect 0).toLoadRect (View.loadsAt_vmem h_S1x128x1024))
  let _o : Vec F S128x1024 .f32 ← Prog.lift (.load outM outRect.toLoadRect (View.loadsAt_vmem h_S128x1024))
  Prog.lift (.store outM outRect (contrib 0 g kept ioV w) Finset.univ (View.stores_vmem_bits_univ h_S128x1024 rfl) (.inl rfl))
  runL (Step.prog E g kept ioV) (ringSteps ++ finSteps)

/-- The whole body: the neighbours' words, the loads' starts, the barrier, then the rest. -/
def bodyP : P F := do
  let d0 : Dev nD ← Prog.lift .deviceId
  let v2 : BitVec 32 := Scalar.remsi (Scalar.divsi (Dev.word d0) 1#32) 16#32
  let v3 : Elt F .i32 ← smemLoad nbrM (Rect.unit (s := S3) ![0] S1.size inb_S3_S1_0) numel1_S1 rfl
  have h2 : k0_chk2 v3 := (← Prog.lift (TpuEff.assume (k0_chk2 v3) (k0_chk2.dec v3))).down
  let v4 : Elt F .i32 ← smemLoad nbrM (Rect.unit (s := S3) ![1] S1.size inb_S3_S1_1) numel1_S1 rfl
  have h1 : k0_chk1 v4 := (← Prog.lift (TpuEff.assume (k0_chk1 v4) (k0_chk1.dec v4))).down
  Prog.lift (.enqueueDma (Memref.whole main_arg0) (.here (Memref.whole cc0_scratch0)) (.dma (lSem 0)) (Memref.isWhole_whole _).wordExact (Memref.isWhole_whole _).wordExact ⟨Or.inl rfl, trivial⟩)
  loadEw 0; loadEw 1; loadEw 2; loadEw 3
  let E : Env F := ⟨v3, h2, v4, h1⟩
  semSignalWord (E.to 14) barrier0 1#32
  semSignalWord (E.to 0) barrier0 1#32
  let v36 : Vec F S1x2048 .i32 ← Prog.lift (.load rowM (Rect.unit (s := S1x2048) ![0, 0] S1x2048.size inb_S1x2048_S1x2048_0_0).toLoadRect (View.loadsAt_vmem h_S1x2048))
  semWaitWord barrier0 2#32
  Prog.lift (.waitDma2 (lSem 0) (Memref.whole main_arg0) (Memref.whole cc0_scratch0) (Memref.isWhole_whole _).wordExact (Memref.isWhole_whole _).wordExact)
  tailP E d0 v2 (psrcOf v2 v36)

end Cert.KernelIdeal.Snake

end
-- ==== Proof.Geometry.lean ====
/-
  The ring: where each of the sixteen devices stands, its two neighbours, and what the host code's
  three words say of them.
-/
module

public import proofs.«01_k».proof.Proof.Steps
public import proofs.«01_k».proof.Proof.Gen.KernelIdeal.Regions

@[expose] public section

set_option maxRecDepth 65536

noncomputable section

namespace Cert.KernelIdeal.Snake

open Idealize.ShloMosaic Idealize.ShloMosaic.TcCoe Idealize.SL.Sem
open Cert.KernelIdeal.Gen

variable {F : FTy → Type} [FloatOps F]

/-- Device `c`'s place in the ring: the columns of the 4 × 4 grid in turn, every second one backwards. -/
def pos (c : Dev nD) : Fin 16 :=
  ⟨(c.val % 4) * 4 + (if (c.val % 4) % 2 = 0 then c.val / 4 else 3 - c.val / 4), by revert c; decide⟩
/-- The device at place `p`. -/
def devAt (p : Fin 16) : Dev nD :=
  ⟨(if (p.val / 4) % 2 = 0 then p.val % 4 else 3 - p.val % 4) * 4 + p.val / 4, by revert p; decide⟩

theorem devAt_pos (c : Dev nD) : devAt (pos c) = c := by revert c; decide
theorem pos_devAt (p : Fin 16) : pos (devAt p) = p := by revert p; decide

/-- The neighbours. -/
def right (c : Dev nD) : Dev nD := devAt (pos c + 1)
def left (c : Dev nD) : Dev nD := devAt (pos c - 1)

theorem left_right (c : Dev nD) : left (right c) = c := by revert c; decide
theorem right_left (c : Dev nD) : right (left c) = c := by revert c; decide
theorem pos_right (c : Dev nD) : pos (right c) = pos c + 1 := pos_devAt _
theorem pos_left (c : Dev nD) : pos (left c) = pos c - 1 := pos_devAt _

/-- The device hop `e` goes to, and the one it comes from. -/
def toD (c : Dev nD) (e : Fin 15) : Dev nD := if e.val < 8 then right c else left c
def froD (c : Dev nD) (e : Fin 15) : Dev nD := if e.val < 8 then left c else right c
theorem to_fro (c : Dev nD) (e : Fin 15) : toD (froD c e) e = c := by revert c e; decide
theorem fro_to (c : Dev nD) (e : Fin 15) : froD (toD c e) e = c := by revert c e; decide

/-- The device whose rows slot `k` of device `c` holds in the end. -/
def owner (c : Dev nD) (k : Fin 16) : Dev nD := devAt (pos c - k)
theorem owner_zero (c : Dev nD) : owner c 0 = c := by revert c; decide
/-- A hop carries a slot to one of the same owner. -/
theorem owner_hop (c : Dev nD) (e : Fin 15) : owner (toD c e) (dstS e) = owner c (srcS e) := by revert c e; decide

/-- The three words the host code computes. -/
def nbrWord (c : Dev nD) (i : Fin 3) : BitVec 32 :=
  match i with
  | 0 => BitVec.ofNat 32 (right c).val
  | 1 => BitVec.ofNat 32 (left c).val
  | 2 => BitVec.ofNat 32 (pos c).val

theorem chk2_right (c : Dev nD) : k0_chk2 (nbrWord c 0) := by revert c; decide
theorem chk1_left (c : Dev nD) : k0_chk1 (nbrWord c 1) := by revert c; decide

/-- What the kernel takes from the words. -/
def envAt (c : Dev nD) : Env F := ⟨nbrWord c 0, chk2_right c, nbrWord c 1, chk1_left c⟩
theorem dev3_right (c : Dev nD) : k0_dev3 (nbrWord c 0) = (right c).val := by revert c; decide
theorem dev1_left (c : Dev nD) : k0_dev1 (nbrWord c 1) = (left c).val := by revert c; decide
theorem envAt_to (c : Dev nD) (e : Fin 15) : (envAt (F := F) c).to e = toD c e := by
  unfold Env.to toD
  split
  · exact Fin.ext (dev3_right c)
  · exact Fin.ext (dev1_left c)

end Cert.KernelIdeal.Snake

end
-- ==== Proof.Protocol.lean ====
/-
  The cross-device protocol, as a schedule of duties over the semaphore cells.

  * The BARRIER cell of device `c` takes one unit from each neighbour. The right neighbour's unit hands `c` the
    slots that `c`'s rightward hops write on it, the left neighbour's those that `c`'s leftward hops write on it,
    each with the fact that the receive cell of that hop is open.
  * A LOAD cell takes one local copy: it hands back the destination, at the operand's contents, and the source.
  * The SEND cell of hop `e`, chunk `j` takes the reading of the chunk: it hands back the share lent to the copy.
  * The RECEIVE cell of hop `e`, chunk `j` takes the landing: it hands over the chunk of slot `e + 1` at the rows
    of the device that owns them.

  Every cell has one round. What the slots hold is one function of the device and the index (`bufV`): a hop carries
  a slot to one of the same owner, so a landing gives the same function at the receiving device.
-/
module

public import proofs.«01_k».proof.Proof.Geometry
public import Idealize.ShloMosaic.Lib.Pipeline.Regions
public import Idealize.ShloMosaic.Lib.Pipeline.Kit
public import Idealize.ShloMosaic.Lib.Rounds
public import Idealize.ShloMosaic.Lib.StableHlo
public import Idealize.ShloMosaic.Lib.Tactic
public import Idealize.ShloMosaic.PureOps
public import Idealize.ShloMosaic.Lib.Pipeline.RegionTalk

@[expose] public section

set_option maxRecDepth 65536

noncomputable section

namespace Cert.KernelIdeal.Snake

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-- The ghost state: the pipeline's rounds and the ring's. -/
abbrev UU : Type := URounds (GSem nD τ sig) Unit × URounds (GSem nD τ sig) Bool

local notation "𝕄" => MT nD τ sig Unit (Elt F) ℕ UU ℕ

abbrev EP : Emb (URounds (GSem nD τ sig) Unit) (MT nD τ sig Unit (Elt F) ℕ UU ℕ) := embL
abbrev ER : Emb (URounds (GSem nD τ sig) Bool) (MT nD τ sig Unit (Elt F) ℕ UU ℕ) := embR
abbrev 𝒱₀ : Variants := Variants.none

/-! ## Families, in the proof mode's connectives -/

theorem bs_insert {I : Type} [DecidableEq I] {s : Finset I} {i : I} (h : i ∉ s) {Φ : I → sProp 𝕄} :
    bigSep (insert i s) Φ = iprop(Φ i ∗ bigSep s Φ) := BI.bigSep_insert h
theorem bs_erase {I : Type} [DecidableEq I] {s : Finset I} {i : I} (h : i ∈ s) {Φ : I → sProp 𝕄} :
    bigSep s Φ = iprop(Φ i ∗ bigSep (s.erase i) Φ) := BI.bigSep_erase h
theorem bs_union {I : Type} [DecidableEq I] {s t : Finset I} (h : Disjoint s t) {Φ : I → sProp 𝕄} :
    bigSep (s ∪ t) Φ = iprop(bigSep s Φ ∗ bigSep t Φ) := BI.bigSep_union h
theorem bs_sep {I : Type} (s : Finset I) (Φ Ψ : I → sProp 𝕄) :
    bigSep s (fun i => iprop(Φ i ∗ Ψ i)) = iprop(bigSep s Φ ∗ bigSep s Ψ) := BI.bigSep_sep s Φ Ψ
theorem bs_elim {I : Type} [DecidableEq I] {s : Finset I} {i : I} (h : i ∈ s) {Φ : I → sProp 𝕄} :
    (bigSep s Φ : sProp 𝕄) ⊢ Φ i := BI.bigSep_elim h

/-! ## The cells -/

/-- A hop and a chunk. -/
abbrev Hop := Fin 15 × Fin 8
/-- The scoped cells of one device: the five loads, the sends, the receives. -/
abbrev SK := Fin 5 ⊕ (Hop ⊕ Hop)
abbrev ldK (s : Fin 5) : SK := .inl s
abbrev sdK (p : Hop) : SK := .inr (.inl p)
abbrev rvK (p : Hop) : SK := .inr (.inr p)

/-- The semaphore of a scoped cell. -/
def semOf : SK → DmaSem sig
  | .inl s => lSem s
  | .inr (.inl p) => sSem p.1 p.2
  | .inr (.inr p) => rSem p.1 p.2

/-- Which scoped cell a semaphore's number is. -/
def kindN (n : ℕ) : Option SK :=
  if n < 4 then none
  else if h : n < 9 then some (ldK ⟨n - 4, by omega⟩)
  else if h : n < 73 then some (sdK (⟨(n - 9) / 8, by omega⟩, ⟨(n - 9) % 8, by omega⟩))
  else if h : n < 137 then some (rvK (⟨(n - 73) / 8, by omega⟩, ⟨(n - 73) % 8, by omega⟩))
  else if h : n < 193 then some (sdK (⟨14 - (n - 137) / 8, by omega⟩, ⟨(n - 137) % 8, by omega⟩))
  else some (rvK (⟨14 - (n - 193) / 8, by omega⟩, ⟨(n - 193) % 8, by omega⟩))
def kindD (d : DmaSem sig) : Option SK := kindN d.val

theorem kindD_semOf (k : SK) : kindD (semOf k) = some k := by revert k; decide +kernel
theorem semOf_inj : Function.Injective semOf := fun a b h =>
  Option.some.inj ((kindD_semOf a).symm.trans ((congrArg kindD h).trans (kindD_semOf b)))

abbrev barC (c : Dev nD) : GSem nD τ sig := ((c : Thread nD τ), .reg barrier0)
abbrev scC (c : Dev nD) (k : SK) : GSem nD τ sig := ((c : Thread nD τ), .dma (semOf k))
abbrev ldC (c : Dev nD) (s : Fin 5) : GSem nD τ sig := scC c (ldK s)
abbrev sdC (c : Dev nD) (p : Hop) : GSem nD τ sig := scC c (sdK p)
abbrev rvC (c : Dev nD) (p : Hop) : GSem nD τ sig := scC c (rvK p)

/-! ## What the buffers hold -/

/-- What the ring moves: each device's activations and weights as it finds them, and the 128 rows it computes. -/
structure Vals (F : FTy → Type) where
  x : (c : Dev nD) → Buf (Elt F) ((c : Thread nD τ).loc main_arg0)
  w : (c : Dev nD) → Buf (Elt F) ((c : Thread nD τ).loc main_arg3)
  blk : Dev nD → Fin 128 → Fin 1024 → Elt F .bf16

/-- Device `c`'s communication buffer, where it is filled: slot `k` holds the rows of its owner. -/
def bufV (v : Vals F) (c : Dev nD) : Buf (Elt F) ((c : Thread nD τ).loc cc0_scratch2) :=
  fun (i : S16x128x1024.Idx) => v.blk (owner c (i 0)) (i 1) (i 2)

variable (v : Vals F)

/-- The elements of a chunk. -/
def chSet (k : Fin 16) (j : Fin 8) : Finset S16x128x1024.Idx := (chunk k j).view.set
/-- The elements of one expert's weights. -/
def ewSet (s : Fin 4) : Finset S4x512x1024.Idx := (ewDst s).view.set
theorem ewSet_src (s : Fin 4) : ewSet s = (ewSrc s).view.set := rfl

/-- The chunk's elements, at share `q` and contents `f`. -/
abbrev chPts (c : Dev nD) (k : Fin 16) (j : Fin 8) (q : PosShare TreeShare) (f : Buf (Elt F) ((c : Thread nD τ).loc cc0_scratch2)) : sProp 𝕄 :=
  (c : Thread nD τ).loc cc0_scratch2 ↦[chSet k j]{q} f

/-- A copy through two views of one shape, at an element of the destination. -/
theorem write_read_emb {κ : Kind} {sp sp' : Space} {s : Shape} {e : EltTy} (vd : View sig κ sp s e) (vs : View sig κ sp' s e)
    (fd : vd.ty.Contents (Elt F)) (fs : vs.ty.Contents (Elt F)) (y : s.Idx) :
    vd.write (Elt F) fd (vs.read (Elt F) fs) Finset.univ (vd.emb y)
      = cast (congrArg (Elt F) (vs.elt_eq.trans vd.elt_eq.symm)) (fs (vs.emb y)) := by
  rw [View.write_emb_of_mem _ _ (Finset.mem_univ y), View.read_apply, cast_cast]

/-- Slot by slot: the source's function at an element of the source chunk is the receiver's at the destination's. -/
theorem bufV_hop (c : Dev nD) (e : Fin 15) (j : Fin 8) (z : S1x16x1024.Idx) :
    bufV v c ((Rect.unit (s := S16x128x1024) ![(srcS e).val, 16 * j.val, 0] S1x16x1024.size (inb_chunk _ j)).emb z)
      = bufV v (toD c e) ((Rect.unit (s := S16x128x1024) ![(dstS e).val, 16 * j.val, 0] S1x16x1024.size (inb_chunk _ j)).emb z) := by
  have z0 : (z 0).val = 0 := by have h : (z 0).val < 1 := (z 0).isLt; omega
  have c0 : ∀ k : Fin 16, ((Rect.unit (s := S16x128x1024) ![k.val, 16 * j.val, 0] S1x16x1024.size (inb_chunk k j)).emb z 0 : Fin 16) = k := fun k =>
    Fin.ext (by show k.val + 1 * (z 0).val = k.val; omega)
  have hop := owner_hop c e
  show v.blk (owner c _) _ _ = v.blk (owner (toD c e) _) _ _
  refine congr (congr (congrArg v.blk ?_) ?_) ?_
  · exact ((congrArg (owner c) (c0 (srcS e))).trans hop.symm).trans (congrArg (owner (toD c e)) (c0 (dstS e))).symm
  · rfl
  · rfl

/-- The landing of a hop's chunk gives the receiving device's function. -/
theorem landed_eq (c : Dev nD) (e : Fin 15) (j : Fin 8) (fd : Buf (Elt F) ((toD c e : Thread nD τ).loc cc0_scratch2)) :
    chPts (toD c e) (dstS e) j fullShare ((chunk (dstS e) j).view.write (Elt F) fd
      ((chunk (srcS e) j).view.read (Elt F) (bufV v c)) Finset.univ)
      = chPts (toD c e) (dstS e) j fullShare (bufV v (toD c e)) := by
  refine pointsTo_congr fun i hi => ?_
  obtain ⟨y, -, rfl⟩ := Finset.mem_map.mp hi
  refine (write_read_emb (chunk (dstS e) j).view (chunk (srcS e) j).view _ _ y).trans ?_
  exact bufV_hop v c e j _

/-! ## Shares -/

/-- The three pieces a chunk in hand is cut into: one kept, one lent to the rightward hop, one to the leftward. -/
def sh : Fin 3 → PosShare TreeShare
  | 0 => fullShare.left.left
  | 1 => fullShare.left.right
  | 2 => fullShare.right

/-- The piece hop `e` takes. -/
def lend (e : Fin 15) : Fin 3 := if e.val < 8 then 1 else 2

theorem pts_pieces (ℓ : Loc nD τ sig) (S : Finset (Idx ℓ)) (f : Buf (Elt F) ℓ) :
    (ℓ ↦[S]{fullShare} f : sProp 𝕄) ⊣⊢ iprop((ℓ ↦[S]{sh 0} f) ∗ (ℓ ↦[S]{sh 1} f) ∗ (ℓ ↦[S]{sh 2} f)) := by
  have h1 := pointsTo_share (Ix := Unit) (Name := ℕ) (U := UU) (Lvl := ℕ) (ℓ := ℓ) (I := S) (f := f) (PosShare.mem_left_op_right fullShare)
  have h2 := pointsTo_share (Ix := Unit) (Name := ℕ) (U := UU) (Lvl := ℕ) (ℓ := ℓ) (I := S) (f := f) (PosShare.mem_left_op_right fullShare.left)
  constructor
  · iintro H
    ihave H := h1.1 $$ H
    icases H with ⟨Ha, Hb⟩
    ihave Ha := h2.1 $$ Ha
    icases Ha with ⟨Ha, Hc⟩
    isplitl [Ha]; · iexact Ha
    isplitl [Hc]; · iexact Hc
    iexact Hb
  · iintro ⟨Ha, Hc, Hb⟩
    iapply h1.2
    isplitl [Ha Hc]
    · iapply h2.2
      isplitl [Ha]; · iexact Ha
      iexact Hc
    · iexact Hb

/-! ## The payloads -/

/-- What the unit of duty `b` on device `c`'s barrier hands over. -/
def barPay (c : Dev nD) (b : Bool) : sProp 𝕄 :=
  bigSep (Finset.univ.filter fun p : Hop => decide (p.1.val < 8) = b) fun p =>
    iprop((∃ f, chPts (toD c p.1) (dstS p.1) p.2 fullShare f) ∗ reached ER (rvC (toD c p.1) p) 0)

def xPay (c : Dev nD) : sProp 𝕄 :=
  iprop(((c : Thread nD τ).loc cc0_scratch0 ↦{fullShare} (v.x c : (⟨S2048x512, .f32⟩ : BufTy).Contents (Elt F)))
    ∗ ((c : Thread nD τ).loc main_arg0 ↦{fullShare} v.x c))
def wPay (c : Dev nD) (s : Fin 4) : sProp 𝕄 :=
  iprop(((c : Thread nD τ).loc cc0_scratch1 ↦[ewSet s]{fullShare} (v.w c : (⟨S4x512x1024, .f32⟩ : BufTy).Contents (Elt F)))
    ∗ ((c : Thread nD τ).loc main_arg3 ↦[ewSet s]{fullShare} v.w c))
def ldPay (c : Dev nD) (s : Fin 5) : sProp 𝕄 := Fin.cases (motive := fun _ => sProp 𝕄) (xPay v c) (fun s => wPay v c s) s
def sdPay (c : Dev nD) (p : Hop) : sProp 𝕄 := chPts c (srcS p.1) p.2 (sh (lend p.1)) (bufV v c)
def rvPay (c : Dev nD) (p : Hop) : sProp 𝕄 := chPts c (dstS p.1) p.2 fullShare (bufV v c)

def scPay (c : Dev nD) : SK → sProp 𝕄
  | .inl s => ldPay v c s
  | .inr (.inl p) => sdPay v c p
  | .inr (.inr p) => rvPay v c p

/-- One chunk's credit. -/
abbrev chN : ℕ := (chunk 0 0).view.dmaCredit
theorem chN_eq (k : Fin 16) (j : Fin 8) : (chunk k j).view.dmaCredit = chN := rfl
def ldN (s : Fin 5) : ℕ := Fin.cases (motive := fun _ => ℕ) (Memref.whole cc0_scratch0).view.dmaCredit (fun s => (ewDst s).view.dmaCredit) s

def scAmt : SK → ℕ
  | .inl s => ldN s
  | .inr (.inl _) => chN
  | .inr (.inr _) => chN

theorem scAmt_pos (k : SK) : 0 < scAmt k := by
  rcases k with s | p | p
  · refine Fin.cases ?_ (fun s => ?_) s
    · exact View.dmaCredit_pos _ (by decide)
    · exact View.dmaCredit_pos _ (by decide)
  · exact View.dmaCredit_pos _ (by decide)
  · exact View.dmaCredit_pos _ (by decide)

/-! ## The schedule -/

def dutiesOf (g : GSem nD τ sig) : Finset Bool :=
  match g.2 with
  | .reg _ => {true, false}
  | .dma n => match kindD n with
    | none => ∅
    | some _ => {true}
def amountOf (g : GSem nD τ sig) : ℕ :=
  match g.2 with
  | .reg _ => 1
  | .dma n => match kindD n with
    | none => 1
    | some k => scAmt k
def payOf (g : GSem nD τ sig) (d : Bool) : sProp 𝕄 :=
  match g.2 with
  | .reg _ => barPay g.1.1 d
  | .dma n => match kindD n with
    | none => iprop(emp)
    | some k => scPay v g.1.1 k

def rd : Rounds.Schedule (GSem nD τ sig) Bool 𝕄 where
  duties g r := if r = 0 ∧ g.1.2 = .tc then dutiesOf g else ∅
  unitless _ := False
  amount g _ _ := amountOf g
  payload g _ d := payOf v g d
  amount_pos g _ _ _ := by
    unfold amountOf
    split
    · exact Nat.one_pos
    · split
      · exact Nat.one_pos
      · exact scAmt_pos _

instance ldPay_storable (c : Dev nD) (s : Fin 5) : BI.Storable (upEmb : UEmb _ 𝕄) (ldPay v c s) := by
  refine Fin.cases ?_ (fun s => ?_) s
  · show BI.Storable upEmb (xPay v c); unfold xPay; infer_instance
  · show BI.Storable upEmb (wPay v c s); unfold wPay; infer_instance

instance rd_storable (g : GSem nD τ sig) (r : ℕ) (d : Bool) : BI.Storable (upEmb : UEmb _ 𝕄) ((rd v).payload g r d) := by
  show BI.Storable upEmb (payOf v g d)
  unfold payOf
  split
  · unfold barPay; infer_instance
  · split
    · infer_instance
    · rename_i k _
      rcases k with s | p | p
      · exact ldPay_storable v _ s
      · show BI.Storable upEmb (sdPay v _ p); unfold sdPay; infer_instance
      · show BI.Storable upEmb (rvPay v _ p); unfold rvPay; infer_instance

section Tables
variable (c : Dev nD) (k : SK)

theorem duties_bar : (rd v).duties (barC c) 0 = {true, false} := by
  dsimp only [rd]; exact if_pos ⟨rfl, rfl⟩
theorem duties_sc : (rd v).duties (scC c k) 0 = {true} := by
  dsimp only [rd]
  rw [if_pos ⟨rfl, rfl⟩]; unfold dutiesOf; dsimp only; rw [kindD_semOf]
theorem duties_later (g : GSem nD τ sig) : ∀ r, 1 ≤ r → (rd v).duties g r = ∅ := fun r hr =>
  by dsimp only [rd]; exact if_neg fun h => by omega
theorem amount_bar (d : Bool) : (rd v).amount (barC c) 0 d = 1 := rfl
theorem amount_sc (d : Bool) : (rd v).amount (scC c k) 0 d = scAmt k := by
  dsimp only [rd]
  unfold amountOf; dsimp only; rw [kindD_semOf]
theorem expect_bar : (rd v).expect (barC c) 0 = 2 := by
  unfold Schedule.expect Schedule.amountOf; rw [duties_bar]; rfl
theorem expect_sc : (rd v).expect (scC c k) 0 = scAmt k := by
  unfold Schedule.expect Schedule.amountOf; rw [duties_sc, Finset.sum_singleton, amount_sc]
theorem payload_bar (d : Bool) : (rd v).payload (barC c) 0 d = barPay c d := rfl
theorem payload_sc (d : Bool) : (rd v).payload (scC c k) 0 d = scPay v c k := by
  dsimp only [rd]
  unfold payOf; dsimp only; rw [kindD_semOf]
theorem rest_bar : bigSep ((rd v).duties (barC c) 0 \ ∅) (fun d => (rd v).payload (barC c) 0 d)
    = iprop(barPay c true ∗ barPay c false) := by
  rw [Finset.sdiff_empty, duties_bar, bs_insert (by decide), bigSep_singleton]; rfl
theorem rest_sc : bigSep ((rd v).duties (scC c k) 0 \ ∅) (fun d => (rd v).payload (scC c k) 0 d) = scPay v c k := by
  rw [Finset.sdiff_empty, duties_sc, bigSep_singleton, payload_sc]

end Tables

/-! ## Levels, and what each device owes at launch -/

/-- The place of a hop in its direction. -/
def hopLv (e : Fin 15) : ℕ := if e.val < 8 then e.val else 14 - e.val

def L (g : GSem nD τ sig) : Finset Unit := if g.1.2 = .tc then {()} else ∅
/-- Loads and sends 0, the barrier 1, the receives above it in the order of the hops. -/
def lv (g : GSem nD τ sig) (_ : Unit) : ℕ :=
  match g.2 with
  | .reg _ => 1
  | .dma n => match kindD n with
    | some (.inr (.inr p)) => 2 + hopLv p.1
    | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barC c) () = 1 := rfl
theorem lv_rv (c : Dev nD) (p : Hop) : lv (rvC c p) () = 2 + hopLv p.1 := by
  unfold lv; dsimp only; rw [kindD_semOf]
theorem lv_sd (c : Dev nD) (p : Hop) : lv (sdC c p) () = 0 := by
  unfold lv; dsimp only; rw [kindD_semOf]
theorem lv_ld (c : Dev nD) (s : Fin 5) : lv (ldC c s) () = 0 := by
  unfold lv; dsimp only; rw [kindD_semOf]

/-- What the sends `S` still owe: each a chunk's credit on the receiver's cell. -/
def owedOf (c : Dev nD) (S : Finset Hop) : CellTallies nD τ sig Unit := ∑ p ∈ S, tallyAt (rvC (toD c p.1) p) () chN

theorem owedOf_erase (c : Dev nD) {S : Finset Hop} {p : Hop} (h : p ∈ S) :
    owedOf c S = owedOf c (S.erase p) + tallyAt (rvC (toD c p.1) p) () chN := (Finset.sum_erase_add _ _ h).symm

theorem owedOf_pos (c : Dev nD) (S : Finset Hop) (g : GSem nD τ sig) (u : Unit) (h : 0 < owedOf c S g u) :
    ∃ p ∈ S, g = rvC (toD c p.1) p := by
  have hs : owedOf c S g u = ∑ p ∈ S, tallyAt (rvC (toD c p.1) p) () chN g u := by
    clear h; unfold owedOf
    induction S using Finset.induction_on with
    | empty => rfl
    | insert p S hp ih => rw [Finset.sum_insert hp, Finset.sum_insert hp, ← ih]; rfl
  rw [hs] at h
  obtain ⟨p, hp, hne⟩ := Finset.exists_ne_zero_of_sum_ne_zero (Nat.pos_iff_ne_zero.mp h)
  refine ⟨p, hp, ?_⟩
  rw [tallyAt_apply] at hne
  by_cases hg : g = rvC (toD c p.1) p ∧ u = ()
  · exact hg.1
  · rw [if_neg hg] at hne; exact absurd rfl hne

/-- A wait on a cell of level at most `b`, while only sends above `b` are owed. -/
theorem mayWait_cut (c : Dev nD) (sm : SemLoc sig) (S : Finset Hop) (b : ℕ)
    (hb : lv ((c : Thread nD τ), sm) () ≤ b) (hS : ∀ p ∈ S, b < 2 + hopLv p.1) :
    (levAts L lv : sProp 𝕄) ⊢ MayWait (c : Thread nD τ) sm () (owedOf c S) :=
  MayOwe.of_cut (L := L) (lev := lv) b (fun p hp => by rw [Finset.mem_singleton.mp hp, L_tc]; exact Finset.mem_singleton_self _)
    (fun g u hg => by
      obtain ⟨p, -, rfl⟩ := owedOf_pos c S g u hg
      rw [L_tc]; exact Finset.mem_singleton_self _)
    (fun p hp => by rw [Finset.mem_singleton.mp hp]; exact hb)
    (fun g u hg => by
      obtain ⟨p, hp, rfl⟩ := owedOf_pos c S g u hg
      rw [show u = () from rfl, lv_rv]; exact hS p hp)

/-- The launch debt: every send, and a unit on each neighbour's barrier. -/
def O₀ (c : Dev nD) : CellTallies nD τ sig Unit :=
  owedOf c Finset.univ + tallyAt (barC (right c)) () 1 + tallyAt (barC (left c)) () 1

end Cert.KernelIdeal.Snake

end
-- ==== Proof.Sets.lean ====
/-
  The elements of the communication buffer and of the weights, cut into chunks, slots, expert rows.
-/
module

public import proofs.«01_k».proof.Proof.Protocol

@[expose] public section

set_option maxRecDepth 65536

noncomputable section

namespace Cert.KernelIdeal.Snake

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]
local notation "𝕄" => MT nD τ sig Unit (Elt F) ℕ UU ℕ

theorem mem_chSet (k : Fin 16) (j : Fin 8) (i : S16x128x1024.Idx) :
    i ∈ chSet k j ↔ (i 0).val = k.val ∧ (i 1).val / 16 = j.val := by
  have h : chSet k j = (Rect.unit (s := S16x128x1024) ![k.val, 16 * j.val, 0] S1x16x1024.size (inb_chunk k j)).set :=
    (View.set_reshape _ _).trans (View.set_slice_whole _ _)
  rw [h, Rect.mem_set_unit]
  constructor
  · intro H
    have h0 := H (0 : Fin 3); have h1 := H (1 : Fin 3)
    change k.val ≤ (i 0).val ∧ (i 0).val < k.val + 1 at h0
    change 16 * j.val ≤ (i 1).val ∧ (i 1).val < 16 * j.val + 16 at h1
    omega
  · rintro ⟨h0, h1⟩ a
    have h2 : (i 2).val < 1024 := (i 2).isLt
    match a with
    | 0 => show k.val ≤ (i 0).val ∧ (i 0).val < k.val + 1; omega
    | 1 => show 16 * j.val ≤ (i 1).val ∧ (i 1).val < 16 * j.val + 16; omega
    | 2 => show 0 ≤ (i 2).val ∧ (i 2).val < 0 + 1024; omega

theorem chSet_disjoint {k k' : Fin 16} {j j' : Fin 8} (h : (k, j) ≠ (k', j')) : Disjoint (chSet k j) (chSet k' j') := by
  rw [Finset.disjoint_left]
  intro i hi hi'
  rw [mem_chSet] at hi hi'
  exact h (Prod.ext (Fin.ext (hi.1.symm.trans hi'.1)) (Fin.ext (hi.2.symm.trans hi'.2)))

/-- Slot `k`, as its eight chunks. -/
def slotSet (k : Fin 16) : Finset S16x128x1024.Idx := Finset.univ.biUnion fun j : Fin 8 => chSet k j
theorem mem_slotSet (k : Fin 16) (i : S16x128x1024.Idx) : i ∈ slotSet k ↔ (i 0).val = k.val := by
  unfold slotSet
  rw [Finset.mem_biUnion]
  constructor
  · rintro ⟨j, -, hj⟩; exact ((mem_chSet k j i).mp hj).1
  · intro h
    have h1 : (i 1).val < 128 := (i 1).isLt
    exact ⟨⟨(i 1).val / 16, by omega⟩, Finset.mem_univ _, (mem_chSet _ _ _).mpr ⟨h, rfl⟩⟩

/-- Expert `s`'s rows of slot 0: two chunks. -/
def chLo (s : Fin 4) : Fin 8 := ⟨2 * s.val, by omega⟩
def chHi (s : Fin 4) : Fin 8 := ⟨2 * s.val + 1, by omega⟩
def rowsSet (s : Fin 4) : Finset S16x128x1024.Idx := chSet 0 (chLo s) ∪ chSet 0 (chHi s)
theorem mem_rowsSet (s : Fin 4) (i : S16x128x1024.Idx) : i ∈ rowsSet s ↔ (i 0).val = 0 ∧ (i 1).val / 32 = s.val := by
  unfold rowsSet
  rw [Finset.mem_union, mem_chSet, mem_chSet]
  show ((i 0).val = 0 ∧ _ = 2 * s.val) ∨ ((i 0).val = 0 ∧ _ = 2 * s.val + 1) ↔ _
  omega
theorem rows_disjoint_lo_hi (s : Fin 4) : Disjoint (chSet 0 (chLo s)) (chSet 0 (chHi s)) :=
  chSet_disjoint fun h => by have := congrArg (fun x => x.2.val) h; simp [chLo, chHi] at this

/-- The rectangle of the stores of an expert's rows, and of the loads of a slot. -/
theorem rowsRect_set (s : Fin 4) : comm.view.setOn (rowsRect s).set = rowsSet s := by
  show Finset.map (Function.Embedding.refl _) (rowsRect s).set = _
  rw [Finset.map_refl]
  ext i
  rw [mem_rowsSet]
  refine (Rect.mem_set_unit (s := S16x128x1024) (i := i)).trans ?_
  constructor
  · intro H
    have h0 := H (0 : Fin 3); have h1 := H (1 : Fin 3)
    change 0 ≤ (i 0).val ∧ (i 0).val < 0 + 1 at h0
    change 32 * s.val ≤ (i 1).val ∧ (i 1).val < 32 * s.val + 32 at h1
    omega
  · rintro ⟨h0, h1⟩ a
    have h2 : (i 2).val < 1024 := (i 2).isLt
    match a with
    | 0 => show 0 ≤ (i 0).val ∧ (i 0).val < 0 + 1; omega
    | 1 => show 32 * s.val ≤ (i 1).val ∧ (i 1).val < 32 * s.val + 32; omega
    | 2 => show 0 ≤ (i 2).val ∧ (i 2).val < 0 + 1024; omega
theorem slotRect_set (k : Fin 16) : comm.view.setOn (slotRect k).toLoadRect.set = slotSet k := by
  show Finset.map (Function.Embedding.refl _) (slotRect k).set = _
  rw [Finset.map_refl]
  ext i
  rw [mem_slotSet]
  refine (Rect.mem_set_unit (s := S16x128x1024) (i := i)).trans ?_
  constructor
  · intro H
    have h0 := H (0 : Fin 3)
    change k.val ≤ (i 0).val ∧ (i 0).val < k.val + 1 at h0
    omega
  · rintro h0 a
    have h1 : (i 1).val < 128 := (i 1).isLt
    have h2 : (i 2).val < 1024 := (i 2).isLt
    match a with
    | 0 => show k.val ≤ (i 0).val ∧ (i 0).val < k.val + 1; omega
    | 1 => show 0 ≤ (i 1).val ∧ (i 1).val < 0 + 128; omega
    | 2 => show 0 ≤ (i 2).val ∧ (i 2).val < 0 + 1024; omega

/-! ## The weights, expert by expert -/

theorem mem_ewSet (s : Fin 4) (i : S4x512x1024.Idx) : i ∈ ewSet s ↔ (i 0).val = s.val := by
  have h : ewSet s = (Rect.unit (s := S4x512x1024) ![s.val, 0, 0] S1x512x1024.size (inb_ew s)).set :=
    (View.set_reshape _ _).trans (View.set_slice_whole _ _)
  rw [h, Rect.mem_set_unit]
  constructor
  · intro H
    have h0 := H (0 : Fin 3)
    change s.val ≤ (i 0).val ∧ (i 0).val < s.val + 1 at h0
    omega
  · rintro h0 a
    have h1 : (i 1).val < 512 := (i 1).isLt
    have h2 : (i 2).val < 1024 := (i 2).isLt
    match a with
    | 0 => show s.val ≤ (i 0).val ∧ (i 0).val < s.val + 1; omega
    | 1 => show 0 ≤ (i 1).val ∧ (i 1).val < 0 + 512; omega
    | 2 => show 0 ≤ (i 2).val ∧ (i 2).val < 0 + 1024; omega
theorem ewSet_disjoint {s s' : Fin 4} (h : s ≠ s') : Disjoint (ewSet s) (ewSet s') := by
  rw [Finset.disjoint_left]
  intro i hi hi'
  rw [mem_ewSet] at hi hi'
  exact h (Fin.ext (hi.symm.trans hi'))
theorem ewSet_cover : (Finset.univ : Finset (Fin 4)).biUnion ewSet = Finset.univ := by
  ext i
  simp only [Finset.mem_biUnion, Finset.mem_univ, true_and, iff_true]
  exact ⟨i 0, (mem_ewSet _ _).mpr rfl⟩
theorem ewRect_set (s : Fin 4) : (Memref.whole cc0_scratch1).view.setOn (ewRect s).toLoadRect.set = ewSet s := by
  show Finset.map (Function.Embedding.refl _) (ewRect s).set = _
  rw [Finset.map_refl]
  exact ((View.set_reshape _ _).trans (View.set_slice_whole _ _)).symm

/-- A buffer's elements, cut into a disjoint family that covers it. -/
theorem pts_cover {T : Type} [Fintype T] [DecidableEq T] (ℓ : Loc nD τ sig) (K : T → Finset (Idx ℓ))
    (hd : ∀ t t', t ≠ t' → Disjoint (K t) (K t')) (hc : Finset.univ.biUnion K = Finset.univ) (q : PosShare TreeShare) (f : Buf (Elt F) ℓ) :
    (ℓ ↦{q} f : sProp 𝕄) = bigSep Finset.univ fun t => ℓ ↦[K t]{q} f := by
  rw [← pointsTo_biUnion Finset.univ K (fun t _ t' _ h => hd t t' h), hc]

/-- The communication buffer, as its chunks. -/
theorem chSet_cover : (Finset.univ : Finset (Fin 16 × Fin 8)).biUnion (fun p => chSet p.1 p.2) = Finset.univ := by
  ext i
  simp only [Finset.mem_biUnion, Finset.mem_univ, true_and, iff_true]
  have h1 : (i 1).val < 128 := (i 1).isLt
  exact ⟨(i 0, ⟨(i 1).val / 16, by omega⟩), (mem_chSet _ _ _).mpr ⟨rfl, rfl⟩⟩

end Cert.KernelIdeal.Snake

end
-- ==== Proof.State.lean ====
/-
  What a device holds between the steps of the ring phase, and what each step does to it.

  The state is four sets of hops — not yet sent, not yet received, sent and not yet waited for, not yet waited
  for — and the set of pieces of chunks in hand. A send takes a piece and a destination; a receive gives the
  three pieces of the chunk that landed; the wait for a send gives its piece back.
-/
module

public import proofs.«01_k».proof.Proof.Sets

@[expose] public section

set_option maxRecDepth 65536

noncomputable section

namespace Cert.KernelIdeal.Snake

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]
local notation "𝕄" => MT nD τ sig Unit (Elt F) ℕ UU ℕ

variable (v : Vals F) (K : GSem nD τ sig → ℕ)

/-! ## What every device knows -/

def scCells : Finset (GSem nD τ sig) := Finset.univ.image fun p : Dev nD × SK => scC p.1 p.2
def barCells : Finset (GSem nD τ sig) := Finset.univ.image barC

/-- Every cell's invariant, the scoped cells of this device open, the levels. -/
def Inv (c : Dev nD) : sProp 𝕄 :=
  iprop(bigSep (barCells ∪ scCells) (fun g => cellInv ER (rd v) (K g) g) ∗ bigSep Finset.univ (fun k : SK => reached ER (scC c k) 0)
    ∗ levAts L lv)

instance Inv_persistent (c : Dev nD) : BI.Persistent (Inv v K c) := by unfold Inv; infer_instance

theorem mem_scCells (c : Dev nD) (k : SK) : scC c k ∈ barCells ∪ scCells :=
  Finset.mem_union_right _ (Finset.mem_image.mpr ⟨(c, k), Finset.mem_univ _, rfl⟩)
theorem mem_barCells (c : Dev nD) : barC c ∈ barCells ∪ scCells :=
  Finset.mem_union_left _ (Finset.mem_image.mpr ⟨c, Finset.mem_univ _, rfl⟩)

theorem Inv_sc (c c' : Dev nD) (k : SK) : Inv v K c ⊢ cellInv ER (rd v) (K (scC c' k)) (scC c' k) := by
  unfold Inv
  iintro ⟨H, -⟩
  iapply (bs_elim (mem_scCells c' k) (Φ := fun g => cellInv ER (rd v) (K g) g))
  iexact H
theorem Inv_bar (c c' : Dev nD) : Inv v K c ⊢ cellInv ER (rd v) (K (barC c')) (barC c') := by
  unfold Inv
  iintro ⟨H, -⟩
  iapply (bs_elim (mem_barCells c') (Φ := fun g => cellInv ER (rd v) (K g) g))
  iexact H
theorem Inv_reached (c : Dev nD) (k : SK) : Inv v K c ⊢ reached ER (scC c k) 0 := by
  unfold Inv
  iintro ⟨-, H, -⟩
  iapply (bs_elim (Finset.mem_univ k) (Φ := fun k => reached ER (scC c k) 0))
  iexact H
theorem Inv_lev (c : Dev nD) : Inv v K c ⊢ levAts L lv := by
  unfold Inv
  iintro ⟨-, -, H⟩
  iexact H

/-- A finished cell is closed, its counter back at zero. -/
theorem close_sc (c : Dev nD) (k : SK) :
    iprop(Inv v K c ∗ atPos ER (scC c k) (0 + 1) ∅ 0) ⊢ (|={Set.univ}=> semVal (scC c k) 0 : sProp 𝕄) := by
  iintro ⟨H, Hat⟩
  iapply (Rounds.cell_close ER (rd v) (Set.mem_univ (K (scC c k))) id (duties_later v _))
  isplitl [H]; · iapply (Inv_sc v K c c k); iexact H
  iexact Hat

/-! ## The state -/

abbrev Pc := Fin 16 × Fin 8 × Fin 3

structure Sg where
  snd : Finset Hop
  rcv : Finset Hop
  out : Finset Hop
  nf : Finset Hop
  pcs : Finset Pc

def sndRes (c : Dev nD) (p : Hop) : sProp 𝕄 :=
  iprop(dutyTok ER (rvC (toD c p.1) p) 0 true ∗ dutyTok ER (sdC c p) 0 true
    ∗ (∃ f, chPts (toD c p.1) (dstS p.1) p.2 fullShare f) ∗ reached ER (rvC (toD c p.1) p) 0)
def rcvRes (c : Dev nD) (p : Hop) : sProp 𝕄 := iprop(atPos ER (rvC c p) 0 ∅ 0 ∗ cred (tallyAt (rvC c p) () chN))
def outRes (c : Dev nD) (p : Hop) : sProp 𝕄 := cred (tallyAt (sdC c p) () chN)
def nfRes (c : Dev nD) (p : Hop) : sProp 𝕄 := atPos ER (sdC c p) 0 ∅ 0
def pcRes (c : Dev nD) (q : Pc) : sProp 𝕄 := chPts c q.1 q.2.1 (sh q.2.2) (bufV v c)

/-- What device `c` holds in state `σ`. -/
def R (c : Dev nD) (σ : Sg) : sProp 𝕄 :=
  iprop(bigSep σ.snd (sndRes (F := F) c) ∗ bigSep σ.rcv (rcvRes (F := F) c) ∗ bigSep σ.rcvᶜ (fun p => semVal (rvC c p) 0) ∗ bigSep σ.out (outRes (F := F) c)
    ∗ bigSep σ.nf (nfRes (F := F) c) ∗ bigSep σ.nfᶜ (fun p => semVal (sdC c p) 0) ∗ bigSep σ.pcs (pcRes v c)
    ∗ ∃ W, owes (c : Thread nD τ) (owedOf c σ.snd) W)

def Sg.send (σ : Sg) (e : Fin 15) (j : Fin 8) : Sg :=
  { σ with snd := σ.snd.erase (e, j), out := insert (e, j) σ.out, pcs := σ.pcs.erase (srcS e, j, lend e) }
def Sg.recv (σ : Sg) (e : Fin 15) (j : Fin 8) : Sg :=
  { σ with rcv := σ.rcv.erase (e, j), pcs := insert (dstS e, j, 0) (insert (dstS e, j, 1) (insert (dstS e, j, 2) σ.pcs)) }
def Sg.fin (σ : Sg) (e : Fin 15) (j : Fin 8) : Sg :=
  { σ with out := σ.out.erase (e, j), nf := σ.nf.erase (e, j), pcs := insert (srcS e, j, lend e) σ.pcs }

abbrev WP (c : Dev nD) (p : P F) (Q : PUnit → sProp 𝕄) : sProp 𝕄 := wp frame (wpE (defs₀ (F := F)) 𝒱₀ (c : Thread nD τ) none) Set.univ p Q

variable {c : Dev nD}

/-! ## A send -/

theorem sendP_bind (E : Env F) (e : Fin 15) (j : Fin 8) (k : PUnit → P F) :
    (sendP E e j >>= k) = .op (.enqueueDma (chunk (srcS e) j) (.remote (Dev.tc (E.to e)) (chunk (dstS e) j) (.dma (sSem e j))) (.dma (rSem e j))
      (chunk_words _ _) (chunk_words _ _) ⟨⟨rfl, Or.inl rfl⟩, trivial⟩) (fun _ => k ⟨⟩) := rfl

theorem send_core (d : Dev nD) (e : Fin 15) (j : Fin 8) (hd : d = toD c e) (k : PUnit → P F) (Q : PUnit → sProp 𝕄)
    (fd : Buf (Elt F) ((d : Thread nD τ).loc cc0_scratch2)) (O O' : CellTallies nD τ sig Unit)
    (hO : O' = O + tallyAt (rvC d (e, j)) () chN) (W : Waits sig Unit) :
    iprop(cellInv ER (rd v) (K (sdC c (e, j))) (sdC c (e, j)) ∗ cellInv ER (rd v) (K (rvC d (e, j))) (rvC d (e, j))
        ∗ chPts c (srcS e) j (sh (lend e)) (bufV v c) ∗ chPts d (dstS e) j fullShare fd ∗ owes (c : Thread nD τ) O' W
        ∗ dutyTok ER (sdC c (e, j)) 0 true ∗ reached ER (sdC c (e, j)) 0
        ∗ dutyTok ER (rvC d (e, j)) 0 true ∗ reached ER (rvC d (e, j)) 0)
      ⊢ iprop(((cred (tallyAt (sdC c (e, j)) () chN) ∗ owes (c : Thread nD τ) O W) -∗ WP c (k ⟨⟩) Q)
        -∗ WP c (.op (.enqueueDma (chunk (srcS e) j) (.remote (Dev.tc d) (chunk (dstS e) j) (.dma (sSem e j))) (.dma (rSem e j))
      (chunk_words _ _) (chunk_words _ _) ⟨⟨rfl, Or.inl rfl⟩, trivial⟩) (fun _ => k ⟨⟩)) Q) := by
  subst hd
  exact Rounds.wp_send_pointsTo 𝒱₀ ER (rd v) (c : Thread nD τ) none (c' := (toD c e : Thread nD τ)) (src := chunk (srcS e) j) (dst := chunk (dstS e) j)
    (sS := .dma (sSem e j)) (sem := .dma (rSem e j)) (q := sh (lend e)) (fs := bufV v c) (fd := fd)
    (κ₁ := K (sdC c (e, j))) (κ₂ := K (rvC (toD c e) (e, j))) (r₁ := 0) (r₂ := 0) (d₁ := true) (d₂ := true) (defs := defs₀ (F := F)) (Es := Set.univ) (k := fun _ => k ⟨⟩) (Q := Q)
    (hsrc := chunk_words _ _) (hdst := chunk_words _ _) (hsem := ⟨⟨rfl, Or.inl rfl⟩, trivial⟩)
    (by have h := duties_sc v c (sdK (e, j)); exact h ▸ Finset.mem_singleton_self _)
    (by have h := duties_sc v (toD c e) (rvK (e, j)); exact h ▸ Finset.mem_singleton_self _)
    () () chN rfl (amount_sc v c (sdK (e, j)) true) (amount_sc v (toD c e) (rvK (e, j)) true) O hO (W := W)
    (Entails.of_eq (payload_sc v c (sdK (e, j)) true).symm)
    ((Entails.of_eq (landed_eq v c e j fd)).trans (Entails.of_eq (payload_sc v (toD c e) (rvK (e, j)) true).symm))

theorem send_step (E : Env F) (hE : ∀ e, E.to e = toD c e) (σ : Sg) (e : Fin 15) (j : Fin 8) (k : PUnit → P F) (Q : PUnit → sProp 𝕄)
    (h₁ : (e, j) ∈ σ.snd) (h₂ : (srcS e, j, lend e) ∈ σ.pcs) (h₃ : (e, j) ∉ σ.out) :
    iprop(Inv v K c ∗ R v c σ) ⊢ iprop((R v c (σ.send e j) -∗ WP c (k ⟨⟩) Q) -∗ WP c (sendP E e j >>= k) Q) := by
  rw [sendP_bind, hE e]
  unfold R Sg.send
  iintro ⟨#HI, ⟨Hs, Hr, Hrz, Ho, Hn, Hnz, Hp, %W, HO⟩⟩ Hk
  ihave Hs := (Entails.of_eq (bs_erase h₁)) $$ Hs
  icases Hs with ⟨Hs1, Hs⟩
  unfold sndRes
  icases Hs1 with ⟨Ht1, Ht2, ⟨%fd, Hd⟩, Hre⟩
  ihave Hp := (Entails.of_eq (bs_erase h₂)) $$ Hp
  icases Hp with ⟨Hp1, Hp⟩
  iapply (send_core v K (toD c e) e j rfl k Q fd (owedOf c (σ.snd.erase (e, j))) _ (owedOf_erase c h₁) W) $$ [Hp1 Hd HO Ht1 Ht2 Hre]
  · isplitr; · iapply (Inv_sc v K c c (sdK (e, j))); iexact HI
    isplitr; · iapply (Inv_sc v K c (toD c e) (rvK (e, j))); iexact HI
    isplitl [Hp1]; · unfold pcRes; iexact Hp1
    isplitl [Hd]; · iexact Hd
    isplitl [HO]; · iexact HO
    isplitl [Ht2]; · iexact Ht2
    isplitr; · iapply (Inv_reached v K c (sdK (e, j))); iexact HI
    isplitl [Ht1]; · iexact Ht1
    iexact Hre
  iintro ⟨Hc, HO⟩
  iapply Hk
  isplitl [Hs]; · iexact Hs
  isplitl [Hr]; · iexact Hr
  isplitl [Hrz]; · iexact Hrz
  isplitl [Ho Hc]
  · rw [bs_insert h₃]
    isplitl [Hc]; · unfold outRes; iexact Hc
    iexact Ho
  isplitl [Hn]; · iexact Hn
  isplitl [Hnz]; · iexact Hnz
  isplitl [Hp]; · iexact Hp
  iexists W; iexact HO

/-! ## A receive -/

theorem compl_erase_eq (s : Finset Hop) (p : Hop) : (s.erase p)ᶜ = insert p sᶜ := Finset.compl_erase

/-- A wait for one of the device's scoped cells, and its closing. -/
theorem wait_sc (k : SK) (w : TpuEff nD τ sig (Elt F) Λ₀ .tc PUnit) (m : PUnit → P F) (Q : PUnit → sProp 𝕄) (S : Finset Hop) (W : Waits sig Unit)
    (hw : ∀ Q' : PUnit → sProp 𝕄, wpE (defs₀ (F := F)) 𝒱₀ (c : Thread nD τ) none Set.univ w Q' = waitSpec (c : Thread nD τ) Set.univ (.dma (semOf k)) (scAmt k) Q')
    (hl : ∀ p ∈ S, lv (scC c k) () < 2 + hopLv p.1) :
    iprop(Inv v K c ∗ cred (tallyAt (scC c k) () (scAmt k)) ∗ owes (c : Thread nD τ) (owedOf c S) W ∗ atPos ER (scC c k) 0 ∅ 0)
      ⊢ iprop((((∃ W, owes (c : Thread nD τ) (owedOf c S) W) ∗ semVal (scC c k) 0 ∗ scPay v c k) -∗ WP c (m ⟨⟩) Q) -∗ WP c (.op w m) Q) := by
  iintro ⟨#HI, Hc, HO, Hat⟩ Hk
  iapply (Rounds.wp_wait_rest_token 𝒱₀ ER (rd v) (c : Thread nD τ) none (κ := K (scC c k)) hw (Set.mem_univ _) () (O := owedOf c S) (W := W) (R := 0) (m := 0) (T := ∅)
      ((Nat.zero_add _).trans (expect_sc v c k).symm)) $$ [Hc HO Hat]
  · isplitr; · iapply (Inv_sc v K c c k); iexact HI
    isplitl [Hc]; · iexact Hc
    isplitl [HO]; · iexact HO
    isplitr
    · iapply (mayWait_cut c (.dma (semOf k)) S (lv (scC c k) ()) le_rfl hl)
      iapply (Inv_lev v K c); iexact HI
    iexact Hat
  iintro ⟨HO, Hat, -, Hpay⟩
  imod (close_sc v K c k) $$ [Hat] with Hz
  · isplitr; · iexact HI
    iexact Hat
  iapply Hk
  isplitl [HO]; · iexists _; iexact HO
  isplitl [Hz]; · iexact Hz
  iapply (Entails.of_eq (rest_sc v c k)); iexact Hpay

theorem recv_step (σ : Sg) (e : Fin 15) (j : Fin 8) (k : PUnit → P F) (Q : PUnit → sProp 𝕄)
    (h₁ : (e, j) ∈ σ.rcv) (h₂ : ∀ p ∈ σ.snd, hopLv e < hopLv p.1)
    (h₃ : (dstS e, j, (0 : Fin 3)) ∉ σ.pcs) (h₄ : (dstS e, j, (1 : Fin 3)) ∉ σ.pcs) (h₅ : (dstS e, j, (2 : Fin 3)) ∉ σ.pcs) :
    iprop(Inv v K c ∗ R v c σ) ⊢ iprop((R v c (σ.recv e j) -∗ WP c (k ⟨⟩) Q) -∗ WP c (recvP e j >>= k) Q) := by
  rw [show (recvP (F := F) e j >>= k) = .op (.waitDma2 (rSem e j) (chunk (srcS e) j) (chunk (dstS e) j) (chunk_words _ _) (chunk_words _ _)) (fun _ => k ⟨⟩) from rfl]
  unfold R Sg.recv
  iintro ⟨#HI, ⟨Hs, Hr, Hrz, Ho, Hn, Hnz, Hp, %W, HO⟩⟩ Hk
  ihave Hr := (Entails.of_eq (bs_erase h₁)) $$ Hr
  icases Hr with ⟨Hr1, Hr⟩
  unfold rcvRes
  icases Hr1 with ⟨Hat, Hc⟩
  iapply (wait_sc v K (rvK (e, j)) (.waitDma2 (rSem e j) (chunk (srcS e) j) (chunk (dstS e) j) (chunk_words _ _) (chunk_words _ _)) (fun _ => k ⟨⟩) Q σ.snd W (fun _ => wpE_waitDma2_eq 𝒱₀ (c : Thread nD τ) none Set.univ _)
    (fun p hp => by have := h₂ p hp; rw [lv_rv]; show 2 + hopLv e < _; omega)) $$ [Hc HO Hat]
  · isplitr; · iexact HI
    isplitl [Hc]; · iexact Hc
    isplitl [HO]; · iexact HO
    iexact Hat
  iintro ⟨HO, Hz, Hpay⟩
  iapply Hk
  dsimp only
  rw [compl_erase_eq, bs_insert (by rw [Finset.mem_compl, not_not]; exact h₁)]
  rw [bs_insert (by rw [Finset.mem_insert, Finset.mem_insert, not_or, not_or]; exact ⟨by simp, by simp, h₃⟩),
    bs_insert (by rw [Finset.mem_insert, not_or]; exact ⟨by simp, h₄⟩), bs_insert h₅]
  isplitl [Hs]; · iexact Hs
  isplitl [Hr]; · iexact Hr
  isplitl [Hrz Hz]
  · isplitl [Hz]; · iexact Hz
    iexact Hrz
  isplitl [Ho]; · iexact Ho
  isplitl [Hn]; · iexact Hn
  isplitl [Hnz]; · iexact Hnz
  isplitl [Hp Hpay]
  · unfold scPay rvPay
    ihave Hpay := (pts_pieces _ _ _).1 $$ Hpay
    icases Hpay with ⟨H0, H1, H2⟩
    unfold pcRes
    isplitl [H0]; · iexact H0
    isplitl [H1]; · iexact H1
    isplitl [H2]; · iexact H2
    iexact Hp
  iexact HO

theorem fin_step (σ : Sg) (e : Fin 15) (j : Fin 8) (k : PUnit → P F) (Q : PUnit → sProp 𝕄)
    (h₁ : (e, j) ∈ σ.out) (h₂ : (e, j) ∈ σ.nf) (h₃ : (srcS e, j, lend e) ∉ σ.pcs) :
    iprop(Inv v K c ∗ R v c σ) ⊢ iprop((R v c (σ.fin e j) -∗ WP c (k ⟨⟩) Q) -∗ WP c (finP e j >>= k) Q) := by
  rw [show (finP (F := F) e j >>= k) = .op (.waitDma2 (sSem e j) (chunk (dstS e) j) (chunk (srcS e) j) (chunk_words _ _) (chunk_words _ _)) (fun _ => k ⟨⟩) from rfl]
  unfold R Sg.fin
  iintro ⟨#HI, ⟨Hs, Hr, Hrz, Ho, Hn, Hnz, Hp, %W, HO⟩⟩ Hk
  ihave Ho := (Entails.of_eq (bs_erase h₁)) $$ Ho
  icases Ho with ⟨Hc, Ho⟩
  ihave Hn := (Entails.of_eq (bs_erase h₂)) $$ Hn
  icases Hn with ⟨Hat, Hn⟩
  unfold outRes nfRes
  iapply (wait_sc v K (sdK (e, j)) (.waitDma2 (sSem e j) (chunk (dstS e) j) (chunk (srcS e) j) (chunk_words _ _) (chunk_words _ _)) (fun _ => k ⟨⟩) Q σ.snd W (fun _ => wpE_waitDma2_eq 𝒱₀ (c : Thread nD τ) none Set.univ _)
    (fun p hp => by rw [lv_sd]; omega)) $$ [Hc HO Hat]
  · isplitr; · iexact HI
    isplitl [Hc]; · iexact Hc
    isplitl [HO]; · iexact HO
    iexact Hat
  iintro ⟨HO, Hz, Hpay⟩
  iapply Hk
  dsimp only
  rw [compl_erase_eq, bs_insert (by rw [Finset.mem_compl, not_not]; exact h₂), bs_insert h₃]
  isplitl [Hs]; · iexact Hs
  isplitl [Hr]; · iexact Hr
  isplitl [Hrz]; · iexact Hrz
  isplitl [Ho]; · iexact Ho
  isplitl [Hn]; · iexact Hn
  isplitl [Hnz Hz]
  · isplitl [Hz]; · iexact Hz
    iexact Hnz
  isplitl [Hp Hpay]
  · unfold scPay sdPay
    isplitl [Hpay]; · unfold pcRes; iexact Hpay
    iexact Hp
  iexact HO

end Cert.KernelIdeal.Snake

end
-- ==== Proof.Ring.lean ====
/-
  The remaining steps — one expert's rows, one slot's contribution — and the run of a list of steps.
-/
module

public import proofs.«01_k».proof.Proof.State

@[expose] public section

set_option maxRecDepth 65536

noncomputable section

namespace Cert.KernelIdeal.Snake

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]
local notation "𝕄" => MT nD τ sig Unit (Elt F) ℕ UU ℕ

variable (v : Vals F) (K : GSem nD τ sig → ℕ)
variable {c : Dev nD}

/-! ## One slot's contribution -/

abbrev outPts (c : Dev nD) (o : Vec F S128x1024 .f32) : sProp 𝕄 :=
  (c : Thread nD τ).loc cc0_stg3_0 ↦{fullShare} (o : (⟨S128x1024, .f32⟩ : BufTy).Contents (Elt F))

/-- What a load of slot `k` reads, once it is filled. -/
def slotVal (c : Dev nD) (k : Fin 16) : Vec F S1x128x1024 .bf16 := comm.view.readAt (Elt F) (slotRect k).toLoadRect (bufV v c)

/-- The kept pieces of a slot's chunks. -/
def slotPcs (k : Fin 16) : Finset Pc := Finset.univ.image fun j : Fin 8 => (k, j, (0 : Fin 3))

theorem slotPcs_eq (k : Fin 16) : (bigSep (slotPcs k) (pcRes v c) : sProp 𝕄)
    = ((c : Thread nD τ).loc cc0_scratch2 ↦[slotSet k]{sh 0} bufV v c) := by
  unfold slotPcs slotSet
  rw [bigSep_image_of_injOn (fun a _ b _ h => by simpa using h)]
  have h : ((c : Thread nD τ).loc cc0_scratch2 ↦[Finset.univ.biUnion fun j : Fin 8 => chSet k j]{sh 0} bufV v c : sProp 𝕄)
      = bigSep Finset.univ fun j : Fin 8 => chPts c k j (sh 0) (bufV v c) :=
    pointsTo_biUnion (ℓ := (c : Thread nD τ).loc cc0_scratch2) Finset.univ (fun j : Fin 8 => chSet k j)
      (fun j _ j' _ h => chSet_disjoint fun e => h (congrArg Prod.snd e))
  rw [h]
  rfl

theorem pcs_split {T S : Finset Pc} (h : T ⊆ S) : (bigSep S (pcRes v c) : sProp 𝕄)
    = iprop(bigSep T (pcRes v c) ∗ bigSep (S \ T) (pcRes v c)) := BI.bigSep_sdiff_split h

theorem slot_open (k : Fin 16) {S : Finset Pc} (h : slotPcs k ⊆ S) : (bigSep S (pcRes v c) : sProp 𝕄)
    = iprop(((c : Thread nD τ).loc cc0_scratch2 ↦[slotSet k]{sh 0} bufV v c) ∗ bigSep (S \ slotPcs k) (pcRes v c)) := by
  rw [pcs_split v h, slotPcs_eq]

theorem wp_load_comm (S : Finset S16x128x1024.Idx) (q : PosShare TreeShare) (f : Buf (Elt F) ((c : Thread nD τ).loc cc0_scratch2))
    (r : LoadRect S16x128x1024) {hl} (m : (r.shape.Idx → Elt F .bf16) → P F) (Q : PUnit → sProp 𝕄)
    (hS : comm.view.setOn r.set ⊆ S) :
    ((c : Thread nD τ).loc cc0_scratch2 ↦[S]{q} f : sProp 𝕄)
      ⊢ iprop((((c : Thread nD τ).loc cc0_scratch2 ↦[S]{q} f) -∗ WP c (m (comm.view.readAt (Elt F) r f)) Q) -∗ WP c (.op (.load comm r hl) m) Q) :=
  wp_load 𝒱₀ (c : Thread nD τ) none Set.univ (m := comm) (r := r) (S := S) hS

theorem wp_load_slot (k : Fin 16) {hl} (m : Vec F S1x128x1024 .bf16 → P F) (Q : PUnit → sProp 𝕄) (σ : Sg) (h : slotPcs k ⊆ σ.pcs) :
    (R v c σ) ⊢ iprop((R v c σ -∗ WP c (m (slotVal v c k)) Q)
      -∗ WP c (.op (.load comm (slotRect k).toLoadRect hl) m) Q) := by
  unfold R
  rw [slot_open v k h]
  iintro ⟨Hs, Hr, Hrz, Ho, Hn, Hnz, ⟨Hp1, Hp⟩, HO⟩ Hk
  iapply (wp_load_comm (slotSet k) (sh 0) (bufV v c) (slotRect k).toLoadRect m Q (slotRect_set k).subset) $$ Hp1
  iintro Hp1
  iapply Hk
  isplitl [Hs]; · iexact Hs
  isplitl [Hr]; · iexact Hr
  isplitl [Hrz]; · iexact Hrz
  isplitl [Ho]; · iexact Ho
  isplitl [Hn]; · iexact Hn
  isplitl [Hnz]; · iexact Hnz
  isplitl [Hp1 Hp]
  · isplitl [Hp1]; · iexact Hp1
    iexact Hp
  iexact HO

theorem off2_zero : (![0, 0] : Fin 2 → Nat) = fun _ => 0 := by funext a; fin_cases a <;> rfl

theorem wp_load_out {hl} (m : Vec F S128x1024 .f32 → P F) (Q : PUnit → sProp 𝕄) (o : Vec F S128x1024 .f32) :
    (outPts c o) ⊢ iprop((outPts c o -∗ WP c (m o) Q) -∗ WP c (.op (.load outM outRect.toLoadRect hl) m) Q) := by
  have h : (outPts c o) ⊢ iprop((outPts c o -∗ WP c (m (outM.view.readAt (Elt F) outRect.toLoadRect o)) Q)
      -∗ WP c (.op (.load outM outRect.toLoadRect hl) m) Q) :=
    wp_load 𝒱₀ (c : Thread nD τ) none Set.univ (m := outM) (r := outRect.toLoadRect) (S := Finset.univ) (Finset.subset_univ _)
  have e : outM.view.readAt (Elt F) outRect.toLoadRect o = o := Memref.readAt_unit_zero (Elt F) cc0_stg3_0 off2_zero _ o
  rw [e] at h
  exact h

theorem wp_store_out {hx hm} (m : PUnit → P F) (Q : PUnit → sProp 𝕄) (o w : Vec F S128x1024 .f32) :
    (outPts c o) ⊢ iprop((outPts c w -∗ WP c (m ⟨⟩) Q) -∗ WP c (.op (.store outM outRect w Finset.univ hx hm) m) Q) := by
  have h : (outPts c o) ⊢ iprop((outPts c ((outM.access outRect).write (Elt F) o w Finset.univ) -∗ WP c (m ⟨⟩) Q)
      -∗ WP c (.op (.store outM outRect w Finset.univ hx hm) m) Q) :=
    wp_store 𝒱₀ (c : Thread nD τ) none Set.univ (m := outM) (r := outRect) (S := Finset.univ) (Finset.subset_univ _)
  have e : (outM.access outRect).write (Elt F) o w Finset.univ = w := Memref.write_access_unit_zero_univ (Elt F) cc0_stg3_0 off2_zero _ o w
  rw [e] at h
  exact h

/-- One contribution added. -/
def accV (c : Dev nD) (g : FVec F S1x128 .f32) (kept : IVec S1x128 1) (io : IVec S128x128 32) (k : Fin 16) (o : Vec F S128x1024 .f32) : Vec F S128x1024 .f32 :=
  addf (shapeCast S128x1024 o shapeCasts_S128x1024_S128x1024) (contrib k g kept io (slotVal v c k))

theorem acc_step (g : FVec F S1x128 .f32) (kept : IVec S1x128 1) (io : IVec S128x128 32) (σ : Sg) (a : Fin 16) (o : Vec F S128x1024 .f32)
    (k : PUnit → P F) (Q : PUnit → sProp 𝕄) (h : slotPcs a ⊆ σ.pcs) :
    iprop(R v c σ ∗ outPts c o) ⊢ iprop(((R v c σ ∗ outPts c (accV v c g kept io a o)) -∗ WP c (k ⟨⟩) Q) -∗ WP c (accP g kept io a >>= k) Q) := by
  iintro ⟨HR, Ho⟩ Hk
  iapply (wp_load_out (fun o => (do
    let w : Vec F S1x128x1024 .bf16 ← Prog.lift (.load comm (slotRect a).toLoadRect (View.loadsAt_vmem h_S1x128x1024))
    let _o : Vec F S128x1024 .f32 ← Prog.lift (.load outM outRect.toLoadRect (View.loadsAt_vmem h_S128x1024))
    Prog.lift (.store outM outRect (addf (shapeCast S128x1024 o shapeCasts_S128x1024_S128x1024) (contrib a g kept io w)) Finset.univ
      (View.stores_vmem_bits_univ h_S128x1024 rfl) (.inl rfl)) : P F) >>= k) Q o) $$ Ho
  iintro Ho
  iapply (wp_load_slot v a (fun w => (do
    let _o : Vec F S128x1024 .f32 ← Prog.lift (.load outM outRect.toLoadRect (View.loadsAt_vmem h_S128x1024))
    Prog.lift (.store outM outRect (addf (shapeCast S128x1024 o shapeCasts_S128x1024_S128x1024) (contrib a g kept io w)) Finset.univ
      (View.stores_vmem_bits_univ h_S128x1024 rfl) (.inl rfl)) : P F) >>= k) Q σ h) $$ HR
  iintro HR
  iapply (wp_load_out (fun _ => (Prog.lift (.store outM outRect (accV v c g kept io a o) Finset.univ
      (View.stores_vmem_bits_univ h_S128x1024 rfl) (.inl rfl)) : P F) >>= k) Q o) $$ Ho
  iintro Ho
  iapply (wp_store_out k Q o (accV v c g kept io a o)) $$ Ho
  iintro Ho
  iapply Hk
  isplitl [HR]; · iexact HR
  iexact Ho

/-! ## A list of steps -/

/-- The state after a step. -/
def Sg.step (σ : Sg) : Step → Sg
  | .send e j => σ.send e j
  | .recv e j => σ.recv e j
  | .acc _ => σ
  | .fin e j => σ.fin e j
def Sg.run (σ : Sg) : List Step → Sg
  | [] => σ
  | a :: l => (σ.step a).run l

/-- A step may be taken in a state. -/
def Sg.ok (σ : Sg) : Step → Bool
  | .send e j => decide ((e, j) ∈ σ.snd) && decide ((srcS e, j, lend e) ∈ σ.pcs) && decide ((e, j) ∉ σ.out)
  | .recv e j => decide ((e, j) ∈ σ.rcv) && decide (∀ p ∈ σ.snd, hopLv e < hopLv p.1) && decide ((dstS e, j, (0 : Fin 3)) ∉ σ.pcs)
      && decide ((dstS e, j, (1 : Fin 3)) ∉ σ.pcs) && decide ((dstS e, j, (2 : Fin 3)) ∉ σ.pcs)
  | .acc k => decide (slotPcs k ⊆ σ.pcs)
  | .fin e j => decide ((e, j) ∈ σ.out) && decide ((e, j) ∈ σ.nf) && decide ((srcS e, j, lend e) ∉ σ.pcs)
def Sg.okL (σ : Sg) : List Step → Bool
  | [] => true
  | a :: l => σ.ok a && (σ.step a).okL l

/-- The output block after a list of steps. -/
def outAfter (c : Dev nD) (g : FVec F S1x128 .f32) (kept : IVec S1x128 1) (io : IVec S128x128 32) : List Step → Vec F S128x1024 .f32 → Vec F S128x1024 .f32
  | [], o => o
  | .acc k :: l, o => outAfter c g kept io l (accV v c g kept io k o)
  | _ :: l, o => outAfter c g kept io l o

theorem run_steps (E : Env F) (hE : ∀ e, E.to e = toD c e) (g : FVec F S1x128 .f32) (kept : IVec S1x128 1) (io : IVec S128x128 32)
    (k : PUnit → P F) (Q : PUnit → sProp 𝕄) (l : List Step) : ∀ (σ : Sg) (o : Vec F S128x1024 .f32), σ.okL l = true →
    (iprop(Inv v K c ∗ R v c σ ∗ outPts c o) ⊢ iprop(((R v c (σ.run l) ∗ outPts c (outAfter v c g kept io l o)) -∗ WP c (k ⟨⟩) Q)
      -∗ WP c (runL (Step.prog E g kept io) l >>= k) Q)) := by
  induction l with
  | nil =>
    intro σ o _
    show _ ⊢ iprop(_ -∗ WP c (k ⟨⟩) Q)
    iintro ⟨-, HR, Ho⟩ Hk
    iapply Hk
    isplitl [HR]; · iexact HR
    iexact Ho
  | cons a l ih =>
    intro σ o hok
    simp only [Sg.okL, Bool.and_eq_true] at hok
    have ih' := ih (σ.step a)
    cases a with
    | send e j =>
      obtain ⟨h, hl⟩ := hok
      simp only [Sg.ok, Bool.and_eq_true, decide_eq_true_eq] at h
      show _ ⊢ iprop(_ -∗ WP c (sendP E e j >>= fun _ => runL (Step.prog E g kept io) l >>= k) Q)
      iintro ⟨#HI, HR, Ho⟩ Hk
      iapply (send_step v K E hE σ e j (fun _ => runL (Step.prog E g kept io) l >>= k) Q h.1.1 h.1.2 h.2) $$ [HR]
      · isplitr; · iexact HI
        iexact HR
      iintro HR
      iapply (ih' o hl) $$ [HR Ho]
      · isplitr; · iexact HI
        isplitl [HR]; · iexact HR
        iexact Ho
      iexact Hk
    | recv e j =>
      obtain ⟨h, hl⟩ := hok
      simp only [Sg.ok, Bool.and_eq_true, decide_eq_true_eq] at h
      show _ ⊢ iprop(_ -∗ WP c (recvP e j >>= fun _ => runL (Step.prog E g kept io) l >>= k) Q)
      iintro ⟨#HI, HR, Ho⟩ Hk
      iapply (recv_step v K σ e j (fun _ => runL (Step.prog E g kept io) l >>= k) Q h.1.1.1.1 h.1.1.1.2 h.1.1.2 h.1.2 h.2) $$ [HR]
      · isplitr; · iexact HI
        iexact HR
      iintro HR
      iapply (ih' o hl) $$ [HR Ho]
      · isplitr; · iexact HI
        isplitl [HR]; · iexact HR
        iexact Ho
      iexact Hk
    | acc a =>
      obtain ⟨h, hl⟩ := hok
      simp only [Sg.ok, decide_eq_true_eq] at h
      show _ ⊢ iprop(_ -∗ WP c (accP g kept io a >>= fun _ => runL (Step.prog E g kept io) l >>= k) Q)
      iintro ⟨#HI, HR, Ho⟩ Hk
      iapply (acc_step v g kept io σ a o (fun _ => runL (Step.prog E g kept io) l >>= k) Q h) $$ [HR Ho]
      · isplitl [HR]; · iexact HR
        iexact Ho
      iintro ⟨HR, Ho⟩
      iapply (ih' _ hl) $$ [HR Ho]
      · isplitr; · iexact HI
        isplitl [HR]; · iexact HR
        iexact Ho
      iexact Hk
    | fin e j =>
      obtain ⟨h, hl⟩ := hok
      simp only [Sg.ok, Bool.and_eq_true, decide_eq_true_eq] at h
      show _ ⊢ iprop(_ -∗ WP c (finP e j >>= fun _ => runL (Step.prog E g kept io) l >>= k) Q)
      iintro ⟨#HI, HR, Ho⟩ Hk
      iapply (fin_step v K σ e j (fun _ => runL (Step.prog E g kept io) l >>= k) Q h.1.1 h.1.2 h.2) $$ [HR]
      · isplitr; · iexact HI
        iexact HR
      iintro HR
      iapply (ih' o hl) $$ [HR Ho]
      · isplitr; · iexact HI
        isplitl [HR]; · iexact HR
        iexact Ho
      iexact Hk

/-! ## One expert's rows -/

/-- What a load of expert `s`'s weights reads. -/
def ewVal (c : Dev nD) (s : Fin 4) : Vec F S1x512x1024 .f32 :=
  (Memref.whole cc0_scratch1).view.readAt (Elt F) (ewRect s).toLoadRect (v.w c : (⟨S4x512x1024, .f32⟩ : BufTy).Contents (Elt F))

/-- The pieces of expert `s`'s two chunks. -/
def expPcs (s : Fin 4) (S : Finset Pc) : Finset Pc :=
  insert (0, chLo s, 0) (insert (0, chLo s, 1) (insert (0, chLo s, 2) (insert (0, chHi s, 0) (insert (0, chHi s, 1) (insert (0, chHi s, 2) S)))))
def Sg.exp (σ : Sg) (s : Fin 4) : Sg := { σ with pcs := expPcs s σ.pcs }
def Sg.okE (σ : Sg) (s : Fin 4) : Bool :=
  decide (∀ t : Fin 3, ((0 : Fin 16), chLo s, t) ∉ σ.pcs) && decide (∀ t : Fin 3, ((0 : Fin 16), chHi s, t) ∉ σ.pcs)

def expRes (c : Dev nD) (s : Fin 4) : sProp 𝕄 :=
  iprop(atPos ER (ldC c s.succ) 0 ∅ 0 ∗ cred (tallyAt (ldC c s.succ) () (scAmt (ldK s.succ)))
    ∗ ∃ f, (c : Thread nD τ).loc cc0_scratch2 ↦[rowsSet s]{fullShare} f)
def expDone (c : Dev nD) (s : Fin 4) : sProp 𝕄 := iprop(semVal (ldC c s.succ) 0 ∗ wPay v c s)

abbrev xPts (c : Dev nD) : sProp 𝕄 :=
  (c : Thread nD τ).loc cc0_scratch0 ↦{fullShare} (v.x c : (⟨S2048x512, .f32⟩ : BufTy).Contents (Elt F))

/-- The rows `blk` names are those expert `s` computes of the device's activations and weights. -/
def GoodE (c : Dev nD) (s : Fin 4) (ps : FVec F S128x2048 .f32) : Prop :=
  ∀ y : S1x32x1024.Idx, expertVal s ps (v.x c : (⟨S2048x512, .f32⟩ : BufTy).Contents (Elt F)) (ewVal v c s) y = bufV v c ((rowsRect s).emb y)

theorem insertPcs (k : Fin 16) (j : Fin 8) (S : Finset Pc) (h : ∀ t : Fin 3, (k, j, t) ∉ S) :
    iprop(chPts c k j fullShare (bufV v c) ∗ bigSep S (pcRes v c))
      ⊢ (bigSep (insert (k, j, 0) (insert (k, j, 1) (insert (k, j, 2) S))) (pcRes v c) : sProp 𝕄) := by
  rw [bs_insert (by rw [Finset.mem_insert, Finset.mem_insert, not_or, not_or]; exact ⟨by simp, by simp, h 0⟩),
    bs_insert (by rw [Finset.mem_insert, not_or]; exact ⟨by simp, h 1⟩), bs_insert (h 2)]
  iintro ⟨H, HS⟩
  ihave H := (pts_pieces _ _ _).1 $$ H
  icases H with ⟨H0, H1, H2⟩
  unfold pcRes
  isplitl [H0]; · iexact H0
  isplitl [H1]; · iexact H1
  isplitl [H2]; · iexact H2
  iexact HS

/-- The rows of expert `s`, stored over anything, are the device's function there. -/
theorem rows_written (s : Fin 4) (ps : FVec F S128x2048 .f32) (hG : GoodE v c s ps) (f : Buf (Elt F) ((c : Thread nD τ).loc cc0_scratch2)) :
    ((c : Thread nD τ).loc cc0_scratch2 ↦[rowsSet s]{fullShare} ((comm.access (rowsRect s)).write (Elt F) f
      (expertVal s ps (v.x c : (⟨S2048x512, .f32⟩ : BufTy).Contents (Elt F)) (ewVal v c s)) Finset.univ) : sProp 𝕄)
    = ((c : Thread nD τ).loc cc0_scratch2 ↦[rowsSet s]{fullShare} bufV v c) := by
  refine pointsTo_congr fun i hi => ?_
  rw [← rowsRect_set s] at hi
  obtain ⟨i', hi', rfl⟩ := Finset.mem_map.mp hi
  rw [← Rect.map_emb_univ] at hi'
  obtain ⟨y, -, rfl⟩ := Finset.mem_map.mp hi'
  refine (View.write_emb_of_mem (v := comm.access (rowsRect s)) (Val := Elt F) f _ (Finset.mem_univ y)).trans ?_
  exact hG y

theorem ldPay_succ (s : Fin 4) : scPay v c (ldK s.succ) = wPay v c s := by
  unfold scPay ldPay; dsimp only; rw [Fin.cases_succ]
theorem ldAmt_succ (s : Fin 4) : scAmt (ldK s.succ) = (ewDst s).view.dmaCredit := by
  unfold scAmt ldN; dsimp only; rw [Fin.cases_succ]

theorem rows_open (s : Fin 4) (f : Buf (Elt F) ((c : Thread nD τ).loc cc0_scratch2)) :
    ((c : Thread nD τ).loc cc0_scratch2 ↦[rowsSet s]{fullShare} f : sProp 𝕄)
      ⊢ iprop(chPts c 0 (chLo s) fullShare f ∗ chPts c 0 (chHi s) fullShare f) :=
  (pointsTo_union (ℓ := (c : Thread nD τ).loc cc0_scratch2) (I := chSet 0 (chLo s)) (J := chSet 0 (chHi s)) (rows_disjoint_lo_hi s)).1

theorem wp_load_x {hl} (m : Vec F S2048x512 .f32 → P F) (Q : PUnit → sProp 𝕄) :
    (xPts v c) ⊢ iprop((xPts v c -∗ WP c (m (v.x c : (⟨S2048x512, .f32⟩ : BufTy).Contents (Elt F))) Q)
      -∗ WP c (.op (.load (Memref.whole cc0_scratch0) xRect.toLoadRect hl) m) Q) := by
  have h : (xPts v c) ⊢ iprop((xPts v c -∗ WP c (m ((Memref.whole cc0_scratch0).view.readAt (Elt F) xRect.toLoadRect (v.x c : (⟨S2048x512, .f32⟩ : BufTy).Contents (Elt F)))) Q)
      -∗ WP c (.op (.load (Memref.whole cc0_scratch0) xRect.toLoadRect hl) m) Q) :=
    wp_load 𝒱₀ (c : Thread nD τ) none Set.univ (m := Memref.whole cc0_scratch0) (r := xRect.toLoadRect) (S := Finset.univ) (Finset.subset_univ _)
  have e : (Memref.whole cc0_scratch0).view.readAt (Elt F) xRect.toLoadRect (v.x c : (⟨S2048x512, .f32⟩ : BufTy).Contents (Elt F)) = v.x c :=
    Memref.readAt_unit_zero (Elt F) cc0_scratch0 off2_zero _ _
  rw [e] at h
  exact h

theorem wp_load_ew (s : Fin 4) {hl} (m : Vec F S1x512x1024 .f32 → P F) (Q : PUnit → sProp 𝕄) :
    ((c : Thread nD τ).loc cc0_scratch1 ↦[ewSet s]{fullShare} (v.w c : (⟨S4x512x1024, .f32⟩ : BufTy).Contents (Elt F)) : sProp 𝕄)
      ⊢ iprop((((c : Thread nD τ).loc cc0_scratch1 ↦[ewSet s]{fullShare} (v.w c : (⟨S4x512x1024, .f32⟩ : BufTy).Contents (Elt F)))
          -∗ WP c (m (ewVal v c s)) Q)
        -∗ WP c (.op (.load (Memref.whole cc0_scratch1) (ewRect s).toLoadRect hl) m) Q) :=
  wp_load 𝒱₀ (c : Thread nD τ) none Set.univ (m := Memref.whole cc0_scratch1) (r := (ewRect s).toLoadRect) (S := ewSet s) (ewRect_set s).subset

theorem rowsRect_access (s : Fin 4) : (comm.access (rowsRect s)).setOn Finset.univ ⊆ rowsSet s := by
  rw [View.setOn_univ, ← rowsRect_set s]
  refine Finset.Subset.trans (View.set_slice_whole _ _).subset ?_
  show (rowsRect s).set ⊆ Finset.map (Function.Embedding.refl _) (rowsRect s).set
  rw [Finset.map_refl]

theorem wp_store_rows (s : Fin 4) {hx hm} (f : Buf (Elt F) ((c : Thread nD τ).loc cc0_scratch2)) (w : Vec F S1x32x1024 .bf16) (m : PUnit → P F) (Q : PUnit → sProp 𝕄) :
    ((c : Thread nD τ).loc cc0_scratch2 ↦[rowsSet s]{fullShare} f : sProp 𝕄)
      ⊢ iprop((((c : Thread nD τ).loc cc0_scratch2 ↦[rowsSet s]{fullShare} ((comm.access (rowsRect s)).write (Elt F) f w Finset.univ)) -∗ WP c (m ⟨⟩) Q)
        -∗ WP c (.op (.store comm (rowsRect s) w Finset.univ hx hm) m) Q) :=
  wp_store 𝒱₀ (c : Thread nD τ) none Set.univ (m := comm) (r := rowsRect s) (S := rowsSet s) (f := f) (rowsRect_access s)

theorem expert_step (ps : FVec F S128x2048 .f32) (σ : Sg) (s : Fin 4) (k : PUnit → P F) (Q : PUnit → sProp 𝕄)
    (hG : GoodE v c s ps) (h : σ.okE s = true) :
    iprop(Inv v K c ∗ R v c σ ∗ xPts v c ∗ expRes c s)
      ⊢ iprop(((R v c (σ.exp s) ∗ xPts v c ∗ expDone v c s) -∗ WP c (k ⟨⟩) Q) -∗ WP c (expertP ps s >>= k) Q) := by
  simp only [Sg.okE, Bool.and_eq_true, decide_eq_true_eq] at h
  obtain ⟨hlo, hhi⟩ := h
  have hlo' : ∀ t : Fin 3, ((0 : Fin 16), chLo s, t) ∉ insert ((0 : Fin 16), chHi s, (0 : Fin 3)) (insert (0, chHi s, 1) (insert (0, chHi s, 2) σ.pcs)) := fun t ht => by
    rw [Finset.mem_insert, Finset.mem_insert, Finset.mem_insert] at ht
    have hne : ∀ u : Fin 3, ((0 : Fin 16), chLo s, t) ≠ (0, chHi s, u) := fun u h => by
      have := congrArg (fun x : Pc => x.2.1.val) h; simp [chLo, chHi] at this
    rcases ht with ht | ht | ht | ht
    · exact hne _ ht
    · exact hne _ ht
    · exact hne _ ht
    · exact hlo t ht
  unfold R expRes
  iintro ⟨#HI, ⟨Hs, Hr, Hrz, Ho, Hn, Hnz, Hp, %W, HO⟩, Hx, Hat, Hc, %f, Hf⟩ Hk
  iapply (wp_load_x v (fun (v117 : Vec F S2048x512 .f32) =>
    .op (.waitDma2 (lSem s.succ) (ewSrc s) (ewDst s) (ewSrc_words s) (ewDst_words s)) fun _ =>
    .op (.load (Memref.whole cc0_scratch1) (ewRect s).toLoadRect (View.loadsAt_vmem h_S1x512x1024)) fun (v125 : Vec F S1x512x1024 .f32) =>
    .op (.load comm (rowsRect s).toLoadRect (View.loadsAt_vmem h_S1x32x1024)) fun (_ : Vec F S1x32x1024 .bf16) =>
    .op (.store comm (rowsRect s) (expertVal s ps v117 v125) Finset.univ
      (View.stores_vmem h_S1x32x1024 ((Memref.isWhole_whole cc0_scratch2).storeExact_slice rfl _ (packed_rows s)) (fun _ => rfl)) (.inl rfl)) fun _ => k ⟨⟩) Q) $$ Hx
  iintro Hx
  iapply (wait_sc v K (ldK s.succ) (.waitDma2 (lSem s.succ) (ewSrc s) (ewDst s) (ewSrc_words s) (ewDst_words s)) (fun _ =>
    .op (.load (Memref.whole cc0_scratch1) (ewRect s).toLoadRect (View.loadsAt_vmem h_S1x512x1024)) fun (v125 : Vec F S1x512x1024 .f32) =>
    .op (.load comm (rowsRect s).toLoadRect (View.loadsAt_vmem h_S1x32x1024)) fun (_ : Vec F S1x32x1024 .bf16) =>
    .op (.store comm (rowsRect s) (expertVal s ps (v.x c : (⟨S2048x512, .f32⟩ : BufTy).Contents (Elt F)) v125) Finset.univ
      (View.stores_vmem h_S1x32x1024 ((Memref.isWhole_whole cc0_scratch2).storeExact_slice rfl _ (packed_rows s)) (fun _ => rfl)) (.inl rfl)) fun _ => k ⟨⟩)
    Q σ.snd W (fun _ => by rw [ldAmt_succ]; exact wpE_waitDma2_eq 𝒱₀ (c : Thread nD τ) none Set.univ _)
    (fun p hp => by rw [lv_ld]; omega)) $$ [Hc HO Hat]
  · isplitr; · iexact HI
    isplitl [Hc]; · iexact Hc
    isplitl [HO]; · iexact HO
    iexact Hat
  iintro ⟨HO, Hz, Hpay⟩
  ihave Hpay := (Entails.of_eq (ldPay_succ v s)) $$ Hpay
  unfold wPay
  icases Hpay with ⟨Hw, Hws⟩
  iapply (wp_load_ew v s (fun (v125 : Vec F S1x512x1024 .f32) =>
    .op (.load comm (rowsRect s).toLoadRect (View.loadsAt_vmem h_S1x32x1024)) fun (_ : Vec F S1x32x1024 .bf16) =>
    .op (.store comm (rowsRect s) (expertVal s ps (v.x c : (⟨S2048x512, .f32⟩ : BufTy).Contents (Elt F)) v125) Finset.univ
      (View.stores_vmem h_S1x32x1024 ((Memref.isWhole_whole cc0_scratch2).storeExact_slice rfl _ (packed_rows s)) (fun _ => rfl)) (.inl rfl)) fun _ => k ⟨⟩) Q) $$ Hw
  iintro Hw
  iapply (wp_load_comm (rowsSet s) fullShare f (rowsRect s).toLoadRect (fun _ =>
    .op (.store comm (rowsRect s) (expertVal s ps (v.x c : (⟨S2048x512, .f32⟩ : BufTy).Contents (Elt F)) (ewVal v c s)) Finset.univ
      (View.stores_vmem h_S1x32x1024 ((Memref.isWhole_whole cc0_scratch2).storeExact_slice rfl _ (packed_rows s)) (fun _ => rfl)) (.inl rfl)) fun _ => k ⟨⟩) Q
    (rowsRect_set s).subset) $$ Hf
  iintro Hf
  iapply (wp_store_rows s f (expertVal s ps (v.x c : (⟨S2048x512, .f32⟩ : BufTy).Contents (Elt F)) (ewVal v c s)) (fun _ => k ⟨⟩) Q) $$ Hf
  iintro Hf
  ihave Hf := (Entails.of_eq (rows_written v s ps hG f)) $$ Hf
  ihave Hf := (rows_open s (bufV v c)) $$ Hf
  icases Hf with ⟨Hlo, Hhi⟩
  ihave Hp := (insertPcs v 0 (chHi s) _ hhi) $$ [Hhi Hp]
  · isplitl [Hhi]; · iexact Hhi
    iexact Hp
  ihave Hp := (insertPcs v 0 (chLo s) _ hlo') $$ [Hlo Hp]
  · isplitl [Hlo]; · iexact Hlo
    iexact Hp
  iapply Hk
  unfold expDone wPay Sg.exp expPcs
  isplitr [Hx Hz Hw Hws]
  · isplitl [Hs]; · iexact Hs
    isplitl [Hr]; · iexact Hr
    isplitl [Hrz]; · iexact Hrz
    isplitl [Ho]; · iexact Ho
    isplitl [Hn]; · iexact Hn
    isplitl [Hnz]; · iexact Hnz
    isplitl [Hp]; · iexact Hp
    iexact HO
  isplitl [Hx]; · iexact Hx
  isplitl [Hz]; · iexact Hz
  isplitl [Hw]; · iexact Hw
  iexact Hws

end Cert.KernelIdeal.Snake

end
-- ==== Proof.Plan.lean ====
/-
  The sequence of steps a device takes is allowed from start to end: by evaluation.
-/
module

public import proofs.«01_k».proof.Proof.Ring

@[expose] public section

set_option maxRecDepth 65536

namespace Cert.KernelIdeal.Snake

open Cert.KernelIdeal.Gen

/-- The four sends after one expert's rows. -/
def sendL (j j' : Fin 8) : List Step := [.send 0 j, .send 14 j, .send 0 j', .send 14 j']

/-- Nothing sent, nothing received. -/
def sg0 : Sg := ⟨Finset.univ, Finset.univ, ∅, Finset.univ, ∅⟩
def sg1 : Sg := (sg0.exp 0).run (sendL 0 1)
def sg2 : Sg := (sg1.exp 1).run (sendL 2 3)
def sg3 : Sg := (sg2.exp 2).run (sendL 4 5)
def sg4 : Sg := (sg3.exp 3).run (sendL 6 7)
def sg5 : Sg := sg4.run (ringSteps ++ finSteps)

theorem ok0 : sg0.okE 0 = true := by decide +kernel
theorem ok0' : (sg0.exp 0).okL (sendL 0 1) = true := by decide +kernel
theorem ok1 : sg1.okE 1 = true := by decide +kernel
theorem ok1' : (sg1.exp 1).okL (sendL 2 3) = true := by decide +kernel
theorem ok2 : sg2.okE 2 = true := by decide +kernel
theorem ok2' : (sg2.exp 2).okL (sendL 4 5) = true := by decide +kernel
theorem ok3 : sg3.okE 3 = true := by decide +kernel
theorem ok3' : (sg3.exp 3).okL (sendL 6 7) = true := by decide +kernel
theorem ok4a : slotPcs 0 ⊆ sg4.pcs := by decide +kernel
theorem ok4 : sg4.okL (ringSteps ++ finSteps) = true := by decide +kernel
theorem end_snd : sg5.snd = ∅ := by decide +kernel
theorem end_rcv : sg5.rcv = ∅ := by decide +kernel
theorem end_nf : sg5.nf = ∅ := by decide +kernel

end Cert.KernelIdeal.Snake
-- ==== Proof.PlanEnd.lean ====
/-
  At the end every piece of every chunk is back in hand.
-/
module

public import proofs.«01_k».proof.Proof.Plan

@[expose] public section

set_option maxRecDepth 65536

namespace Cert.KernelIdeal.Snake

open Cert.KernelIdeal.Gen

theorem end_pcs_mem : ∀ p : Pc, p ∈ sg5.pcs := by decide +kernel
theorem end_pcs : sg5.pcs = Finset.univ := Finset.eq_univ_iff_forall.mpr end_pcs_mem

end Cert.KernelIdeal.Snake
-- ==== Proof.Tail.lean ====
/-
  The run of everything from the first expert's rows on.
-/
module

public import proofs.«01_k».proof.Proof.PlanEnd

@[expose] public section

set_option maxRecDepth 65536

noncomputable section

namespace Cert.KernelIdeal.Snake

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]
local notation "𝕄" => MT nD τ sig Unit (Elt F) ℕ UU ℕ

variable (v : Vals F) (K : GSem nD τ sig → ℕ)
variable {c : Dev nD}

/-- One expert's rows and the four sends of them. -/
theorem phase (E : Env F) (hE : ∀ e, E.to e = toD c e) (ps : FVec F S128x2048 .f32) (σ : Sg) (s : Fin 4) (j j' : Fin 8) (o : Vec F S128x1024 .f32)
    (k : PUnit → P F) (Q : PUnit → sProp 𝕄) (hG : GoodE v c s ps) (h : σ.okE s = true) (h' : (σ.exp s).okL (sendL j j') = true) :
    iprop(Inv v K c ∗ R v c σ ∗ outPts c o ∗ xPts v c ∗ expRes c s)
      ⊢ iprop(((R v c ((σ.exp s).run (sendL j j')) ∗ outPts c o ∗ xPts v c ∗ expDone v c s) -∗ WP c (k ⟨⟩) Q)
        -∗ WP c (expertP ps s >>= fun _ => sends4 E j j' >>= k) Q) := by
  have hr := run_steps v K (c := c) E hE (fun _ => Scalar.ofBits .f32 0#32) (fun _ => 0#1) ioV k Q (sendL j j') (σ.exp s) o h'
  iintro ⟨#HI, HR, Ho, Hx, He⟩ Hk
  iapply (expert_step v K ps σ s (fun _ => sends4 E j j' >>= k) Q hG h) $$ [HR Hx He]
  · isplitr; · iexact HI
    isplitl [HR]; · iexact HR
    isplitl [Hx]; · iexact Hx
    iexact He
  iintro ⟨HR, Hx, He⟩
  iapply hr $$ [HR Ho]
  · isplitr; · iexact HI
    isplitl [HR]; · iexact HR
    iexact Ho
  iintro ⟨HR, Ho⟩
  iapply Hk
  isplitl [HR]; · iexact HR
  isplitl [Ho]; · iexact Ho
  isplitl [Hx]; · iexact Hx
  iexact He

/-! ## The windows -/

abbrev rowPts (c : Dev nD) (r : Vec F S1x2048 .i32) : sProp 𝕄 :=
  (c : Thread nD τ).loc cc0_stg0_0 ↦{fullShare} (r : (⟨S1x2048, .i32⟩ : BufTy).Contents (Elt F))
abbrev colPts (c : Dev nD) (r : Vec F S2048x1 .i32) : sProp 𝕄 :=
  (c : Thread nD τ).loc cc0_stg1_0 ↦{fullShare} (r : (⟨S2048x1, .i32⟩ : BufTy).Contents (Elt F))
abbrev nbrPts (c : Dev nD) (r : Vec F S3 .i32) : sProp 𝕄 :=
  (c : Thread nD τ).loc cc0_stg2_0 ↦{fullShare} (r : (⟨S3, .i32⟩ : BufTy).Contents (Elt F))

/-- The device's own tokens of the route row. -/
def rowG (c : Dev nD) (row : Vec F S1x2048 .i32) : Vec F S1x128 .i32 :=
  rowM.view.readAt (Elt F) (Rect.unit (s := S1x2048) (k0_off1 c) S1x128.size (k0_off1_inb c)).toLoadRect row
/-- A word of the three. -/
def nbrG (i : Fin 3) (nb : Vec F S3 .i32) (inb : ∀ a, (![i.val] : Fin 1 → Nat) a + S1.size a ≤ S3.size a) : BitVec 32 :=
  (nbrM.access (Rect.unit (s := S3) ![i.val] S1.size inb)).read (Elt F) nb (Shape.Idx.first ((show S1.numel = 1 from numel1_S1).symm ▸ Nat.one_pos))

theorem wp_load_rowG {hl} (row : Vec F S1x2048 .i32) (m : Vec F S1x128 .i32 → P F) (Q : PUnit → sProp 𝕄) :
    (rowPts c row) ⊢ iprop((rowPts c row -∗ WP c (m (rowG c row)) Q)
      -∗ WP c (.op (.load rowM (Rect.unit (s := S1x2048) (k0_off1 c) S1x128.size (k0_off1_inb c)).toLoadRect hl) m) Q) :=
  wp_load 𝒱₀ (c : Thread nD τ) none Set.univ (m := rowM) (r := (Rect.unit (s := S1x2048) (k0_off1 c) S1x128.size (k0_off1_inb c)).toLoadRect)
    (S := Finset.univ) (Finset.subset_univ _)
theorem wp_load_row {hl} (row : Vec F S1x2048 .i32) (m : Vec F S1x2048 .i32 → P F) (Q : PUnit → sProp 𝕄) :
    (rowPts c row) ⊢ iprop((rowPts c row -∗ WP c (m row) Q)
      -∗ WP c (.op (.load rowM (Rect.unit (s := S1x2048) ![0, 0] S1x2048.size inb_S1x2048_S1x2048_0_0).toLoadRect hl) m) Q) := by
  have h : (rowPts c row) ⊢ iprop((rowPts c row -∗ WP c (m (rowM.view.readAt (Elt F) (Rect.unit (s := S1x2048) ![0, 0] S1x2048.size inb_S1x2048_S1x2048_0_0).toLoadRect row)) Q)
      -∗ WP c (.op (.load rowM (Rect.unit (s := S1x2048) ![0, 0] S1x2048.size inb_S1x2048_S1x2048_0_0).toLoadRect hl) m) Q) :=
    wp_load 𝒱₀ (c : Thread nD τ) none Set.univ (m := rowM) (r := (Rect.unit (s := S1x2048) ![0, 0] S1x2048.size inb_S1x2048_S1x2048_0_0).toLoadRect)
      (S := Finset.univ) (Finset.subset_univ _)
  have e : rowM.view.readAt (Elt F) (Rect.unit (s := S1x2048) ![0, 0] S1x2048.size inb_S1x2048_S1x2048_0_0).toLoadRect row = row :=
    Memref.readAt_unit_zero (Elt F) cc0_stg0_0 off2_zero _ _
  rw [e] at h
  exact h
theorem wp_load_col {hl} (col : Vec F S2048x1 .i32) (m : Vec F S2048x1 .i32 → P F) (Q : PUnit → sProp 𝕄) :
    (colPts c col) ⊢ iprop((colPts c col -∗ WP c (m col) Q)
      -∗ WP c (.op (.load colM (Rect.unit (s := S2048x1) ![0, 0] S2048x1.size inb_S2048x1_S2048x1_0_0).toLoadRect hl) m) Q) := by
  have h : (colPts c col) ⊢ iprop((colPts c col -∗ WP c (m (colM.view.readAt (Elt F) (Rect.unit (s := S2048x1) ![0, 0] S2048x1.size inb_S2048x1_S2048x1_0_0).toLoadRect col)) Q)
      -∗ WP c (.op (.load colM (Rect.unit (s := S2048x1) ![0, 0] S2048x1.size inb_S2048x1_S2048x1_0_0).toLoadRect hl) m) Q) :=
    wp_load 𝒱₀ (c : Thread nD τ) none Set.univ (m := colM) (r := (Rect.unit (s := S2048x1) ![0, 0] S2048x1.size inb_S2048x1_S2048x1_0_0).toLoadRect)
      (S := Finset.univ) (Finset.subset_univ _)
  have e : colM.view.readAt (Elt F) (Rect.unit (s := S2048x1) ![0, 0] S2048x1.size inb_S2048x1_S2048x1_0_0).toLoadRect col = col :=
    Memref.readAt_unit_zero (Elt F) cc0_stg1_0 off2_zero _ _
  rw [e] at h
  exact h
theorem wp_load_nbr (i : Fin 3) (inb : ∀ a, (![i.val] : Fin 1 → Nat) a + S1.size a ≤ S3.size a) (nb : Vec F S3 .i32)
    (m : Elt F .i32 → P F) (Q : PUnit → sProp 𝕄) :
    (nbrPts c nb) ⊢ iprop((nbrPts c nb -∗ WP c (m (nbrG i nb inb)) Q)
      -∗ WP c ((smemLoad nbrM (Rect.unit (s := S3) ![i.val] S1.size inb) numel1_S1 rfl : Prog (TpuEff nD τ sig (Elt F) Λ₀ .tc) (Elt F .i32)) >>= m) Q) :=
  wp_smemLoadElt 𝒱₀ (c : Thread nD τ) none Set.univ (m := nbrM) (r := Rect.unit (s := S3) ![i.val] S1.size inb) (k := m)
    (hw := View.loads_smem_one rfl numel1_S1)
    (S := Finset.univ) (Finset.subset_univ _)

/-! ## The tail -/

/-- The device's place as the kernel computes it. -/
def posW (c : Dev nD) : BitVec 32 := Scalar.remsi (Scalar.divsi (Dev.word c) 1#32) 16#32

/-- The block the device leaves in the output window. -/
def outBlk (c : Dev nD) (row : Vec F S1x2048 .i32) (col : Vec F S2048x1 .i32) (w : BitVec 32) : Vec F S128x1024 .f32 :=
  let g := gOf (rowG c row) col (posW c) w
  let kept := keptOf (F := F) (rowG c row) col (posW c)
  outAfter v c g kept ioV (ringSteps ++ finSteps) (contrib 0 g kept ioV (slotVal v c 0))

theorem tail_run (E : Env F) (hE : ∀ e, E.to e = toD c e) (ps : FVec F S128x2048 .f32) (row : Vec F S1x2048 .i32) (col : Vec F S2048x1 .i32) (nb : Vec F S3 .i32)
    (o : Vec F S128x1024 .f32) (k : PUnit → P F) (Q : PUnit → sProp 𝕄) (hG : ∀ s, GoodE v c s ps) :
    iprop(Inv v K c ∗ R v c sg0 ∗ outPts c o ∗ xPts v c ∗ (expRes c 0 ∗ expRes c 1 ∗ expRes c 2 ∗ expRes c 3) ∗ rowPts c row ∗ colPts c col ∗ nbrPts c nb)
      ⊢ iprop(((R v c sg5 ∗ outPts c (outBlk v c row col (nbrG 2 nb inb_S3_S1_2)) ∗ xPts v c ∗ (expDone v c 0 ∗ expDone v c 1 ∗ expDone v c 2 ∗ expDone v c 3)
            ∗ rowPts c row ∗ colPts c col ∗ nbrPts c nb) -∗ WP c (k ⟨⟩) Q)
        -∗ WP c (tailP E c (posW c) ps >>= k) Q) := by
  show _ ⊢ iprop(_ -∗ WP c (expertP ps 0 >>= fun _ => sends4 E 0 1 >>= fun _ => expertP ps 1 >>= fun _ => sends4 E 2 3 >>= fun _ =>
    expertP ps 2 >>= fun _ => sends4 E 4 5 >>= fun _ => expertP ps 3 >>= fun _ => sends4 E 6 7 >>= fun _ =>
    .op (.load rowM (Rect.unit (s := S1x2048) (k0_off1 c) S1x128.size (k0_off1_inb c)).toLoadRect (View.loadsAt_vmem h_S1x128)) fun (v342 : Vec F S1x128 .i32) =>
    .op (.load colM (Rect.unit (s := S2048x1) ![0, 0] S2048x1.size inb_S2048x1_S2048x1_0_0).toLoadRect (View.loadsAt_vmem h_S2048x1)) fun (v346 : Vec F S2048x1 .i32) =>
    (smemLoad nbrM (Rect.unit (s := S3) ![2] S1.size inb_S3_S1_2) numel1_S1 rfl : Prog (TpuEff nD τ sig (Elt F) Λ₀ .tc) (Elt F .i32)) >>= fun v421 =>
    .op (.load comm (slotRect 0).toLoadRect (View.loadsAt_vmem h_S1x128x1024)) fun (w : Vec F S1x128x1024 .bf16) =>
    .op (.load outM outRect.toLoadRect (View.loadsAt_vmem h_S128x1024)) fun (_ : Vec F S128x1024 .f32) =>
    .op (.store outM outRect (contrib 0 (gOf v342 v346 (posW c) v421) (keptOf (F := F) v342 v346 (posW c)) ioV w) Finset.univ
      (View.stores_vmem_bits_univ h_S128x1024 rfl) (.inl rfl)) fun _ =>
    runL (Step.prog E (gOf v342 v346 (posW c) v421) (keptOf (F := F) v342 v346 (posW c)) ioV) (ringSteps ++ finSteps) >>= k) Q)
  iintro ⟨#HI, HR, Ho, Hx, ⟨He0, He1, He2, He3⟩, Hrow, Hcol, Hnb⟩ Hk
  iapply (phase v K E hE ps sg0 0 0 1 o _ Q (hG 0) ok0 ok0') $$ [HR Ho Hx He0]
  · isplitr; · iexact HI
    isplitl [HR]; · iexact HR
    isplitl [Ho]; · iexact Ho
    isplitl [Hx]; · iexact Hx
    iexact He0
  iintro ⟨HR, Ho, Hx, He0⟩
  iapply (phase v K E hE ps sg1 1 2 3 o _ Q (hG 1) ok1 ok1') $$ [HR Ho Hx He1]
  · isplitr; · iexact HI
    isplitl [HR]; · unfold sg1; iexact HR
    isplitl [Ho]; · iexact Ho
    isplitl [Hx]; · iexact Hx
    iexact He1
  iintro ⟨HR, Ho, Hx, He1⟩
  iapply (phase v K E hE ps sg2 2 4 5 o _ Q (hG 2) ok2 ok2') $$ [HR Ho Hx He2]
  · isplitr; · iexact HI
    isplitl [HR]; · unfold sg2; iexact HR
    isplitl [Ho]; · iexact Ho
    isplitl [Hx]; · iexact Hx
    iexact He2
  iintro ⟨HR, Ho, Hx, He2⟩
  iapply (phase v K E hE ps sg3 3 6 7 o _ Q (hG 3) ok3 ok3') $$ [HR Ho Hx He3]
  · isplitr; · iexact HI
    isplitl [HR]; · unfold sg3; iexact HR
    isplitl [Ho]; · iexact Ho
    isplitl [Hx]; · iexact Hx
    iexact He3
  iintro ⟨HR, Ho, Hx, He3⟩
  iapply (wp_load_rowG row _ Q) $$ Hrow
  iintro Hrow
  iapply (wp_load_col col _ Q) $$ Hcol
  iintro Hcol
  iapply (wp_load_nbr 2 inb_S3_S1_2 nb _ Q) $$ Hnb
  iintro Hnb
  ihave HR := (Entails.of_eq (show R v c ((sg3.exp 3).run (sendL 6 7)) = R v c sg4 by rw [sg4])) $$ HR
  iapply (wp_load_slot v 0 _ Q sg4 ok4a) $$ HR
  iintro HR
  iapply (wp_load_out _ Q o) $$ Ho
  iintro Ho
  iapply (wp_store_out _ Q o _) $$ Ho
  iintro Ho
  iapply (run_steps v K E hE _ _ _ k Q (ringSteps ++ finSteps) sg4 _ ok4) $$ [HR Ho]
  · isplitr; · iexact HI
    isplitl [HR]; · iexact HR
    iexact Ho
  iintro ⟨HR, Ho⟩
  iapply Hk
  isplitl [HR]; · unfold sg5; iexact HR
  isplitl [Ho]; · unfold outBlk; iexact Ho
  isplitl [Hx]; · iexact Hx
  isplitl [He0 He1 He2 He3]
  · isplitl [He0]; · iexact He0
    isplitl [He1]; · iexact He1
    isplitl [He2]; · iexact He2
    iexact He3
  isplitl [Hrow]; · iexact Hrow
  isplitl [Hcol]; · iexact Hcol
  iexact Hnb

end Cert.KernelIdeal.Snake

end
-- ==== Proof.BodyEq.lean ====
/-
  The printed kernel body IS the list of steps of Steps.lean: both unfold to the same operations.
-/
module

public import proofs.«01_k».proof.Proof.Steps
public import proofs.«01_k».proof.Proof.Gen.KernelIdeal.Launch

@[expose] public section

set_option maxRecDepth 1000000

noncomputable section

namespace Cert.KernelIdeal.Snake

open Idealize.ShloMosaic Idealize.SL.Sem
open Cert.KernelIdeal.Gen

variable {F : FTy → Type} [FloatOps F]

set_option maxHeartbeats 40000000 in
/-- The body at the one grid point is the short prefix followed by the steps. -/
theorem body_eq : bodyAt0 (F := F) t0_0 = bodyP := rfl

end Cert.KernelIdeal.Snake

end
-- ==== Proof.Body.lean ====
/-
  The pieces of the body's run: the local copies, the barrier with both neighbours, and how the buffers are divided
  on entry and joined on leaving.
-/
module

public import proofs.«01_k».proof.Proof.Tail
public import proofs.«01_k».proof.Proof.BodyEq

@[expose] public section

set_option maxRecDepth 65536

noncomputable section

namespace Cert.KernelIdeal.Snake

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]
local notation "𝕄" => MT nD τ sig Unit (Elt F) ℕ UU ℕ

variable (v : Vals F) (K : GSem nD τ sig → ℕ)
variable {c : Dev nD}

/-! ## The local copies -/

theorem copy_x (k : P F) (Q : PUnit → sProp 𝕄) (f : Buf (Elt F) ((c : Thread nD τ).loc cc0_scratch0)) :
    iprop(cellInv ER (rd v) (K (ldC c 0)) (ldC c 0) ∗ ((c : Thread nD τ).loc main_arg0 ↦{fullShare} v.x c) ∗ ((c : Thread nD τ).loc cc0_scratch0 ↦{fullShare} f)
        ∗ dutyTok ER (ldC c 0) 0 true ∗ reached ER (ldC c 0) 0)
      ⊢ iprop((cred (tallyAt (ldC c 0) () (scAmt (ldK 0))) -∗ WP c (k) Q)
        -∗ WP c (.op (.enqueueDma (Memref.whole main_arg0) (.here (Memref.whole cc0_scratch0)) (.dma (lSem 0)) (Memref.isWhole_whole _).wordExact
          (Memref.isWhole_whole _).wordExact ⟨Or.inl rfl, trivial⟩) (fun _ => k)) Q) := by
  have hw : ∀ g : Buf (Elt F) ((c : Thread nD τ).loc cc0_scratch0),
      (Memref.whole cc0_scratch0).view.write (Elt F) g ((Memref.whole main_arg0).view.read (Elt F) (v.x c)) Finset.univ = v.x c := fun g => by
    rw [View.write_whole_univ, View.read_whole]
  have h := Rounds.wp_copy_pointsTo (defs := defs₀ (F := F)) (Γ := .empty) 𝒱₀ ER (rd v) (c : Thread nD τ) none (src := Memref.whole main_arg0) (dst := Memref.whole cc0_scratch0)
    (sem := .dma (lSem 0)) (q := fullShare) (fs := v.x c) (fd := f) (r := 0) (d := true) (κ := K (ldC c 0)) (Es := Set.univ) (k := fun _ => k) (Q := Q)
    (hsrc := (Memref.isWhole_whole _).wordExact) (hdst := (Memref.isWhole_whole _).wordExact) (hsem := ⟨Or.inl rfl, trivial⟩)
    (by have h := duties_sc v c (ldK 0); exact h ▸ Finset.mem_singleton_self _) () (scAmt (ldK 0)) rfl (amount_sc v c (ldK 0) true)
    (by
      refine BI.Entails.trans ?_ (Entails.of_eq (payload_sc v c (ldK 0) true).symm)
      rw [hw f]
      rw [View.set_whole, View.set_whole]
      exact BI.Entails.refl _)
  rw [View.set_whole, View.set_whole] at h
  exact h

theorem ew_landed (s : Fin 4) (f : Buf (Elt F) ((c : Thread nD τ).loc cc0_scratch1)) :
    ((c : Thread nD τ).loc cc0_scratch1 ↦[ewSet s]{fullShare} ((ewDst s).view.write (Elt F) f ((ewSrc s).view.read (Elt F) (v.w c)) Finset.univ) : sProp 𝕄)
    = ((c : Thread nD τ).loc cc0_scratch1 ↦[ewSet s]{fullShare} (v.w c : (⟨S4x512x1024, .f32⟩ : BufTy).Contents (Elt F))) := by
  refine pointsTo_congr fun i hi => ?_
  obtain ⟨y, -, rfl⟩ := Finset.mem_map.mp hi
  exact write_read_emb (ewDst s).view (ewSrc s).view _ _ y

theorem ew_pay (s : Fin 4) (f : Buf (Elt F) ((c : Thread nD τ).loc cc0_scratch1)) :
    iprop(((c : Thread nD τ).loc cc0_scratch1 ↦[ewSet s]{fullShare} ((ewDst s).view.write (Elt F) f ((ewSrc s).view.read (Elt F) (v.w c)) Finset.univ))
      ∗ ((c : Thread nD τ).loc main_arg3 ↦[ewSet s]{fullShare} v.w c)) ⊢ (wPay v c s : sProp 𝕄) := by
  rw [ew_landed]; unfold wPay
  iintro H; iexact H

theorem copy_w (s : Fin 4) (k : PUnit → P F) (Q : PUnit → sProp 𝕄) (f : Buf (Elt F) ((c : Thread nD τ).loc cc0_scratch1)) :
    iprop(cellInv ER (rd v) (K (ldC c s.succ)) (ldC c s.succ) ∗ ((c : Thread nD τ).loc main_arg3 ↦[ewSet s]{fullShare} v.w c)
        ∗ ((c : Thread nD τ).loc cc0_scratch1 ↦[ewSet s]{fullShare} f)
        ∗ dutyTok ER (ldC c s.succ) 0 true ∗ reached ER (ldC c s.succ) 0)
      ⊢ iprop((cred (tallyAt (ldC c s.succ) () (scAmt (ldK s.succ))) -∗ WP c (k ⟨⟩) Q) -∗ WP c (loadEw s >>= k) Q) := by
  have h := Rounds.wp_copy_pointsTo (defs := defs₀ (F := F)) (Γ := .empty) 𝒱₀ ER (rd v) (c : Thread nD τ) none (src := ewSrc s) (dst := ewDst s)
    (sem := .dma (lSem s.succ)) (q := fullShare) (fs := v.w c) (fd := f) (r := 0) (d := true) (κ := K (ldC c s.succ)) (Es := Set.univ) (k := fun _ => k ⟨⟩) (Q := Q)
    (hsrc := ewSrc_words s) (hdst := ewDst_words s) (hsem := ⟨Or.inl rfl, trivial⟩)
    (by have h := duties_sc v c (ldK s.succ); exact h ▸ Finset.mem_singleton_self _) () (scAmt (ldK s.succ)) (ldAmt_succ s).symm (amount_sc v c (ldK s.succ) true)
    (by
      refine BI.Entails.trans ?_ (Entails.of_eq ((payload_sc v c (ldK s.succ) true).trans (ldPay_succ v s)).symm)
      exact ew_pay v s f)
  exact h

/-! ## The barrier -/

/-- The signal to a neighbour: the neighbour's own hops' destinations on this device, each receive cell open. -/
theorem signal_run (d : Dev nD) (b : Bool) (k : PUnit → P F) (Q : PUnit → sProp 𝕄) (O : CellTallies nD τ sig Unit) (W : Waits sig Unit) :
    iprop(cellInv ER (rd v) (K (barC d)) (barC d) ∗ owes (c : Thread nD τ) (O + tallyAt (barC d) () 1) W ∗ dutyTok ER (barC d) 0 b ∗ barPay d b ∗ reached ER (barC d) 0)
      ⊢ iprop((owes (c : Thread nD τ) O W -∗ WP c (k ⟨⟩) Q) -∗ WP c (semSignalWord d barrier0 1#32 >>= k) Q) :=
  Rounds.wp_signal 𝒱₀ ER (rd v) (c : Thread nD τ) none (dst := (d : Thread nD τ)) (sem := barrier0) (r := 0) (d := b) (κ := K (barC d)) (k' := 1)
    (by rw [duties_bar]; cases b <;> decide) (amount_bar v d b) () O rfl

theorem close_bar (c : Dev nD) :
    iprop(Inv v K c ∗ atPos ER (barC c) (0 + 1) ∅ 0) ⊢ (|={Set.univ}=> semVal (barC c) 0 : sProp 𝕄) := by
  iintro ⟨H, Hat⟩
  iapply (Rounds.cell_close ER (rd v) (Set.mem_univ (K (barC c))) id (duties_later v _))
  isplitl [H]; · iapply (Inv_bar v K c c); iexact H
  iexact Hat

theorem barrier_run (k : PUnit → P F) (Q : PUnit → sProp 𝕄) (W : Waits sig Unit) :
    iprop(Inv v K c ∗ cred (tallyAt (barC c) () 2) ∗ owes (c : Thread nD τ) (owedOf c Finset.univ) W ∗ atPos ER (barC c) 0 ∅ 0)
      ⊢ iprop((((∃ W, owes (c : Thread nD τ) (owedOf c Finset.univ) W) ∗ semVal (barC c) 0 ∗ barPay c true ∗ barPay c false) -∗ WP c (k ⟨⟩) Q)
        -∗ WP c (semWaitWord barrier0 2#32 >>= k) Q) := by
  iintro ⟨#HI, Hc, HO, Hat⟩ Hk
  iapply (Rounds.wp_wait_rest_token 𝒱₀ ER (rd v) (c : Thread nD τ) none (κ := K (barC c)) (w := .semWait barrier0 2) (k := k) (k' := 2) (sm := .reg barrier0)
      (wpE_semWait_eq 𝒱₀ (c : Thread nD τ) none Set.univ) (Set.mem_univ _) () (O := owedOf c Finset.univ) (W := W) (R := 0) (m := 0) (T := ∅)
      ((Nat.zero_add _).trans (expect_bar v c).symm)) $$ [Hc HO Hat]
  · isplitr; · iapply (Inv_bar v K c c); iexact HI
    isplitl [Hc]; · iexact Hc
    isplitl [HO]; · iexact HO
    isplitr
    · iapply (mayWait_cut c (.reg barrier0) Finset.univ 1 le_rfl (fun p _ => by omega))
      iapply (Inv_lev v K c); iexact HI
    iexact Hat
  iintro ⟨HO, Hat, -, Hpay⟩
  imod (close_bar v K c) $$ [Hat] with Hz
  · isplitr; · iexact HI
    iexact Hat
  iapply Hk
  isplitl [HO]; · iexists _; iexact HO
  isplitl [Hz]; · iexact Hz
  iapply (Entails.of_eq (rest_bar v c)); iexact Hpay

/-! ## What enters and leaves -/

/-- The communication buffer, at any contents, as the experts' rows and the hops' destinations. -/
theorem comm_split (f : Buf (Elt F) ((c : Thread nD τ).loc cc0_scratch2)) :
    ((c : Thread nD τ).loc cc0_scratch2 ↦{fullShare} f : sProp 𝕄)
      = iprop(bigSep Finset.univ (fun s : Fin 4 => (c : Thread nD τ).loc cc0_scratch2 ↦[rowsSet s]{fullShare} f)
        ∗ bigSep Finset.univ (fun p : Hop => chPts c (dstS p.1) p.2 fullShare f)) := by
  rw [pts_cover ((c : Thread nD τ).loc cc0_scratch2) (T := Fin 4 ⊕ Hop) (Sum.elim rowsSet fun p => chSet (dstS p.1) p.2) ?_ ?_ fullShare f, BI.bigSep_univ_sum]
  · rfl
  · intro t t' ht
    show Disjoint (α := Finset S16x128x1024.Idx) _ _
    rw [Finset.disjoint_left]
    intro i hi hi'
    rcases t with s | p <;> rcases t' with s' | p' <;> simp only [Sum.elim_inl, Sum.elim_inr] at hi hi'
    · rw [mem_rowsSet] at hi hi'; exact ht (congrArg _ (Fin.ext (hi.2.symm.trans hi'.2)))
    · rw [mem_rowsSet] at hi; rw [mem_chSet] at hi'
      have : (dstS p'.1).val = p'.1.val + 1 := rfl
      omega
    · rw [mem_rowsSet] at hi'; rw [mem_chSet] at hi
      have : (dstS p.1).val = p.1.val + 1 := rfl
      omega
    · rw [mem_chSet] at hi hi'
      have h1 : (dstS p.1).val = p.1.val + 1 := rfl
      have h2 : (dstS p'.1).val = p'.1.val + 1 := rfl
      refine ht (congrArg _ (Prod.ext (Fin.ext ?_) (Fin.ext ?_)))
      · omega
      · omega
  · refine Finset.eq_univ_iff_forall.mpr fun (i : S16x128x1024.Idx) => ?_
    rw [Finset.mem_biUnion]
    have h0 : (i 0).val < 16 := (i 0).isLt
    have h1 : (i 1).val < 128 := (i 1).isLt
    by_cases h : (i 0).val = 0
    · exact ⟨.inl ⟨(i 1).val / 32, by omega⟩, Finset.mem_univ _, (mem_rowsSet _ _).mpr ⟨h, rfl⟩⟩
    · refine ⟨.inr (⟨(i 0).val - 1, by omega⟩, ⟨(i 1).val / 16, by omega⟩), Finset.mem_univ _, (mem_chSet _ _ _).mpr ⟨?_, rfl⟩⟩
      show (i 0).val = (i 0).val - 1 + 1
      omega

/-- Every piece in hand: the whole buffer. -/
theorem comm_join : (bigSep Finset.univ (pcRes v c) : sProp 𝕄) ⊢ ((c : Thread nD τ).loc cc0_scratch2 ↦{fullShare} bufV v c) := by
  rw [pts_cover ((c : Thread nD τ).loc cc0_scratch2) (T := Fin 16 × Fin 8) (fun p => chSet p.1 p.2) (fun t t' h => chSet_disjoint h) chSet_cover fullShare (bufV v c),
    BI.bigSep_univ_prod, BI.bigSep_univ_prod]
  refine BI.bigSep_mono fun k _ => ?_
  rw [BI.bigSep_univ_prod]
  refine BI.bigSep_mono fun j _ => ?_
  refine BI.Entails.trans ?_ (pts_pieces _ _ _).2
  have h3 : (Finset.univ : Finset (Fin 3)) = insert 0 (insert 1 {2}) := by decide
  rw [h3, bs_insert (by decide), bs_insert (by decide), bigSep_singleton]
  exact BI.Entails.refl _

/-- The destinations of the neighbours' hops, handed over with the receive cells open. -/
theorem barPay_pack :
    iprop(Inv v K c ∗ bigSep Finset.univ (fun p : Hop => iprop(∃ f, chPts c (dstS p.1) p.2 fullShare f)))
      ⊢ (iprop(barPay (left c) true ∗ barPay (right c) false) : sProp 𝕄) := by
  have key : ∀ d b, (∀ p : Hop, decide (p.1.val < 8) = b → toD d p.1 = c) →
      (iprop(Inv v K c ∗ bigSep (Finset.univ.filter fun p : Hop => decide (p.1.val < 8) = b) (fun p : Hop => iprop(∃ f, chPts c (dstS p.1) p.2 fullShare f)))
        ⊢ (barPay d b : sProp 𝕄)) := by
    intro d b h
    unfold barPay
    refine BI.bigSep_with_persistent fun p hp => ?_
    have hd := h p (Finset.mem_filter.mp hp).2
    rw [hd]
    iintro ⟨#HI, Hf⟩
    isplitl [Hf]; · iexact Hf
    iapply (Inv_reached v K c (rvK p)); iexact HI
  have hs : (bigSep Finset.univ (fun p : Hop => iprop(∃ f, chPts c (dstS p.1) p.2 fullShare f)) : sProp 𝕄)
      = iprop(bigSep (Finset.univ.filter fun p : Hop => decide (p.1.val < 8) = true) (fun p : Hop => iprop(∃ f, chPts c (dstS p.1) p.2 fullShare f))
        ∗ bigSep (Finset.univ.filter fun p : Hop => decide (p.1.val < 8) = false) (fun p : Hop => iprop(∃ f, chPts c (dstS p.1) p.2 fullShare f))) := by
    rw [← bs_union (by rw [Finset.disjoint_filter]; intro p _ h h'; rw [h] at h'; cases h')]
    congr 1
  rw [hs]
  iintro ⟨#HI, Ht, Hf⟩
  isplitl [Ht]
  · iapply (key (left c) true fun p hp => by
      unfold toD; rw [if_pos (of_decide_eq_true hp)]; exact right_left c)
    isplitr; · iexact HI
    iexact Ht
  · iapply (key (right c) false fun p hp => by
      unfold toD; rw [if_neg (of_decide_eq_false hp)]; exact left_right c)
    isplitr; · iexact HI
    iexact Hf

theorem barPay_unpack :
    iprop(barPay c true ∗ barPay c false)
      ⊢ (bigSep Finset.univ (fun p : Hop => iprop((∃ f, chPts (toD c p.1) (dstS p.1) p.2 fullShare f) ∗ reached ER (rvC (toD c p.1) p) 0)) : sProp 𝕄) := by
  unfold barPay
  rw [← bs_union (by rw [Finset.disjoint_filter]; intro p _ h h'; rw [h] at h'; cases h')]
  exact Entails.of_eq (by congr 1)

/-! ## The body -/

/-- What a device is launched with: its cells' positions, the tokens of the duties it performs, the credits it waits for. -/
def start (c : Dev nD) : sProp 𝕄 :=
  iprop(atPos ER (barC c) 0 ∅ 0 ∗ bigSep Finset.univ (fun k : SK => atPos ER (scC c k) 0 ∅ 0)
    ∗ dutyTok ER (barC (left c)) 0 true ∗ dutyTok ER (barC (right c)) 0 false ∗ reached ER (barC (left c)) 0 ∗ reached ER (barC (right c)) 0
    ∗ bigSep Finset.univ (fun s : Fin 5 => dutyTok ER (ldC c s) 0 true) ∗ bigSep Finset.univ (fun p : Hop => dutyTok ER (sdC c p) 0 true)
    ∗ bigSep Finset.univ (fun p : Hop => dutyTok ER (rvC (toD c p.1) p) 0 true)
    ∗ cred (tallyAt (barC c) () 2) ∗ bigSep Finset.univ (fun p : Hop => cred (tallyAt (rvC c p) () chN)))

/-- The operands and the scratch buffers, at contents not chosen. -/
def scr (c : Dev nD) : sProp 𝕄 :=
  iprop((∃ f, (c : Thread nD τ).loc cc0_scratch0 ↦{fullShare} f) ∗ (∃ f, (c : Thread nD τ).loc cc0_scratch1 ↦{fullShare} f)
    ∗ (∃ f, (c : Thread nD τ).loc cc0_scratch2 ↦{fullShare} f))
def ops (c : Dev nD) : sProp 𝕄 :=
  iprop(((c : Thread nD τ).loc main_arg0 ↦{fullShare} v.x c) ∗ ((c : Thread nD τ).loc main_arg3 ↦{fullShare} v.w c))

theorem fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
theorem fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem fam_SK (Φ : SK → sProp 𝕄) : bigSep Finset.univ Φ = iprop(bigSep Finset.univ (fun s : Fin 5 => Φ (ldK s)) ∗ bigSep Finset.univ (fun p : Hop => Φ (sdK p))
    ∗ bigSep Finset.univ (fun p : Hop => Φ (rvK p))) := by
  rw [BI.bigSep_univ_sum, BI.bigSep_univ_sum]; rfl

theorem ew_parts (f : Buf (Elt F) ((c : Thread nD τ).loc cc0_scratch1)) : ((c : Thread nD τ).loc cc0_scratch1 ↦{fullShare} f : sProp 𝕄)
    = iprop(((c : Thread nD τ).loc cc0_scratch1 ↦[ewSet 0]{fullShare} f) ∗ ((c : Thread nD τ).loc cc0_scratch1 ↦[ewSet 1]{fullShare} f)
      ∗ ((c : Thread nD τ).loc cc0_scratch1 ↦[ewSet 2]{fullShare} f) ∗ ((c : Thread nD τ).loc cc0_scratch1 ↦[ewSet 3]{fullShare} f)) := by
  rw [pts_cover ((c : Thread nD τ).loc cc0_scratch1) (T := Fin 4) ewSet (fun t t' h => ewSet_disjoint h) ewSet_cover fullShare f, fin4]
theorem w_parts (f : Buf (Elt F) ((c : Thread nD τ).loc main_arg3)) : ((c : Thread nD τ).loc main_arg3 ↦{fullShare} f : sProp 𝕄)
    = iprop(((c : Thread nD τ).loc main_arg3 ↦[ewSet 0]{fullShare} f) ∗ ((c : Thread nD τ).loc main_arg3 ↦[ewSet 1]{fullShare} f)
      ∗ ((c : Thread nD τ).loc main_arg3 ↦[ewSet 2]{fullShare} f) ∗ ((c : Thread nD τ).loc main_arg3 ↦[ewSet 3]{fullShare} f)) := by
  rw [pts_cover ((c : Thread nD τ).loc main_arg3) (T := Fin 4) ewSet (fun t t' h => ewSet_disjoint h) ewSet_cover fullShare f, fin4]

/-- The three words are the neighbours and the place. -/
def NbrOk (c : Dev nD) (nb : Vec F S3 .i32) : Prop :=
  nbrG 0 nb inb_S3_S1_0 = nbrWord c 0 ∧ nbrG 1 nb inb_S3_S1_1 = nbrWord c 1

/-- What the ring phase starts from. -/
theorem R_start (W : Waits sig Unit) :
    iprop(bigSep Finset.univ (sndRes (F := F) c) ∗ bigSep Finset.univ (rcvRes (F := F) c) ∗ bigSep Finset.univ (nfRes (F := F) c) ∗ owes (c : Thread nD τ) (owedOf c Finset.univ) W)
      ⊢ R v c sg0 := by
  unfold R sg0
  dsimp only
  rw [Finset.compl_univ, bigSep_empty, bigSep_empty, bigSep_empty, bigSep_empty]
  iintro ⟨Hs, Hr, Hn, HO⟩
  isplitl [Hs]; · iexact Hs
  isplitl [Hr]; · iexact Hr
  isplitr; · iempintro
  isplitr; · iempintro
  isplitl [Hn]; · iexact Hn
  isplitr; · iempintro
  isplitr; · iempintro
  iexists W; iexact HO

/-- What it ends with. -/
theorem R_end : (R v c sg5) ⊢ iprop(bigSep Finset.univ (fun p : Hop => semVal (rvC c p) 0) ∗ bigSep Finset.univ (fun p : Hop => semVal (sdC c p) 0)
    ∗ ((c : Thread nD τ).loc cc0_scratch2 ↦{fullShare} bufV v c) ∗ ∃ W, owes (c : Thread nD τ) 0 W) := by
  unfold R
  rw [end_snd, end_rcv, end_nf, end_pcs, Finset.compl_empty]
  rw [show owedOf c ∅ = 0 from rfl]
  iintro ⟨-, -, Hr, -, -, Hs, Hp, HO⟩
  isplitl [Hr]; · iexact Hr
  isplitl [Hs]; · iexact Hs
  isplitl [Hp]; · iapply (comm_join v); iexact Hp
  iexact HO

theorem expRes_pack (s : Fin 4) (f : Buf (Elt F) ((c : Thread nD τ).loc cc0_scratch2)) :
    iprop(atPos ER (ldC c s.succ) 0 ∅ 0 ∗ cred (tallyAt (ldC c s.succ) () (scAmt (ldK s.succ))) ∗ ((c : Thread nD τ).loc cc0_scratch2 ↦[rowsSet s]{fullShare} f))
      ⊢ (expRes c s : sProp 𝕄) := by
  unfold expRes
  iintro ⟨Ha, Hc, Hf⟩
  isplitl [Ha]; · iexact Ha
  isplitl [Hc]; · iexact Hc
  iexists f; iexact Hf

end Cert.KernelIdeal.Snake

end
-- ==== Proof.BodyRun.lean ====
/-
  The run of the whole body, from the launch's resources to the buffers' final contents.
-/
module

public import proofs.«01_k».proof.Proof.Body

@[expose] public section

set_option maxRecDepth 65536

noncomputable section

namespace Cert.KernelIdeal.Snake

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]
local notation "𝕄" => MT nD τ sig Unit (Elt F) ℕ UU ℕ

variable (v : Vals F) (K : GSem nD τ sig → ℕ)
variable {c : Dev nD}

theorem lift_bind {ι : Type} (e : TpuEff nD τ sig (Elt F) Λ₀ .tc ι) (k : ι → P F) : (Prog.lift e >>= k) = .op e k := rfl
theorem op_bind {ι : Type} (e : TpuEff nD τ sig (Elt F) Λ₀ .tc ι) (h : ι → P F) (k : PUnit → P F) : (.op e h >>= k) = (.op e fun i => h i >>= k : P F) := rfl

set_option maxHeartbeats 1000000 in
/-- The body and what follows it, as one chain of operations. -/
theorem bodyP_bind (k : PUnit → P F) : bodyP >>= k = .op .deviceId fun (d0 : Dev nD) =>
    (smemLoad nbrM (Rect.unit (s := S3) ![0] S1.size inb_S3_S1_0) numel1_S1 rfl : Prog (TpuEff nD τ sig (Elt F) Λ₀ .tc) (Elt F .i32)) >>= fun v3 =>
    .op (.assume (k0_chk2 v3) (k0_chk2.dec v3)) fun h2 =>
    (smemLoad nbrM (Rect.unit (s := S3) ![1] S1.size inb_S3_S1_1) numel1_S1 rfl : Prog (TpuEff nD τ sig (Elt F) Λ₀ .tc) (Elt F .i32)) >>= fun v4 =>
    .op (.assume (k0_chk1 v4) (k0_chk1.dec v4)) fun h1 =>
    .op (.enqueueDma (Memref.whole main_arg0) (.here (Memref.whole cc0_scratch0)) (.dma (lSem 0)) (Memref.isWhole_whole _).wordExact (Memref.isWhole_whole _).wordExact ⟨Or.inl rfl, trivial⟩) fun _ =>
    loadEw 0 >>= fun _ => loadEw 1 >>= fun _ => loadEw 2 >>= fun _ => loadEw 3 >>= fun _ =>
    semSignalWord ((⟨v3, h2.down, v4, h1.down⟩ : Env F).to 14) barrier0 1#32 >>= fun _ =>
    semSignalWord ((⟨v3, h2.down, v4, h1.down⟩ : Env F).to 0) barrier0 1#32 >>= fun _ =>
    .op (.load rowM (Rect.unit (s := S1x2048) ![0, 0] S1x2048.size inb_S1x2048_S1x2048_0_0).toLoadRect (View.loadsAt_vmem h_S1x2048)) fun (v36 : Vec F S1x2048 .i32) =>
    semWaitWord barrier0 2#32 >>= fun _ =>
    .op (.waitDma2 (lSem 0) (Memref.whole main_arg0) (Memref.whole cc0_scratch0) (Memref.isWhole_whole _).wordExact (Memref.isWhole_whole _).wordExact) fun _ =>
    tailP (⟨v3, h2.down, v4, h1.down⟩ : Env F) d0 (posW d0) (psrcOf (posW d0) v36) >>= k := by
  unfold bodyP
  simp only [lift_bind, op_bind, bind_assoc]
  rfl

theorem run_dev (k : Dev nD → P F) (Q : PUnit → sProp 𝕄) : WP c (k c) Q ⊢ WP c (.op .deviceId k) Q :=
  Entails.of_eq (wp_deviceId 𝒱₀ (c : Thread nD τ) none Set.univ).symm

/-- Reading a word whose value is known. -/
theorem load_known (i : Fin 3) (inb : ∀ a, (![i.val] : Fin 1 → Nat) a + S1.size a ≤ S3.size a) (nb : Vec F S3 .i32) (w : Elt F .i32)
    (h : nbrG i nb inb = w) (m : Elt F .i32 → P F) (Q : PUnit → sProp 𝕄) :
    (nbrPts c nb) ⊢ iprop((nbrPts c nb -∗ WP c (m w) Q)
      -∗ WP c ((smemLoad nbrM (Rect.unit (s := S3) ![i.val] S1.size inb) numel1_S1 rfl : Prog (TpuEff nD τ sig (Elt F) Λ₀ .tc) (Elt F .i32)) >>= m) Q) :=
  h ▸ wp_load_nbr i inb nb m Q

theorem run_chk2 (k : PLift (k0_chk2 (nbrWord c 0)) → P F) (Q : PUnit → sProp 𝕄) :
    WP c (k ⟨chk2_right c⟩) Q ⊢ WP c (.op (.assume (k0_chk2 (nbrWord c 0)) (k0_chk2.dec (nbrWord c 0))) k) Q :=
  wp_assume 𝒱₀ (c : Thread nD τ) none Set.univ (chk2_right c)
theorem run_chk1 (k : PLift (k0_chk1 (nbrWord c 1)) → P F) (Q : PUnit → sProp 𝕄) :
    WP c (k ⟨chk1_left c⟩) Q ⊢ WP c (.op (.assume (k0_chk1 (nbrWord c 1)) (k0_chk1.dec (nbrWord c 1))) k) Q :=
  wp_assume 𝒱₀ (c : Thread nD τ) none Set.univ (chk1_left c)

/-- The hops' destinations, their contents forgotten. -/
theorem dst_forget (f : Buf (Elt F) ((c : Thread nD τ).loc cc0_scratch2)) :
    (bigSep Finset.univ fun p : Hop => chPts c (dstS p.1) p.2 fullShare f)
      ⊢ (bigSep Finset.univ fun p : Hop => iprop(∃ f, chPts (F := F) c (dstS p.1) p.2 fullShare f) : sProp 𝕄) :=
  BI.bigSep_mono fun p _ => exists_intro (Φ := fun f => chPts (F := F) c (dstS p.1) p.2 fullShare f) f

theorem snd_pack (c : Dev nD) :
    iprop((bigSep Finset.univ fun p : Hop => dutyTok ER (rvC (toD c p.1) p) 0 true) ∗ (bigSep Finset.univ fun p : Hop => dutyTok ER (sdC c p) 0 true)
      ∗ (bigSep Finset.univ fun p : Hop => iprop(∃ f, chPts (F := F) (toD c p.1) (dstS p.1) p.2 fullShare f)) ∗ (bigSep Finset.univ fun p : Hop => reached ER (rvC (toD c p.1) p) 0))
      ⊢ (bigSep Finset.univ (sndRes (F := F) c) : sProp 𝕄) := by
  have h : (bigSep Finset.univ (sndRes (F := F) c) : sProp 𝕄) = iprop((bigSep Finset.univ fun p : Hop => dutyTok ER (rvC (toD c p.1) p) 0 true)
      ∗ (bigSep Finset.univ fun p : Hop => dutyTok ER (sdC c p) 0 true)
      ∗ (bigSep Finset.univ fun p : Hop => iprop(∃ f, chPts (F := F) (toD c p.1) (dstS p.1) p.2 fullShare f)) ∗ (bigSep Finset.univ fun p : Hop => reached ER (rvC (toD c p.1) p) 0)) := by
    unfold sndRes
    rw [bs_sep, bs_sep, bs_sep]
  exact Entails.of_eq h.symm

theorem rcv_pack (c : Dev nD) :
    iprop((bigSep Finset.univ fun p : Hop => atPos ER (rvC c p) 0 ∅ 0) ∗ (bigSep Finset.univ fun p : Hop => cred (tallyAt (rvC c p) () chN)))
      ⊢ (bigSep Finset.univ (rcvRes (F := F) c) : sProp 𝕄) := by
  have h : (bigSep Finset.univ (rcvRes (F := F) c) : sProp 𝕄) = iprop((bigSep Finset.univ fun p : Hop => atPos ER (rvC c p) 0 ∅ 0)
      ∗ (bigSep Finset.univ fun p : Hop => cred (tallyAt (rvC c p) () chN))) := by
    unfold rcvRes
    rw [bs_sep]
  exact Entails.of_eq h.symm

set_option maxHeartbeats 1000000 in
theorem body_run (row : Vec F S1x2048 .i32) (col : Vec F S2048x1 .i32) (nb : Vec F S3 .i32) (o : Vec F S128x1024 .f32) (W : Waits sig Unit)
    (k : PUnit → P F) (Q : PUnit → sProp 𝕄) (hnb : NbrOk c nb) (hG : ∀ s, GoodE v c s (psrcOf (posW c) row)) :
    iprop(Inv v K c ∗ start c ∗ scr c ∗ ops v c ∗ owes (c : Thread nD τ) (O₀ c) W ∗ rowPts c row ∗ colPts c col ∗ nbrPts c nb ∗ outPts c o)
      ⊢ iprop(((semVal (barC c) 0 ∗ bigSep Finset.univ (fun k : SK => semVal (scC c k) 0) ∗ scr c ∗ ops v c ∗ (∃ W, owes (c : Thread nD τ) 0 W)
            ∗ rowPts c row ∗ colPts c col ∗ nbrPts c nb ∗ outPts c (outBlk v c row col (nbrG 2 nb inb_S3_S1_2))) -∗ WP c (k ⟨⟩) Q)
        -∗ WP c (bodyP >>= k) Q) := by
  have hE : ∀ e, (envAt (F := F) c).to e = toD c e := envAt_to c
  rw [bodyP_bind]
  unfold start scr ops O₀
  rw [fam_SK]
  simp only [fin5]
  iintro ⟨#HI, ⟨Hab, ⟨⟨Hal0, Hal1, Hal2, Hal3, Hal4⟩, Has, Har⟩, Htl, Htr, #Hrl, #Hrr, ⟨Hd0, Hd1, Hd2, Hd3, Hd4⟩, Hds, Hdr, Hcb, Hcr⟩, ⟨⟨%fx, Hx⟩, ⟨%fw, Hw⟩, ⟨%fc, Hf⟩⟩, ⟨Hxs, Hws⟩, HO, Hrow, Hcol, Hnb, Hout⟩ Hk
  iapply (run_dev _ Q)
  iapply (load_known 0 inb_S3_S1_0 nb _ hnb.1 _ Q) $$ Hnb
  iintro Hnb
  iapply (run_chk2 _ Q)
  iapply (load_known 1 inb_S3_S1_1 nb _ hnb.2 _ Q) $$ Hnb
  iintro Hnb
  iapply (run_chk1 _ Q)
  iapply (copy_x v K _ Q fx) $$ [Hxs Hx Hd0]
  · isplitr; · iapply (Inv_sc v K c c (ldK 0)); iexact HI
    isplitl [Hxs]; · iexact Hxs
    isplitl [Hx]; · iexact Hx
    isplitl [Hd0]; · iexact Hd0
    iapply (Inv_reached v K c (ldK 0)); iexact HI
  iintro Hc0
  ihave Hw := (Entails.of_eq (ew_parts fw)) $$ Hw
  icases Hw with ⟨Hw0, Hw1, Hw2, Hw3⟩
  ihave Hws := (Entails.of_eq (w_parts (v.w c))) $$ Hws
  icases Hws with ⟨Hs0, Hs1, Hs2, Hs3⟩
  iapply (copy_w v K 0 _ Q fw) $$ [Hs0 Hw0 Hd1]
  · isplitr; · iapply (Inv_sc v K c c (ldK 1)); iexact HI
    isplitl [Hs0]; · iexact Hs0
    isplitl [Hw0]; · iexact Hw0
    isplitl [Hd1]; · iexact Hd1
    iapply (Inv_reached v K c (ldK 1)); iexact HI
  iintro Hc1
  iapply (copy_w v K 1 _ Q fw) $$ [Hs1 Hw1 Hd2]
  · isplitr; · iapply (Inv_sc v K c c (ldK 2)); iexact HI
    isplitl [Hs1]; · iexact Hs1
    isplitl [Hw1]; · iexact Hw1
    isplitl [Hd2]; · iexact Hd2
    iapply (Inv_reached v K c (ldK 2)); iexact HI
  iintro Hc2
  iapply (copy_w v K 2 _ Q fw) $$ [Hs2 Hw2 Hd3]
  · isplitr; · iapply (Inv_sc v K c c (ldK 3)); iexact HI
    isplitl [Hs2]; · iexact Hs2
    isplitl [Hw2]; · iexact Hw2
    isplitl [Hd3]; · iexact Hd3
    iapply (Inv_reached v K c (ldK 3)); iexact HI
  iintro Hc3
  iapply (copy_w v K 3 _ Q fw) $$ [Hs3 Hw3 Hd4]
  · isplitr; · iapply (Inv_sc v K c c (ldK 4)); iexact HI
    isplitl [Hs3]; · iexact Hs3
    isplitl [Hw3]; · iexact Hw3
    isplitl [Hd4]; · iexact Hd4
    iapply (Inv_reached v K c (ldK 4)); iexact HI
  iintro Hc4
  -- the two signals
  ihave Hf := (Entails.of_eq (comm_split fc)) $$ Hf
  icases Hf with ⟨Hrows, Hdst⟩
  ihave Hdst := (dst_forget fc) $$ Hdst
  ihave Hb := (barPay_pack v K) $$ [Hdst]
  · isplitr; · iexact HI
    iexact Hdst
  icases Hb with ⟨Hbl, Hbr⟩
  rw [show (⟨nbrWord c 0, chk2_right c, nbrWord c 1, chk1_left c⟩ : Env F).to 14 = left c from (hE 14).trans rfl,
    show (⟨nbrWord c 0, chk2_right c, nbrWord c 1, chk1_left c⟩ : Env F).to 0 = right c from (hE 0).trans rfl]
  iapply (signal_run v K (left c) true _ Q _ W) $$ [HO Htl Hbl]
  · isplitr; · iapply (Inv_bar v K c (left c)); iexact HI
    isplitl [HO]; · iexact HO
    isplitl [Htl]; · iexact Htl
    isplitl [Hbl]; · iexact Hbl
    iexact Hrl
  iintro HO
  iapply (signal_run v K (right c) false _ Q _ W) $$ [HO Htr Hbr]
  · isplitr; · iapply (Inv_bar v K c (right c)); iexact HI
    isplitl [HO]; · iexact HO
    isplitl [Htr]; · iexact Htr
    isplitl [Hbr]; · iexact Hbr
    iexact Hrr
  iintro HO
  iapply (wp_load_row row _ Q) $$ Hrow
  iintro Hrow
  iapply (barrier_run v K _ Q W) $$ [Hcb HO Hab]
  · isplitr; · iexact HI
    isplitl [Hcb]; · iexact Hcb
    isplitl [HO]; · iexact HO
    iexact Hab
  iintro ⟨⟨%W', HO⟩, Hzb, Hbp⟩
  ihave Hbp := (barPay_unpack) $$ Hbp
  iapply (wait_sc v K (ldK 0) (.waitDma2 (lSem 0) (Memref.whole main_arg0) (Memref.whole cc0_scratch0) (Memref.isWhole_whole _).wordExact (Memref.isWhole_whole _).wordExact) _
    Q Finset.univ W' (fun _ => wpE_waitDma2_eq 𝒱₀ (c : Thread nD τ) none Set.univ _) (fun p _ => by rw [lv_ld]; omega)) $$ [Hc0 HO Hal0]
  · isplitr; · iexact HI
    isplitl [Hc0]; · iexact Hc0
    isplitl [HO]; · iexact HO
    iexact Hal0
  iintro ⟨⟨%W'', HO⟩, Hz0, Hxp⟩
  ihave Hxp := (Entails.of_eq (show scPay v c (ldK 0) = xPay v c from rfl)) $$ Hxp
  unfold xPay
  icases Hxp with ⟨Hx, Hxs⟩
  ihave HR := (R_start v W'') $$ [Hbp Hdr Hds Har Hcr Has HO]
  · isplitl [Hbp Hdr Hds]
    · iapply (snd_pack c)
      isplitl [Hdr]; · iexact Hdr
      isplitl [Hds]; · iexact Hds
      iapply (Entails.of_eq (bs_sep _ _ _)); iexact Hbp
    isplitl [Har Hcr]
    · iapply (rcv_pack c)
      isplitl [Har]; · iexact Har
      iexact Hcr
    isplitl [Has]; · unfold nfRes; iexact Has
    iexact HO
  ihave Hrows := (Entails.of_eq (fin4 _)) $$ Hrows
  icases Hrows with ⟨Hr0, Hr1, Hr2, Hr3⟩
  iapply (tail_run v K (⟨nbrWord c 0, chk2_right c, nbrWord c 1, chk1_left c⟩ : Env F) hE (psrcOf (posW c) row) row col nb o k Q hG)
    $$ [HR Hout Hx Hal1 Hal2 Hal3 Hal4 Hc1 Hc2 Hc3 Hc4 Hr0 Hr1 Hr2 Hr3 Hrow Hcol Hnb]
  · isplitr; · iexact HI
    isplitl [HR]; · iexact HR
    isplitl [Hout]; · iexact Hout
    isplitl [Hx]; · iexact Hx
    isplitl [Hal1 Hal2 Hal3 Hal4 Hc1 Hc2 Hc3 Hc4 Hr0 Hr1 Hr2 Hr3]
    · isplitl [Hal1 Hc1 Hr0]
      · iapply (expRes_pack 0 fc)
        isplitl [Hal1]; · iexact Hal1
        isplitl [Hc1]; · iexact Hc1
        iexact Hr0
      isplitl [Hal2 Hc2 Hr1]
      · iapply (expRes_pack 1 fc)
        isplitl [Hal2]; · iexact Hal2
        isplitl [Hc2]; · iexact Hc2
        iexact Hr1
      isplitl [Hal3 Hc3 Hr2]
      · iapply (expRes_pack 2 fc)
        isplitl [Hal3]; · iexact Hal3
        isplitl [Hc3]; · iexact Hc3
        iexact Hr2
      iapply (expRes_pack 3 fc)
      isplitl [Hal4]; · iexact Hal4
      isplitl [Hc4]; · iexact Hc4
      iexact Hr3
    isplitl [Hrow]; · iexact Hrow
    isplitl [Hcol]; · iexact Hcol
    iexact Hnb
  iintro ⟨HR, Hout, Hx, ⟨He0, He1, He2, He3⟩, Hrow, Hcol, Hnb⟩
  ihave HR := (R_end v) $$ HR
  icases HR with ⟨Hzr, Hzs, Hcomm, HO⟩
  unfold expDone wPay
  icases He0 with ⟨Hz1, Hw0, Hs0⟩
  icases He1 with ⟨Hz2, Hw1, Hs1⟩
  icases He2 with ⟨Hz3, Hw2, Hs2⟩
  icases He3 with ⟨Hz4, Hw3, Hs3⟩
  iapply Hk
  isplitl [Hzb]; · iexact Hzb
  isplitl [Hz0 Hz1 Hz2 Hz3 Hz4 Hzs Hzr]
  · rw [fam_SK, fin5]
    isplitl [Hz0 Hz1 Hz2 Hz3 Hz4]
    · isplitl [Hz0]; · iexact Hz0
      isplitl [Hz1]; · iexact Hz1
      isplitl [Hz2]; · iexact Hz2
      isplitl [Hz3]; · iexact Hz3
      iexact Hz4
    isplitl [Hzs]; · iexact Hzs
    iexact Hzr
  isplitl [Hx Hw0 Hw1 Hw2 Hw3 Hcomm]
  · isplitl [Hx]; · iexists _; iexact Hx
    isplitl [Hw0 Hw1 Hw2 Hw3]
    · iexists (v.w c : (⟨S4x512x1024, .f32⟩ : BufTy).Contents (Elt F))
      iapply (Entails.of_eq (ew_parts _).symm)
      isplitl [Hw0]; · iexact Hw0
      isplitl [Hw1]; · iexact Hw1
      isplitl [Hw2]; · iexact Hw2
      iexact Hw3
    iexists _; iexact Hcomm
  isplitl [Hxs Hs0 Hs1 Hs2 Hs3]
  · isplitl [Hxs]; · iexact Hxs
    iapply (Entails.of_eq (w_parts _).symm)
    isplitl [Hs0]; · iexact Hs0
    isplitl [Hs1]; · iexact Hs1
    isplitl [Hs2]; · iexact Hs2
    iexact Hs3
  isplitl [HO]; · iexact HO
  isplitl [Hrow]; · iexact Hrow
  isplitl [Hcol]; · iexact Hcol
  isplitl [Hnb]; · iexact Hnb
  iexact Hout

end Cert.KernelIdeal.Snake

end
-- ==== Proof.HostWords.lean ====
/-
  What the host code hands the kernel: the three ring words, and the routes as a row.
-/
module

public import proofs.«01_k».proof.Proof.Geometry
public import Idealize.ShloMosaic.Lib.StableHlo
public import Idealize.ShloMosaic.Lib.Claim

@[expose] public section

set_option maxRecDepth 65536

noncomputable section

namespace Cert.KernelIdeal.Snake

open Idealize.ShloMosaic Idealize.ShloMosaic.TcCoe Idealize.SL.Sem
open Cert.KernelIdeal.Gen

variable {F : FTy → Type} [FloatOps F]
variable (m : (ℓ : Loc nD τ sig) → Buf (Elt F) ℓ)

theorem v41_host (c : Dev nD) : V15 m c main_v41 = shapeCast S1x2048 (m ((c : Thread nD τ).loc main_arg2)) shapeCasts_S2048x1_S1x2048 := by
  unfold_abbrev_sides
  after_results
  rfl

/-- The one index of a vector of one element. -/
def z1 : S1.Idx := fun x => match x with | 0 => (0 : Fin 1)
theorem idx_S1 (a : S1.Idx) : a = z1 := by
  funext x; match x with | 0 => exact Subsingleton.elim (α := Fin 1) _ _

/-- The valuation the three words are joined at. -/
def W6 (c : Dev nD) : Valuation τ sig (Elt F) := StableHlo.after (hostOps0_14.take 6) (V14 m c)

theorem v40_join (c : Dev nD) : V15 m c main_v40 = concatenate S3 0 [⟨S1, (W6 m c main_v37 : (⟨S1, .i32⟩ : BufTy).Contents (Elt F))⟩,
    ⟨S1, (W6 m c main_v38 : (⟨S1, .i32⟩ : BufTy).Contents (Elt F))⟩, ⟨S1, (W6 m c main_v39 : (⟨S1, .i32⟩ : BufTy).Contents (Elt F))⟩]
    concatenates_S1_S1_S1_S3_d0 := by
  show StableHlo.after (hostOps0_14.drop 6) (W6 m c) main_v40 = _
  generalize W6 m c = W
  simp only [List.drop]
  after_results
  rfl

set_option maxHeartbeats 4000000 in
theorem v37_host (c : Dev nD) : W6 m c main_v37 = ((fun _ => nbrWord c 0) : (⟨S1, .i32⟩ : BufTy).Contents (Elt F)) := by
  unfold W6
  simp only [List.take]
  unfold_abbrev_sides
  after_results
  funext a
  obtain rfl := idx_S1 a
  simp only [StableHlo.TRef.toBuf, StableHlo.TRef.ofBuf, cast_cast, cast_eq, id_eq]
  simp only [broadcastInDim, addi, muli, subi, andi, select]
  dsimp only [Elt]
  change @Eq (BitVec 32) _ _
  revert c
  decide +kernel
set_option maxHeartbeats 4000000 in
theorem v38_host (c : Dev nD) : W6 m c main_v38 = ((fun _ => nbrWord c 1) : (⟨S1, .i32⟩ : BufTy).Contents (Elt F)) := by
  unfold W6
  simp only [List.take]
  unfold_abbrev_sides
  after_results
  funext a
  obtain rfl := idx_S1 a
  simp only [StableHlo.TRef.toBuf, StableHlo.TRef.ofBuf, cast_cast, cast_eq, id_eq]
  simp only [broadcastInDim, addi, muli, subi, andi, select]
  dsimp only [Elt]
  change @Eq (BitVec 32) _ _
  revert c
  decide +kernel
set_option maxHeartbeats 4000000 in
theorem v39_host (c : Dev nD) : W6 m c main_v39 = ((fun _ => nbrWord c 2) : (⟨S1, .i32⟩ : BufTy).Contents (Elt F)) := by
  unfold W6
  simp only [List.take]
  unfold_abbrev_sides
  after_results
  funext a
  obtain rfl := idx_S1 a
  simp only [StableHlo.TRef.toBuf, StableHlo.TRef.ofBuf, cast_cast, cast_eq, id_eq]
  simp only [broadcastInDim, addi, muli, subi, andi, select]
  dsimp only [Elt]
  change @Eq (BitVec 32) _ _
  revert c
  decide +kernel

/-- The three words, joined. -/
theorem v40_host (c : Dev nD) : V15 m c main_v40 = concatenate S3 0 [⟨S1, ((fun _ => nbrWord c 0) : (⟨S1, .i32⟩ : BufTy).Contents (Elt F))⟩,
    ⟨S1, ((fun _ => nbrWord c 1) : (⟨S1, .i32⟩ : BufTy).Contents (Elt F))⟩, ⟨S1, ((fun _ => nbrWord c 2) : (⟨S1, .i32⟩ : BufTy).Contents (Elt F))⟩]
    concatenates_S1_S1_S1_S3_d0 := by
  rw [v40_join, v37_host, v38_host, v39_host]

end Cert.KernelIdeal.Snake

end
-- ==== Proof.Windows.lean ====
/-
  What the windows bring to the body: each is a whole array, so the staging buffer holds the array itself.  And the
  128 rows each device computes of its own activations and weights.
-/
module

public import proofs.«01_k».proof.Proof.BodyRun
public import proofs.«01_k».proof.Proof.HostWords

@[expose] public section

set_option maxRecDepth 65536

noncomputable section

namespace Cert.KernelIdeal.Snake

open Idealize.ShloMosaic Idealize.ShloMosaic.TcCoe
open Idealize.SL Idealize.SL.Sem
open Cert.KernelIdeal.Gen

variable {F : FTy → Type} [FloatOps F]
variable (m : (ℓ : Loc nD τ sig) → Buf (Elt F) ℓ)

/-- The routes as a row, as a column, and the three words, as the host code leaves them. -/
def rowV (c : Dev nD) : Vec F S1x2048 .i32 := V15 m c main_v41
def colV (c : Dev nD) : Vec F S2048x1 .i32 := V15 m c main_arg2
def nbrV (c : Dev nD) : Vec F S3 .i32 := V15 m c main_v40

theorem idx_ext2 {a b : Nat} {i j : (⟨2, ![a, b]⟩ : Shape).Idx} (h : ∀ k : Fin 2, (i k).val = (j k).val) : i = j :=
  funext fun k => Fin.ext (h k)

theorem blk_row (c : Dev nD) (A : Buf (Elt F) ((c : Thread nD τ).loc main_v41)) :
    ((cfg0.win (0 : Fin 4)).blk t0_0).view.read (Elt F) A = (A : Vec F S1x2048 .i32) := by
  funext i
  refine congrArg A (funext fun k => Fin.ext ?_)
  fin_cases k <;> exact (Nat.zero_add _).trans (Nat.one_mul _)
theorem blk_col (c : Dev nD) (A : Buf (Elt F) ((c : Thread nD τ).loc main_arg2)) :
    ((cfg0.win (1 : Fin 4)).blk t0_0).view.read (Elt F) A = (A : Vec F S2048x1 .i32) := by
  funext i
  refine congrArg A (funext fun k => Fin.ext ?_)
  fin_cases k <;> exact (Nat.zero_add _).trans (Nat.one_mul _)
theorem blk_nbr (c : Dev nD) (A : Buf (Elt F) ((c : Thread nD τ).loc main_v40)) :
    ((cfg0.win (2 : Fin 4)).blk t0_0).view.read (Elt F) A = (A : Vec F S3 .i32) := by
  funext i
  refine congrArg A (funext fun k => Fin.ext ?_)
  fin_cases k; exact (Nat.zero_add _).trans (Nat.one_mul _)
theorem blk_out (c : Dev nD) (A : Buf (Elt F) ((c : Thread nD τ).loc main_v42)) :
    ((cfg0.win (3 : Fin 4)).blk t0_0).view.read (Elt F) A = (A : Vec F S128x1024 .f32) := by
  funext i
  refine congrArg A (funext fun k => Fin.ext ?_)
  fin_cases k <;> exact (Nat.zero_add _).trans (Nat.one_mul _)

/-- The words name the neighbours. -/
theorem nbr_ok (c : Dev nD) : NbrOk c (nbrV m c) := by
  unfold nbrV NbrOk
  rw [v40_host]
  constructor <;> rfl
theorem nbr_pos (c : Dev nD) : nbrG 2 (nbrV m c) inb_S3_S1_2 = nbrWord c 2 := by
  unfold nbrV
  rw [v40_host]
  rfl

/-- The weights of expert `s` of device `d`. -/
def ewOf (w : Vec F S4x512x1024 .f32) (s : Fin 4) : Vec F S1x512x1024 .f32 :=
  (Memref.whole cc0_scratch1).view.readAt (Elt F) (ewRect s).toLoadRect w

/-- The row of a device's block that row `y` of expert `s` is. -/
def exIdx (r : Fin 128) (h : Fin 1024) : S1x32x1024.Idx := fun k => match k with
  | 0 => (0 : Fin 1)
  | 1 => (⟨r.val % 32, Nat.mod_lt _ (by decide)⟩ : Fin 32)
  | 2 => h

/-- What the ring moves. -/
def vals : Vals F where
  x c := m ((c : Thread nD τ).loc main_arg0)
  w c := m ((c : Thread nD τ).loc main_arg3)
  blk d r h := expertVal ⟨r.val / 32, by have := r.isLt; omega⟩ (psrcOf (posW d) (rowV m d))
    (m ((d : Thread nD τ).loc main_arg0) : (⟨S2048x512, .f32⟩ : BufTy).Contents (Elt F))
    (ewOf (m ((d : Thread nD τ).loc main_arg3) : (⟨S4x512x1024, .f32⟩ : BufTy).Contents (Elt F)) ⟨r.val / 32, by have := r.isLt; omega⟩) (exIdx r h)

theorem bufV_at (v : Vals F) (c : Dev nD) (i : S16x128x1024.Idx) (k : Fin 16) (r : Fin 128) (h : Fin 1024)
    (hk : (i 0).val = k.val) (hr : (i 1).val = r.val) (hh : (i 2).val = h.val) : bufV v c i = v.blk (owner c k) r h := by
  have e0 : (i 0 : Fin 16) = k := Fin.ext hk
  have e1 : (i 1 : Fin 128) = r := Fin.ext hr
  have e2 : (i 2 : Fin 1024) = h := Fin.ext hh
  subst e0; subst e1; subst e2
  rfl

theorem good_vals (c : Dev nD) (s : Fin 4) : GoodE (vals m) c s (psrcOf (posW c) (rowV m c)) := by
  intro y
  have hy0 : (y 0).val < 1 := (show Fin 1 from y 0).isLt
  have hy1 : (y 1).val < 32 := (show Fin 32 from y 1).isLt
  have hs4 := s.isLt
  have hr : 32 * s.val + (y 1).val < 128 := by omega
  rw [bufV_at (vals m) c _ 0 ⟨32 * s.val + (y 1).val, hr⟩ (y 2)
    (by show 0 + 1 * (y 0).val = 0; omega) (by show 32 * s.val + 1 * (y 1).val = 32 * s.val + (y 1).val; omega)
    (by show 0 + 1 * (y 2).val = (y 2).val; omega), owner_zero]
  have hs : (⟨(32 * s.val + (y 1).val) / 32, by omega⟩ : Fin 4) = s := Fin.ext (by show (32 * s.val + (y 1).val) / 32 = s.val; omega)
  have hy : exIdx ⟨32 * s.val + (y 1).val, hr⟩ (y 2) = y := by
    funext k
    match k with
    | 0 => exact Subsingleton.elim (α := Fin 1) _ _
    | 1 => exact Fin.ext (by show (32 * s.val + (y 1).val) % 32 = (y 1).val; omega)
    | 2 => rfl
  show _ = expertVal ⟨(32 * s.val + (y 1).val) / 32, _⟩ _ _ (ewOf _ ⟨(32 * s.val + (y 1).val) / 32, _⟩) (exIdx ⟨32 * s.val + (y 1).val, hr⟩ (y 2))
  rw [hs, hy]
  rfl

end Cert.KernelIdeal.Snake

end
-- ==== Proof.Region.lean ====
/-
  The kernel's call as one region of @main: what enters it, what leaves it, and the body between.
-/
module

public import proofs.«01_k».proof.Proof.Windows
public import Idealize.ShloMosaic.Lib.Pipeline.RegionTalk
public import Idealize.ShloMosaic.Lib.Memref

@[expose] public section

set_option maxRecDepth 65536

noncomputable section

namespace Cert.KernelIdeal.Snake

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.KernelIdeal.Gen

variable {F : FTy → Type} [FloatOps F]
local notation "𝕄" => MT nD τ sig Unit (Elt F) ℕ UU ℕ

variable (m : (ℓ : Loc nD τ sig) → Buf (Elt F) ℓ)

/-- The block device `c` computes. -/
def outV (c : Dev nD) : Vec F S128x1024 .f32 :=
  outBlk (vals m) c (rowV m c) (colV m c) (nbrG 2 (nbrV m c) inb_S3_S1_2)

/-- What enters the body's invariant from the launch. -/
def Xk (c : Dev nD) : sProp 𝕄 := iprop((∃ K, Inv (vals m) K c) ∗ start (F := F) c)

/-- The invariant before the body. -/
def Φa (c : Dev nD) : sProp 𝕄 := iprop(Xk m c ∗ ops (vals m) c ∗ scr (F := F) c ∗ ∃ r, prngReg c r)
/-- And after it: every counter at zero. -/
def Φb (c : Dev nD) : sProp 𝕄 :=
  iprop(semVal (barC c) 0 ∗ bigSep Finset.univ (fun k : SK => semVal (scC c k) 0) ∗ ops (vals m) c ∗ scr (F := F) c ∗ ∃ r, prngReg c r)

def dat (c : Dev nD) : Dat τ (Elt F) Unit ℕ UU ℕ cfg0 c where
  A w := V15 m c (Proc.devRef .tc (Pipeline.arrRef spec0 w))
  after w _ := match w with
    | ⟨0, _⟩ => rowV m c
    | ⟨1, _⟩ => colV m c
    | ⟨2, _⟩ => nbrV m c
    | ⟨3, _⟩ => outV m c
  Φ t := if t.val = 0 then Φa m c else Φb m c
  q _ := fullShare
  owed t := if t.val = 0 then O₀ c else 0

theorem owed_first (c : Dev nD) : (dat m c).owed t0_0.castSucc = O₀ c := by
  show (if (t0_0.castSucc : Fin (cfg0.N + 1)).val = 0 then O₀ c else 0) = O₀ c; exact if_pos rfl
theorem owed_end (c : Dev nD) : (dat m c).owed t0_0.succ = 0 := by
  show (if (t0_0.succ : Fin (cfg0.N + 1)).val = 0 then O₀ c else 0) = 0; exact if_neg (Nat.succ_ne_zero _)
theorem phi_first (c : Dev nD) : (dat m c).Φ t0_0.castSucc = Φa m c := by
  show (if (t0_0.castSucc : Fin (cfg0.N + 1)).val = 0 then Φa m c else Φb m c) = _; exact if_pos rfl
theorem phi_end (c : Dev nD) : (dat m c).Φ t0_0.succ = Φb m c := by
  show (if (t0_0.succ : Fin (cfg0.N + 1)).val = 0 then Φa m c else Φb m c) = _; exact if_neg (Nat.succ_ne_zero _)

theorem owes_in (c : Dev nD) (t : Fin (cfg0.N + 1)) (O : CellTallies nD τ sig Unit) (h : (dat m c).owed t = O) (W : Waits sig Unit) :
    (owes (c : Thread nD τ) O W : sProp 𝕄) ⊢ ((dat m c).owesAt () t : sProp 𝕄) := by
  unfold Dat.owesAt Pipeline.owesWithin Dat.bound
  rw [h, show (dat m c).recorded t = Set.univ from rfl]
  iintro HO; iexists W; isplitr
  · ipureintro; exact fun _ _ => Or.inl trivial
  iexact HO
theorem owes_out (c : Dev nD) (t : Fin (cfg0.N + 1)) (O : CellTallies nD τ sig Unit) (h : (dat m c).owed t = O) :
    ((dat m c).owesAt () t : sProp 𝕄) ⊢ iprop(∃ W, owes (c : Thread nD τ) O W) := by
  unfold Dat.owesAt Pipeline.owesWithin
  rw [h]
  iintro ⟨%W, -, HO⟩; iexists W; iexact HO

theorem bef_row (c : Dev nD) (d) : (dat m c).before (0 : Fin 4) t0_0 d = (rowV m c : Vec F S1x2048 .i32) := by
  unfold Dat.before; rw [if_pos (fetch0_0 t0_0)]
  exact blk_row (F := F) c (V15 m c main_v41)
theorem bef_col (c : Dev nD) (d) : (dat m c).before (1 : Fin 4) t0_0 d = (colV m c : Vec F S2048x1 .i32) := by
  unfold Dat.before; rw [if_pos (fetch0_1 t0_0)]
  exact blk_col (F := F) c (V15 m c main_arg2)
theorem bef_nbr (c : Dev nD) (d) : (dat m c).before (2 : Fin 4) t0_0 d = (nbrV m c : Vec F S3 .i32) := by
  unfold Dat.before; rw [if_pos (fetch0_2 t0_0)]
  exact blk_nbr (F := F) c (V15 m c main_v40)

/-- The body's run in the form the obligation asks, with the windows' buffers as points-to. -/
theorem body_prog (c : Dev nD) (o : Vec F S128x1024 .f32) (W : Waits sig Unit) (Q : PUnit → sProp 𝕄) :
    iprop(Φa m c ∗ owes (c : Thread nD τ) (O₀ c) W ∗ rowPts c (rowV m c) ∗ colPts c (colV m c) ∗ nbrPts c (nbrV m c) ∗ outPts c o)
    ⊢ iprop(((Φb m c ∗ (∃ W, owes (c : Thread nD τ) 0 W) ∗ rowPts c (rowV m c) ∗ colPts c (colV m c) ∗ nbrPts c (nbrV m c)
        ∗ outPts c (outV m c)) -∗ Q ⟨⟩) -∗ WP c (bodyAt0 (F := F) t0_0) Q) := by
  rw [body_eq]
  have hb : (bodyP : P F) = (bodyP >>= fun u => (.ret u : P F)) := (bind_pure _).symm
  rw [hb]
  unfold Φa Xk
  iintro ⟨⟨⟨⟨%K, HI⟩, Hst⟩, Hops, Hscr, Hp⟩, HO, Hr, Hc, Hn, Ho⟩ Hk
  iapply (body_run (vals m) K (rowV m c) (colV m c) (nbrV m c) o W (fun u => (.ret u : P F)) Q (nbr_ok m c) (good_vals m c))
    $$ [HI Hst Hscr Hops HO Hr Hc Hn Ho]
  · isplitl [HI]; · iexact HI
    isplitl [Hst]; · iexact Hst
    isplitl [Hscr]; · iexact Hscr
    isplitl [Hops]; · iexact Hops
    isplitl [HO]; · iexact HO
    isplitl [Hr]; · iexact Hr
    isplitl [Hc]; · iexact Hc
    isplitl [Hn]; · iexact Hn
    iexact Ho
  iintro ⟨Hb, Hs, Hscr, Hops, HO, Hr, Hc, Hn, Ho⟩
  unfold WP
  rw [wp_ret]
  imodintro
  iapply Hk
  unfold Φb
  isplitl [Hb Hs Hscr Hops Hp]
  · isplitl [Hb]; · iexact Hb
    isplitl [Hs]; · iexact Hs
    isplitl [Hops]; · iexact Hops
    isplitl [Hscr]; · iexact Hscr
    iexact Hp
  isplitl [HO]; · iexact HO
  isplitl [Hr]; · iexact Hr
  isplitl [Hc]; · iexact Hc
  isplitl [Hn]; · iexact Hn
  iexact Ho

theorem stage_row (c : Dev nD) (f : Vec F S1x2048 .i32) :
    (owns (c : Thread nD τ) ((cfg0.win (0 : Fin 4)).stage (cfg0.slots t0_0 (0 : Fin 4))) fullShare f : sProp 𝕄) = rowPts c f := owns_whole _ _ _ _
theorem stage_col (c : Dev nD) (f : Vec F S2048x1 .i32) :
    (owns (c : Thread nD τ) ((cfg0.win (1 : Fin 4)).stage (cfg0.slots t0_0 (1 : Fin 4))) fullShare f : sProp 𝕄) = colPts c f := owns_whole _ _ _ _
theorem stage_nbr (c : Dev nD) (f : Vec F S3 .i32) :
    (owns (c : Thread nD τ) ((cfg0.win (2 : Fin 4)).stage (cfg0.slots t0_0 (2 : Fin 4))) fullShare f : sProp 𝕄) = nbrPts c f := owns_whole _ _ _ _
theorem stage_out (c : Dev nD) (f : Vec F S128x1024 .f32) :
    (owns (c : Thread nD τ) ((cfg0.win (3 : Fin 4)).stage (cfg0.slots t0_0 (3 : Fin 4))) fullShare f : sProp 𝕄) = outPts c f := owns_whole _ _ _ _

theorem prog_eq : (defs₀ (F := F) .tc cfg0.body (cfg0.bodyArgs t0_0 (cfg0.slots t0_0))) = bodyAt0 (F := F) t0_0 := rfl

theorem body_obl (c : Dev nD) : BodyObligation (dat m c) (defs₀ (F := F)) 𝒱₀ () Set.univ := fun t => by
  obtain rfl := fin_N0 t
  rw [bigSep_W0, bigSep_W0, phi_first, phi_end]
  rw [prog_eq]
  dsimp only
  iintro ⟨HΦ, HO, ⟨%d0, H0⟩, ⟨%d1, H1⟩, ⟨%d2, H2⟩, ⟨%d3, H3⟩⟩
  rw [bef_row, bef_col, bef_nbr]
  ihave HO := (owes_out m c _ (O₀ c) (owed_first m c)) $$ HO
  icases HO with ⟨%W, HO⟩
  iapply (body_prog m c ((dat m c).before (3 : Fin 4) t0_0 d3) W _) $$ [HΦ HO H0 H1 H2 H3]
  · isplitl [HΦ]; · iexact HΦ
    isplitl [HO]; · iexact HO
    isplitl [H0]; · iapply (Entails.of_eq (stage_row c (rowV m c))); iexact H0
    isplitl [H1]; · iapply (Entails.of_eq (stage_col c (colV m c))); iexact H1
    isplitl [H2]; · iapply (Entails.of_eq (stage_nbr c (nbrV m c))); iexact H2
    iapply (Entails.of_eq (stage_out c ((dat m c).before (3 : Fin 4) t0_0 d3))); iexact H3
  iintro ⟨HΦ, ⟨%W', HO⟩, H0, H1, H2, H3⟩
  isplitl [HΦ]; · iexact HΦ
  isplitl [HO]
  · iapply (owes_in m c _ 0 (owed_end m c) W'); iexact HO
  isplitl [H0]; · iapply (Entails.of_eq (stage_row c (rowV m c)).symm); iexact H0
  isplitl [H1]; · iapply (Entails.of_eq (stage_col c (colV m c)).symm); iexact H1
  isplitl [H2]; · iapply (Entails.of_eq (stage_nbr c (nbrV m c)).symm); iexact H2
  iapply (Entails.of_eq (stage_out c (outV m c)).symm); iexact H3

end Cert.KernelIdeal.Snake

end
-- ==== Proof.Entry.lean ====
/-
  The call as a record: its cells are opened on entry, the body's invariant is made of what the region holds, and every
  counter is given back at zero.
-/
module

public import proofs.«01_k».proof.Proof.Region
public import proofs.«01_k».proof.Proof.Gen.KernelIdeal.Regions

@[expose] public section

set_option maxRecDepth 65536

noncomputable section

namespace Cert.KernelIdeal.Snake

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.KernelIdeal.Gen

variable {F : FTy → Type} [FloatOps F]
local notation "𝕄" => MT nD τ sig Unit (Elt F) ℕ UU ℕ

variable (m : (ℓ : Loc nD τ sig) → Buf (Elt F) ℓ)

/-- Every cell's invariant. -/
def invs (K : GSem nD τ sig → ℕ) : sProp 𝕄 := bigSep (barCells ∪ scCells) fun g => cellInv ER (rd (vals m)) (K g) g
instance invs_persistent (K : GSem nD τ sig → ℕ) : BI.Persistent (invs m K) := by unfold invs; infer_instance

/-- The tokens and credits a device starts with. -/
def toks (c : Dev nD) : sProp 𝕄 :=
  iprop(dutyTok ER (barC (left c)) 0 true ∗ dutyTok ER (barC (right c)) 0 false
    ∗ bigSep Finset.univ (fun s : Fin 5 => dutyTok ER (ldC c s) 0 true) ∗ bigSep Finset.univ (fun p : Hop => dutyTok ER (sdC c p) 0 true)
    ∗ bigSep Finset.univ (fun p : Hop => dutyTok ER (rvC (toD c p.1) p) 0 true))
def creds (c : Dev nD) : sProp 𝕄 :=
  iprop(cred (tallyAt (barC c) () 2) ∗ bigSep Finset.univ (fun p : Hop => cred (tallyAt (rvC c p) () chN)))

/-- What a device carries from the launch to the call. -/
def Tk (c : Dev nD) : sProp 𝕄 :=
  iprop((∃ K, invs m K) ∗ reached ER (barC (left c)) 0 ∗ reached ER (barC (right c)) 0 ∗ atPos ER (barC c) 0 ∅ 0
    ∗ bigSep Finset.univ (fun k : SK => openTok ER (scC c k)) ∗ toks (F := F) c ∗ creds (F := F) c)

/-- A device's scoped semaphores. -/
def osem (k : SK) : SemLoc sig := .dma (semOf k)

theorem osem_facts : Pipeline.OwnSemFacts spec0 osem :=
  ⟨by decide +kernel, fun a b h => semOf_inj (by injection h), by decide +kernel⟩

theorem inv_at (K : GSem nD τ sig → ℕ) (c : Dev nD) (k : SK) : invs m K ⊢ (cellInv ER (rd (vals m)) (K (scC c k)) (scC c k) : sProp 𝕄) := by
  unfold invs
  exact bs_elim (mem_scCells c k) (Φ := fun g => cellInv ER (rd (vals m)) (K g) g)

theorem open_one (K : GSem nD τ sig → ℕ) (c : Dev nD) (k : SK) : iprop(invs m K ∗ openTok ER (scC c k) ∗ semVal (scC c k) 0)
    ⊢ (|={Set.univ}=> iprop(atPos ER (scC c k) 0 ∅ 0 ∗ reached ER (scC c k) 0) : sProp 𝕄) :=
  (sep_mono_left (inv_at m K c k)).trans (Rounds.cell_open ER (rd (vals m)) (Set.mem_univ (K (scC c k))))

/-- Families opened together. -/
theorem open_fam {I : Type} [DecidableEq I] (J : sProp 𝕄) [BI.Persistent J] (A B C D : I → sProp 𝕄)
    (h : ∀ i, iprop(J ∗ A i ∗ B i) ⊢ (|={Set.univ}=> iprop(C i ∗ D i) : sProp 𝕄)) (S : Finset I) :
    iprop(J ∗ bigSep S A ∗ bigSep S B) ⊢ (|={Set.univ}=> iprop(bigSep S C ∗ bigSep S D) : sProp 𝕄) := by
  induction S using Finset.induction_on with
  | empty =>
    rw [BI.bigSep_empty, BI.bigSep_empty, BI.bigSep_empty, BI.bigSep_empty]
    iintro -
    imodintro
    isplitr <;> iempintro
  | insert k S hk ih =>
    rw [bs_insert hk, bs_insert hk, bs_insert hk, bs_insert hk]
    iintro ⟨#HI, ⟨Ho, HS⟩, ⟨Hv, HV⟩⟩
    imod ih $$ [HS HV] with ⟨Ha, Hr⟩
    · isplitr; · iexact HI
      isplitl [HS] <;> iassumption
    imod (h k) $$ [Ho Hv] with ⟨Hak, Hrk⟩
    · isplitr; · iexact HI
      isplitl [Ho] <;> iassumption
    imodintro
    isplitl [Ha Hak]
    · isplitl [Hak] <;> iassumption
    · isplitl [Hrk] <;> iassumption

/-- Cells opened together. -/
theorem open_all (K : GSem nD τ sig → ℕ) (c : Dev nD) :
    iprop(invs m K ∗ bigSep Finset.univ (fun k : SK => openTok ER (scC c k)) ∗ Pipeline.ownSems0 osem c)
      ⊢ (|={Set.univ}=> iprop(bigSep Finset.univ (fun k : SK => atPos ER (scC c k) 0 ∅ 0) ∗ bigSep Finset.univ (fun k : SK => reached ER (scC c k) 0)) : sProp 𝕄) :=
  open_fam (invs m K) _ _ _ _ (open_one m K c) Finset.univ

theorem ownSems_eq (c : Dev nD) : (Pipeline.ownSems0 osem c : sProp 𝕄) = bigSep Finset.univ (fun k : SK => semVal (scC c k) 0) := rfl

theorem hopen_of {X : Type} (I : X → sProp 𝕄) [∀ x, BI.Persistent (I x)] (Ho Hv Ha Hr rl rr ab tl tr ld sd rv cb cr lev : sProp 𝕄)
    (h : ∀ x, iprop(I x ∗ Ho ∗ Hv) ⊢ (|={Set.univ}=> iprop(Ha ∗ Hr) : sProp 𝕄)) :
    iprop(((∃ x, I x) ∗ rl ∗ rr ∗ ab ∗ Ho ∗ (tl ∗ tr ∗ ld ∗ sd ∗ rv) ∗ (cb ∗ cr)) ∗ Hv ∗ lev)
      ⊢ (|={Set.univ}=> iprop((∃ x, I x ∗ Hr ∗ lev) ∗ (ab ∗ Ha ∗ tl ∗ tr ∗ rl ∗ rr ∗ ld ∗ sd ∗ rv ∗ cb ∗ cr)) : sProp 𝕄) := by
  iintro ⟨⟨⟨%K, #HI⟩, Hrl, Hrr, Hab, Ho, ⟨Htl, Htr, Hld, Hsd, Hrv⟩, Hcb, Hcr⟩, Hv, Hlev⟩
  imod (h K) $$ [Ho Hv] with ⟨Ha, Hr⟩
  · isplitr; · iexact HI
    isplitl [Ho] <;> iassumption
  imodintro
  isplitl [Hr Hlev]
  · iexists K
    isplitr; · iexact HI
    isplitl [Hr] <;> iassumption
  isplitl [Hab]; · iexact Hab
  isplitl [Ha]; · iexact Ha
  isplitl [Htl]; · iexact Htl
  isplitl [Htr]; · iexact Htr
  isplitl [Hrl]; · iexact Hrl
  isplitl [Hrr]; · iexact Hrr
  isplitl [Hld]; · iexact Hld
  isplitl [Hsd]; · iexact Hsd
  isplitl [Hrv]; · iexact Hrv
  isplitl [Hcb]; · iexact Hcb
  iexact Hcr

theorem hopen (c : Dev nD) : iprop(Tk m c ∗ Pipeline.ownSems0 osem c ∗ levAts L lv) ⊢ (|={Set.univ}=> Xk m c : sProp 𝕄) := by
  unfold Tk Xk Inv start toks creds
  exact hopen_of (invs m) _ _ _ _ _ _ _ _ _ _ _ _ _ _ _ fun K => open_all m K c

/-- The two operands the body addresses itself. -/
def Hs : Finset (DevRef τ sig) := {Proc.devRef .tc main_arg0, Proc.devRef .tc main_arg3}

/-- Contents of every buffer after the call. -/
def outs : Outs (F := F) := fun _ b c => if h : b = main_v42 then h ▸ (outV m c : Vec F S128x1024 .f32) else fun _ => Classical.arbitrary _

theorem V16_out (c : Dev nD) : V16 m (outs m) c main_v42 = (outV m c : Vec F S128x1024 .f32) := by
  unfold V16
  rw [Function.update_self]
  rfl

theorem V15_arg0 (c : Dev nD) : V15 m c main_arg0 = m ((c : Thread nD τ).loc main_arg0) :=
  (V16_of m (outs m) c main_arg0 (by decide)).symm.trans (V16_main_arg0 m (outs m) c)
theorem V15_arg2 (c : Dev nD) : V15 m c main_arg2 = m ((c : Thread nD τ).loc main_arg2) :=
  (V16_of m (outs m) c main_arg2 (by decide)).symm.trans (V16_main_arg2 m (outs m) c)
theorem V15_arg3 (c : Dev nD) : V15 m c main_arg3 = m ((c : Thread nD τ).loc main_arg3) :=
  (V16_of m (outs m) c main_arg3 (by decide)).symm.trans (V16_main_arg3 m (outs m) c)

theorem held_Hs (c : Dev nD) (W : Valuation τ sig (Elt F)) (h0 : W (Proc.devRef .tc main_arg0) = m ((c : Thread nD τ).loc main_arg0))
    (h3 : W (Proc.devRef .tc main_arg3) = m ((c : Thread nD τ).loc main_arg3)) :
    (StableHlo.held (c : Thread nD τ) Hs W : sProp 𝕄) = ops (vals m) c := by
  unfold StableHlo.held
  rw [bigSep_eq_bigSepL_of_eq [Proc.devRef .tc main_arg0, Proc.devRef .tc main_arg3] (by decide) (by decide)]
  show iprop(((c : Thread nD τ).loc main_arg0 ↦{fullShare} W (Proc.devRef .tc main_arg0)) ∗ ((c : Thread nD τ).loc main_arg3 ↦{fullShare} W (Proc.devRef .tc main_arg3))) = _
  rw [h0, h3]
  rfl

theorem hin (c : Dev nD) : iprop(Pipeline.scopedRest spec0 c ∗ (∃ r, prngReg c r) ∗ StableHlo.held (c.tc : Thread nD τ) Hs (V15 m c) ∗ Xk m c)
    ⊢ (Φa m c : sProp 𝕄) := by
  rw [scopedRest0_eq, held_Hs m c _ (V15_arg0 m c) (V15_arg3 m c)]
  unfold Φa scr
  iintro ⟨⟨H0, H1, H2⟩, Hp, Ho, HX⟩
  isplitl [HX]; · iexact HX
  isplitl [Ho]; · iexact Ho
  isplitl [H0 H1 H2]
  · isplitl [H0]; · iexact H0
    isplitl [H1] <;> iassumption
  iexact Hp

theorem hout (c : Dev nD) : (Φb m c : sProp 𝕄)
    ⊢ iprop(Pipeline.scopedRest spec0 c ∗ (∃ r, prngReg c r) ∗ StableHlo.held (c.tc : Thread nD τ) Hs (V16 m (outs m) c)
      ∗ Pipeline.ownSems0 osem c ∗ semVal (barC c) 0) := by
  rw [scopedRest0_eq, held_Hs m c _ (V16_main_arg0 m (outs m) c) (V16_main_arg3 m (outs m) c), ownSems_eq]
  unfold Φb scr
  iintro ⟨Hb, Hs, Ho, ⟨H0, H1, H2⟩, Hp⟩
  isplitl [H0 H1 H2]
  · isplitl [H0]; · iexact H0
    isplitl [H1] <;> iassumption
  isplitl [Hp]; · iexact Hp
  isplitl [Ho]; · iexact Ho
  isplitl [Hs]; · iexact Hs
  iexact Hb

/-! ## The record -/

def pdats (p : Fin 1) (c : Dev nD) : Dat τ (Elt F) Unit ℕ UU ℕ (cfgs p) c := dat m c

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem O₀_pos {c : Dev nD} {g : GSem nD τ sig} {u : Unit} (h : 0 < O₀ c g u) :
    (∃ p, g = rvC (toD c p.1) p) ∨ g = barC (right c) ∨ g = barC (left c) := by
  unfold O₀ at h
  rw [Pi.add_apply, Finsupp.add_apply, Pi.add_apply, Finsupp.add_apply, tallyAt_apply, tallyAt_apply] at h
  by_cases h1 : g = barC (left c) ∧ u = ()
  · exact .inr (.inr h1.1)
  by_cases h2 : g = barC (right c) ∧ u = ()
  · exact .inr (.inl h2.1)
  rw [if_neg h1, if_neg h2, Nat.add_zero] at h
  obtain ⟨p, -, hp⟩ := owedOf_pos c _ g u h
  exact .inl ⟨p, hp⟩

theorem cutD (c : Dev nD) (t : Fin (cfg0.N + 1)) (g : GSem nD τ sig) (i : Unit) (h : 0 < (dat m c).owed t g i) :
    i ∈ L g ∧ (0 : ℕ) < lv g i := by
  have e : (dat m c).owed t = if t.val = 0 then O₀ c else 0 := rfl
  rw [e] at h
  split at h
  · rcases O₀_pos h with ⟨p, rfl⟩ | rfl | rfl
    · exact ⟨by rw [L_tc]; exact Finset.mem_singleton_self _, by rw [show i = () from rfl, lv_rv]; omega⟩
    · exact ⟨by rw [L_tc]; exact Finset.mem_singleton_self _, by rw [show i = () from rfl, lv_bar]; omega⟩
    · exact ⟨by rw [L_tc]; exact Finset.mem_singleton_self _, by rw [show i = () from rfl, lv_bar]; omega⟩
  · exact absurd h (Nat.lt_irrefl 0)

theorem lv_none (c : Dev nD) (d : DmaSem sig) (h : kindD d = none) : lv ((c : Thread nD τ), .dma d) () = 0 := by
  unfold lv; dsimp only; rw [h]

theorem stage_kind : ∀ (w : Fin 4) (s : Fin (spec0 w).nbuf), kindD ((spec0 w).sem s) = none := by decide +kernel

theorem stage_lv (c : Dev nD) : ∀ (w : Fin 4) (s : Fin (spec0 w).nbuf), lv ((c : Thread nD τ), .dma ((spec0 w).sem s)) () = 0 := by
  exact fun w s => lv_none c _ (stage_kind w s)

theorem in_ne : ∀ w : Fin 4, (cfg0.win w).isOut = false → Pipeline.arrRef spec0 w ∉ ([main_v42] : List (Ref sig .tc)) := by decide
theorem out_eq : ∀ w : Fin 4, (cfg0.win w).isOut = true → w = 3 := by decide

theorem arr_out (c : Dev nD) : (dat m c).arrAt (3 : Fin 4) cfg0.N = (outV m c : Vec F S128x1024 .f32) := by
  refine (blk_out (F := F) c _).symm.trans ?_
  have e : (dat m c).arrAt (3 : Fin 4) cfg0.N = (dat m c).arrAt (3 : Fin 4) ((t0_0 : Fin cfg0.N).val + 1) := rfl
  rw [e, (dat m c).arrAt_succ (3 : Fin 4) t0_0, if_pos (flush0_3 t0_0)]
  exact View.read_write_univ _ _

theorem arr_end (c : Dev nD) (w : Fin 4) : (dat m c).arrAt w cfg0.N = V16 m (outs m) c (Proc.devRef .tc (Pipeline.arrRef spec0 w)) := by
  rcases h : (cfg0.win w).isOut with _ | _
  · refine ((dat m c).arrAt_in w h _).trans ?_
    exact (V16_of m (outs m) c (Pipeline.arrRef spec0 w) (in_ne w h)).symm
  · rw [out_eq w h]
    exact (arr_out m c).trans (V16_out m c).symm

theorem share_full (c : Dev nD) (w : Fin 4) : (dat m c).share w = fullShare := by
  unfold Dat.share
  exact ite_self _

/-! ## The record -/

abbrev Sr : Finset (DevRef τ sig) := Pipeline.ucRefs τ sig \ Pipeline.arrRefs (τ := τ) spec0

theorem Hs_sub : Hs ⊆ Sr := by
  intro b hb
  rcases Finset.mem_insert.mp hb with rfl | hb
  · exact Finset.mem_sdiff.mpr ⟨Finset.mem_filter.mpr ⟨StableHlo.devRef_mem_tcRefs main_arg0, by decide⟩, by decide⟩
  · rw [Finset.mem_singleton.mp hb]
    exact Finset.mem_sdiff.mpr ⟨Finset.mem_filter.mpr ⟨StableHlo.devRef_mem_tcRefs main_arg3, by decide⟩, by decide⟩

theorem not_out : (Proc.devRef .tc main_v42 : DevRef τ sig) ∈ Pipeline.arrRefs (τ := τ) spec0 := by decide

theorem V16_rest (c : Dev nD) (b : DevRef τ sig) (h : b ∈ Sr \ Hs) : V16 m (outs m) c b = V15 m c b := by
  unfold V16
  refine Function.update_of_ne (fun e => ?_) _ _
  exact (Finset.mem_sdiff.mp (Finset.mem_sdiff.mp h).1).2 (e ▸ not_out)

set_option backward.isDefEq.respectTransparency.types false in
/-- The call, entered with every array as the host code left it. -/
def reg : Pipeline.RegionSeg (pcfgs (F := F)) adm (pdats m) () defs₀ 𝒱₀ L lv 0 :=
  Pipeline.RegionSeg.ofTalk (pcfgs (F := F)) adm (pdats m) () defs₀ 𝒱₀ L lv 0 osem osem_facts Hs Sr Hs_sub kitP rfl
    (fun c => (body_obl m c).loose) (fun _ => 0) O₀ (fun c => (owed_first m c).trans (zero_add _).symm) (fun c => owed_end m c) (fun _ => rfl) (share_full m)
    (fun c => V15 m c) (fun c => V16 m (outs m) c) (fun c b hb => V16_rest m c b hb) (Tk m) (fun c => semVal (barC c) 0) (Xk m) (fun c => semVal (barC c) 0)
    (hopen m) (fun c => (hin m c).trans (Entails.of_eq (phi_first m c).symm)) (fun c => (Entails.of_eq (phi_end m c)).trans (hout m c)) (fun c => by iintro H; imodintro; iexact H) (fun _ => 0)
    ⟨fun c w s => by rw [L_tc]; exact Finset.mem_singleton_self _, fun c w s => (stage_lv c w s).le, cutD m⟩ (fun _ => iprop(emp)) (fun c w => rfl) (fun c w => arr_end m c w)

end Cert.KernelIdeal.Snake

end
-- ==== Proof.Credits.lean ====
/-
  What the launch deals: the credits a device finds on its own cells, and the tokens, each moved to the device that pays with it.
-/
module

public import proofs.«01_k».proof.Proof.Entry
public import Idealize.ShloMosaic.Harness.Basic

@[expose] public section

set_option maxRecDepth 65536

noncomputable section

namespace Cert.KernelIdeal.Snake

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]
local notation "𝕄" => MT nD τ sig Unit (Elt F) ℕ UU ℕ

/-! ## Cells apart -/

theorem scC_inj {c c' : Dev nD} {k k' : SK} (h : scC c k = scC c' k') : c = c' ∧ k = k' :=
  ⟨congrArg (fun g : GSem nD τ sig => g.1.1) h, semOf_inj (SemLoc.dma.inj (congrArg Prod.snd h))⟩
theorem barC_inj {c c' : Dev nD} (h : barC c = barC c') : c = c' := congrArg (fun g : GSem nD τ sig => g.1.1) h
theorem bar_ne_sc (c c' : Dev nD) (k : SK) : barC c ≠ scC c' k := fun h => by cases congrArg Prod.snd h
theorem rvC_inj {c c' : Dev nD} {p p' : Hop} (h : rvC c p = rvC c' p') : c = c' ∧ p = p' := by
  obtain ⟨h1, h2⟩ := scC_inj (k := rvK p) (k' := rvK p') h
  exact ⟨h1, Sum.inr.inj (Sum.inr.inj h2)⟩

theorem disjoint_cells : Disjoint (barCells : Finset (GSem nD τ sig)) scCells := by
  refine Finset.disjoint_left.mpr fun g h1 h2 => ?_
  obtain ⟨c, -, rfl⟩ := Finset.mem_image.mp h1
  obtain ⟨q, -, h⟩ := Finset.mem_image.mp h2
  exact bar_ne_sc c q.1 q.2 h.symm

/-! ## Credits -/

theorem owedOf_apply (d : Dev nD) (g : GSem nD τ sig) :
    (owedOf d Finset.univ) g () = ∑ q : Hop, if g = rvC (toD d q.1) q then chN else 0 := by
  unfold owedOf
  rw [Finset.sum_apply, Finsupp.finset_sum_apply]
  refine Finset.sum_congr rfl fun q _ => ?_
  rw [tallyAt_apply]
  exact if_congr ⟨fun h => h.1, fun h => ⟨h, rfl⟩⟩ rfl rfl

theorem O₀_apply (d : Dev nD) (g : GSem nD τ sig) :
    O₀ d g () = (∑ q : Hop, if g = rvC (toD d q.1) q then chN else 0) + (if g = barC (right d) then 1 else 0) + (if g = barC (left d) then 1 else 0) := by
  unfold O₀
  rw [Pi.add_apply, Finsupp.add_apply, Pi.add_apply, Finsupp.add_apply, owedOf_apply, tallyAt_apply, tallyAt_apply]
  rw [if_congr (show (g = barC (right d) ∧ () = ()) ↔ g = barC (right d) from ⟨fun h => h.1, fun h => ⟨h, rfl⟩⟩) rfl rfl,
    if_congr (show (g = barC (left d) ∧ () = ()) ↔ g = barC (left d) from ⟨fun h => h.1, fun h => ⟨h, rfl⟩⟩) rfl rfl]

theorem owed_bar (d c : Dev nD) : O₀ d (barC c) () = (if d = left c then 1 else 0) + (if d = right c then 1 else 0) := by
  rw [O₀_apply, Finset.sum_eq_zero fun q _ => if_neg fun h => bar_ne_sc c _ _ h, Nat.zero_add]
  rw [if_congr (show barC c = barC (right d) ↔ d = left c from ⟨fun h => by rw [barC_inj h, left_right], fun h => by rw [h, right_left]⟩) rfl rfl,
    if_congr (show barC c = barC (left d) ↔ d = right c from ⟨fun h => by rw [barC_inj h, right_left], fun h => by rw [h, left_right]⟩) rfl rfl]

theorem owed_rv (d c : Dev nD) (p : Hop) : O₀ d (rvC c p) () = if d = froD c p.1 then chN else 0 := by
  rw [O₀_apply, if_neg fun h => bar_ne_sc _ _ _ h.symm, if_neg fun h => bar_ne_sc _ _ _ h.symm, Nat.add_zero,
    Finset.sum_eq_single p (fun q _ hq => if_neg fun h => hq (rvC_inj h).2.symm) (fun h => absurd (Finset.mem_univ p) h)]
  exact if_congr ⟨fun h => by rw [(rvC_inj h).1, fro_to], fun h => by rw [h, to_fro]⟩ rfl rfl

theorem launch_bar (c : Dev nD) :
    tallyOn (barC c) (launchCredit (Pipeline.owing O₀) 0 (barC c)) = (tallyAt (barC c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (left c) fun _ => 1, Finset.sum_ite_eq' Finset.univ (right c) fun _ => 1, if_pos (Finset.mem_univ _), if_pos (Finset.mem_univ _)]

theorem launch_rv (c : Dev nD) (p : Hop) :
    tallyOn (rvC c p) (launchCredit (Pipeline.owing O₀) 0 (rvC c p)) = (tallyAt (rvC c p) () chN : CellTallies nD τ sig Unit) := by
  unfold tallyAt; refine congrArg _ (Finsupp.ext fun u => ?_); cases u
  rw [Pipeline.launchCredit_owing, Finsupp.single_eq_same, Finset.sum_congr rfl fun d _ => owed_rv d c p,
    Finset.sum_ite_eq' Finset.univ (froD c p.1) fun _ => chN, if_pos (Finset.mem_univ _)]

theorem creds_intro (c : Dev nD) : (Pipeline.launchCred O₀ c : sProp 𝕄) ⊢ creds (F := F) c := by
  unfold Pipeline.launchCred creds
  rw [bigSep_univ_at _ (SemLoc.reg barrier0), launch_bar]
  refine sep_mono_right ?_
  have hsub : (Finset.univ : Finset Hop).image (fun p => (SemLoc.dma (semOf (rvK p)) : SemLoc sig)) ⊆ Finset.univ.erase (SemLoc.reg barrier0) := by
    intro s hs
    obtain ⟨p, -, rfl⟩ := Finset.mem_image.mp hs
    exact Finset.mem_erase.mpr ⟨fun h => (by cases h), Finset.mem_univ _⟩
  have hinj : Set.InjOn (fun p : Hop => (SemLoc.dma (semOf (rvK p)) : SemLoc sig)) (Finset.univ : Finset Hop) := fun p _ q _ h =>
    Sum.inr.inj (Sum.inr.inj (semOf_inj (SemLoc.dma.inj h)))
  refine (BI.bigSep_subset hsub).trans ?_
  rw [bigSep_image_of_injOn hinj]
  exact bigSep_mono fun p _ => Entails.of_eq (congrArg cred (launch_rv c p))

/-! ## Tokens -/

/-- The token of a barrier signal or of a copy. -/
def tokOf (x : Dev nD × (Bool ⊕ SK)) : GSem nD τ sig × ℕ × Bool := match x.2 with
  | .inl b => (barC x.1, 0, b)
  | .inr k => (scC x.1 k, 0, true)

theorem tokOf_inj : Function.Injective tokOf := by
  rintro ⟨c, b | k⟩ ⟨c', b' | k'⟩ h
  · have h1 : barC c = barC c' := congrArg Prod.fst h
    have h2 : b = b' := congrArg (fun t : GSem nD τ sig × ℕ × Bool => t.2.2) h
    rw [barC_inj h1, h2]
  · exact absurd (congrArg Prod.fst h) (bar_ne_sc c c' k')
  · exact absurd (congrArg Prod.fst h).symm (bar_ne_sc c' c k)
  · have h1 : scC c k = scC c' k' := congrArg Prod.fst h
    rw [(scC_inj h1).1, (scC_inj h1).2]

/-- Every token. -/
def allToks : Finset (GSem nD τ sig × ℕ × Bool) := Finset.univ.map ⟨tokOf, tokOf_inj⟩

def leftE : Dev nD ≃ Dev nD := ⟨left, right, right_left, left_right⟩
def rightE : Dev nD ≃ Dev nD := ⟨right, left, left_right, right_left⟩
def hopE : Dev nD × Hop ≃ Dev nD × Hop where
  toFun x := (toD x.1 x.2.1, x.2)
  invFun x := (froD x.1 x.2.1, x.2)
  left_inv x := by dsimp only; rw [fro_to]
  right_inv x := by dsimp only; rw [to_fro]

theorem fam_bool (Φ : Bool → sProp 𝕄) : bigSep Finset.univ Φ = iprop(Φ true ∗ Φ false) :=
  bigSep_univ_eq_bigSepL [true, false] (by decide) (by decide) Φ

theorem toks_eq : (bigSep Finset.univ fun c : Dev nD => (toks (F := F) c : sProp 𝕄)) = bigSep allToks (fun x => (dutyTok ER x.1 x.2.1 x.2.2 : sProp 𝕄)) := by
  unfold allToks toks
  rw [BI.bigSep_map, BI.bigSep_univ_prod, bigSep_sep', bigSep_sep', bigSep_sep', bigSep_sep']
  have e : ∀ c : Dev nD, (bigSep Finset.univ fun b : Bool ⊕ SK => (dutyTok ER (tokOf (c, b)).1 (tokOf (c, b)).2.1 (tokOf (c, b)).2.2 : sProp 𝕄))
      = iprop((dutyTok ER (barC c) 0 true ∗ dutyTok ER (barC c) 0 false) ∗ bigSep Finset.univ (fun s : Fin 5 => dutyTok ER (ldC c s) 0 true)
        ∗ bigSep Finset.univ (fun p : Hop => dutyTok ER (sdC c p) 0 true) ∗ bigSep Finset.univ (fun p : Hop => dutyTok ER (rvC c p) 0 true)) := fun c => by
    rw [BI.bigSep_univ_sum, fam_SK, fam_bool]; rfl
  refine Eq.trans ?_ (BI.bigSep_congr fun c _ => (e c).symm)
  rw [bigSep_sep', bigSep_sep', bigSep_sep', bigSep_sep',
    BI.bigSep_univ_equiv leftE (fun c : Dev nD => (dutyTok ER (barC c) 0 true : sProp 𝕄)),
    BI.bigSep_univ_equiv rightE (fun c : Dev nD => (dutyTok ER (barC c) 0 false : sProp 𝕄)),
    ← BI.bigSep_univ_prod (fun x : Dev nD × Hop => (dutyTok ER (rvC x.1 x.2) 0 true : sProp 𝕄)),
    BI.bigSep_univ_equiv hopE (fun x : Dev nD × Hop => (dutyTok ER (rvC x.1 x.2) 0 true : sProp 𝕄)), BI.bigSep_univ_prod]
  exact (BI.equiv_iff.mp ⟨BI.sep_assoc, BI.sep_assoc'⟩).symm

end Cert.KernelIdeal.Snake

end
-- ==== Proof.LaunchRun.lean ====
/-
  The run: from any memory with counters at zero @main ends on every device, its arguments unchanged, its result what the ring
  call computes, and every counter at zero.
-/
module

public import proofs.«01_k».proof.Proof.Credits

@[expose] public section

set_option maxRecDepth 65536

noncomputable section

namespace Cert.KernelIdeal.Snake

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair bigSep_unpair)
open Idealize.ShloMosaic.Pipeline (Seg)
open Cert.KernelIdeal.Gen

variable {F : FTy → Type} [FloatOps F]
local notation "𝕄" => MT nD τ sig Unit (Elt F) ℕ UU ℕ

variable (m : (ℓ : Loc nD τ sig) → Buf (Elt F) ℓ) (ρ : Dev nD → PrngReg)

/-! ## What a device carries beside its buffers -/

def E0 (c : Dev nD) : sProp 𝕄 := iprop(Tk m c ∗ (∃ W, owes (c : Thread nD τ) (O₀ c) W) ∗ ∃ r, prngReg c r)
def E1 (c : Dev nD) : sProp 𝕄 := iprop(semVal (barC c) 0 ∗ ∃ W, owes (c : Thread nD τ) 0 W)
def EE (i : Fin 2) (c : Dev nD) : sProp 𝕄 := if i = 0 then E0 m c else E1 c

theorem held_split (c : Dev nD) (W : Valuation τ sig (Elt F)) : (StableHlo.held (c : Thread nD τ) (Pipeline.ucRefs τ sig) W : sProp 𝕄)
    = iprop(StableHlo.held (c : Thread nD τ) (Pipeline.arrRefs (τ := τ) spec0) W ∗ StableHlo.held (c : Thread nD τ) Sr W) :=
  StableHlo.held_sub_split (c : Thread nD τ) (Pipeline.arrRefs_sub_ucRefs spec0 (by decide)) W

set_option backward.isDefEq.respectTransparency.types false in
theorem pre_call (c : Dev nD) : iprop(StableHlo.held (c : Thread nD τ) (Pipeline.ucRefs τ sig) (V15 m c) ∗ E0 m c) ⊢ ((reg m).pre c : sProp 𝕄) := by
  show _ ⊢ iprop(StableHlo.held (c : Thread nD τ) (Pipeline.arrRefs (τ := τ) spec0) (V15 m c) ∗ (∃ r, prngReg c r)
    ∗ (StableHlo.held (c : Thread nD τ) Sr (V15 m c) ∗ emp) ∗ Tk m c ∗ ∃ Wd, owes (c : Thread nD τ) (0 + O₀ c) Wd)
  rw [held_split, zero_add]
  unfold E0
  iintro ⟨⟨Ha, Hr⟩, HT, HO, Hp⟩
  isplitl [Ha]; · iexact Ha
  isplitl [Hp]; · iexact Hp
  isplitl [Hr]
  · isplitl [Hr]; · iexact Hr
    iempintro
  isplitl [HT]; · iexact HT
  iexact HO

set_option backward.isDefEq.respectTransparency.types false in
theorem post_call (c : Dev nD) : ((reg m).post c : sProp 𝕄) ⊢ iprop(StableHlo.held (c : Thread nD τ) (Pipeline.ucRefs τ sig) (V16 m (outs m) c) ∗ E1 c) := by
  show iprop(StableHlo.held (c : Thread nD τ) (Pipeline.arrRefs (τ := τ) spec0) (V16 m (outs m) c) ∗ (∃ r, prngReg c r)
    ∗ (StableHlo.held (c : Thread nD τ) Sr (V16 m (outs m) c) ∗ emp) ∗ semVal (barC c) 0 ∗ ∃ Wd, owes (c : Thread nD τ) 0 Wd) ⊢ _
  rw [held_split]
  unfold E1
  iintro ⟨Ha, -, ⟨Hr, -⟩, Hb, HO⟩
  isplitl [Ha Hr]
  · isplitl [Ha] <;> iassumption
  isplitl [Hb] <;> iassumption

/-! ## The launch -/

def onDev (c₀ : Dev nD) (X : sProp 𝕄) (c : Dev nD) : sProp 𝕄 := if c = c₀ then X else BI.emp
theorem bigSep_onDev (c₀ : Dev nD) (X : sProp 𝕄) : bigSep Finset.univ (onDev c₀ X) = X := by
  rw [bigSep_univ_at _ c₀, bigSep_congr (s := Finset.univ.erase c₀) (Ψ := fun _ => BI.emp) (fun c hc => by
    unfold onDev; rw [if_neg (Finset.ne_of_mem_erase hc)]), BI.bigSep_emp_const]
  unfold onDev
  rw [if_pos rfl]
  exact BI.equiv_iff.mp sep_emp

def G : Dev nD → sProp 𝕄 := onDev 0 (BI.own (ER (launchOf barCells scCells allToks)))
def u₀ : UU := (initOf (Pipeline.cells cfgs cellOf_inj) (Pipeline.launchToks cfgs cellOf_inj), launchOf barCells scCells allToks)

theorem fund : (ownU u₀ : sProp 𝕄)
    ⊢ |={Set.univ}=> iprop(BI.own (EP (initOf (Pipeline.cells cfgs cellOf_inj) (Pipeline.launchToks cfgs cellOf_inj))) ∗ bigSep Finset.univ (G (F := F))) := by
  unfold u₀ G
  iintro Hu
  ihave H := (ownU_pair _ _) $$ Hu
  icases H with ⟨HP, HX⟩
  imodintro
  isplitl [HP]; · iexact HP
  rw [bigSep_onDev]; iexact HX

theorem unscoped_sems (c : Dev nD) : (unscopedSems0 c : sProp 𝕄) = semVal (barC c) 0 := by
  unfold unscopedSems0
  rw [show (Finset.univ.filter fun sm : SemLoc sig => ¬ sm.isScoped .tc) = {SemLoc.reg barrier0} from by decide +kernel, BI.bigSep_singleton]

/-- What of a device's launch holdings is not ghost state. -/
def bundle (c : Dev nD) : sProp 𝕄 :=
  iprop(StableHlo.held (c : Thread nD τ) (Pipeline.ucRefs τ sig) (V0 m c) ∗ creds (F := F) c ∗ owes (c : Thread nD τ) (O₀ c) ∅ ∗ ∃ r, prngReg c r)

theorem bundle_intro (c : Dev nD) (X : sProp 𝕄) : iprop(unscopedBufs c (fun b => m ((c : Thread nD τ).loc b)) ∗ unscopedSems0 c
      ∗ owes (c : Thread nD τ) (O₀ c) ∅ ∗ Pipeline.launchCred O₀ c ∗ prngReg c (ρ c) ∗ X)
    ⊢ (iprop(bundle m c ∗ (semVal (barC c) 0 ∗ X)) : sProp 𝕄) := by
  rw [show unscopedBufs c (fun b => m ((c : Thread nD τ).loc b)) = StableHlo.held (c : Thread nD τ) (Pipeline.ucRefs τ sig) (V0 m c) from
      Pipeline.unscopedBufs_held (Ix := Unit) (Name := ℕ) (U := UU) (Lvl := ℕ) c (V0 m c), unscoped_sems]
  unfold bundle
  iintro ⟨Hh, Hus, HO, Hcr, Hp, HG⟩
  ihave Hc := (creds_intro (F := F) c) $$ Hcr
  isplitl [Hh Hc HO Hp]
  · isplitl [Hh]; · iexact Hh
    isplitl [Hc]; · iexact Hc
    isplitl [HO]; · iexact HO
    iexists (ρ c); iexact Hp
  isplitl [Hus] <;> iassumption

/-- What every device knows of the cells. -/
def records (K : GSem nD τ sig → ℕ) : sProp 𝕄 := iprop(invs m K ∗ bigSep barCells (fun g => reached ER g 0))
instance records_persistent (K : GSem nD τ sig → ℕ) : BI.Persistent (records m K) := by unfold records; infer_instance

def linear (c : Dev nD) : sProp 𝕄 :=
  iprop(atPos ER (barC c) 0 ∅ 0 ∗ bigSep Finset.univ (fun k : SK => openTok ER (scC c k)) ∗ toks (F := F) c)

theorem reached_bar (K : GSem nD τ sig → ℕ) (c : Dev nD) : records m K ⊢ (reached ER (barC c) 0 : sProp 𝕄) := by
  unfold records
  iintro ⟨-, H⟩
  iapply (bs_elim (Finset.mem_image.mpr ⟨c, Finset.mem_univ _, rfl⟩ : barC c ∈ barCells) (Φ := fun g => reached ER g 0))
  iexact H

theorem start_intro (K : GSem nD τ sig → ℕ) (c : Dev nD) : iprop(records m K ∗ (linear (F := F) c ∗ bundle m c))
    ⊢ (iprop(StableHlo.held (c : Thread nD τ) (Pipeline.ucRefs τ sig) (V0 m c) ∗ E0 m c) : sProp 𝕄) := by
  unfold bundle E0 Tk linear
  iintro ⟨#HR, ⟨Hat, Hop, Htk⟩, Hh, Hc, HO, Hp⟩
  isplitl [Hh]; · iexact Hh
  isplitl [Hat Hop Htk Hc]
  · isplitr
    · iexists K
      unfold records
      icases HR with ⟨HI, -⟩
      iexact HI
    isplitr; · iapply (reached_bar m K (left c)); iexact HR
    isplitr; · iapply (reached_bar m K (right c)); iexact HR
    isplitl [Hat]; · iexact Hat
    isplitl [Hop]; · iexact Hop
    isplitl [Htk] <;> iassumption
  isplitl [HO]
  · iexists ∅; iexact HO
  iexact Hp

theorem bar_inj : Set.InjOn (barC : Dev nD → GSem nD τ sig) (Finset.univ : Finset (Dev nD)) := fun a _ b _ h => barC_inj h
theorem sc_inj : Set.InjOn (fun p : Dev nD × SK => scC p.1 p.2) (Finset.univ : Finset (Dev nD × SK)) := fun a _ b _ h =>
  Prod.ext (scC_inj h).1 (scC_inj h).2

theorem fam_bar (Φ : GSem nD τ sig → sProp 𝕄) : bigSep barCells Φ = bigSep Finset.univ (fun c : Dev nD => Φ (barC c)) := by
  unfold barCells; exact bigSep_image_of_injOn bar_inj Φ
theorem fam_sc (Φ : GSem nD τ sig → sProp 𝕄) :
    bigSep scCells Φ = bigSep Finset.univ (fun c : Dev nD => bigSep Finset.univ fun k : SK => Φ (scC c k)) := by
  unfold scCells
  rw [bigSep_image_of_injOn sc_inj, BI.bigSep_univ_prod]

theorem linear_eq : (bigSep Finset.univ (linear (F := F)) : sProp 𝕄) = iprop(bigSep barCells (fun g => atPos ER g 0 ∅ 0)
    ∗ bigSep scCells (fun g => openTok ER g) ∗ bigSep allToks (fun x => dutyTok ER x.1 x.2.1 x.2.2)) := by
  rw [fam_bar, fam_sc, ← toks_eq, ← bigSep_sep', ← bigSep_sep']
  exact BI.bigSep_congr fun c _ => rfl

/-- Cells of any two kinds made, with their tokens. -/
theorem cells_of (v : Vals F) (S Sd : Finset (GSem nD τ sig)) (h : Disjoint S Sd) (T : Finset (GSem nD τ sig × ℕ × Bool)) :
    iprop(bigSep S (fun g => (semVal g 0 : sProp 𝕄)) ∗ BI.own (ER (launchOf S Sd T)))
      ⊢ (|={Set.univ}=> ∃ K : GSem nD τ sig → ℕ, (bigSep (S ∪ Sd) (fun g => cellInv ER (rd v) (K g) g) ∗ bigSep S (fun g => reached ER g 0))
        ∗ (bigSep S (fun g => atPos ER g 0 ∅ 0) ∗ bigSep Sd (fun g => openTok ER g) ∗ bigSep T (fun x => dutyTok ER x.1 x.2.1 x.2.2)) : sProp 𝕄) := by
  iintro ⟨Hv, Hu⟩
  imod (Rounds.fund_launch ER (rd v) h (fun g _ h => h) T) $$ [Hv Hu] with ⟨%K, -, #Hinv, #Hr, Hat, Hopen, Htok⟩
  · isplitl [Hv] <;> iassumption
  imodintro
  iexists K
  isplitr
  · isplitr; · iexact Hinv
    iexact Hr
  isplitl [Hat]; · iexact Hat
  isplitl [Hopen] <;> iassumption

/-- The cells made, from the barrier counters and the protocol's ghost state. -/
theorem cells_made : iprop((bigSep Finset.univ fun c : Dev nD => (semVal (barC c) 0 : sProp 𝕄)) ∗ bigSep Finset.univ (G (F := F)))
    ⊢ (|={Set.univ}=> ∃ K, records m K ∗ bigSep Finset.univ (linear (F := F)) : sProp 𝕄) := by
  unfold G records invs
  rw [bigSep_onDev, linear_eq, ← fam_bar (F := F) (fun g => semVal g 0)]
  exact cells_of (vals m) barCells scCells disjoint_cells allToks

theorem launch :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G (F := F) c)) ∗ levAts L lv)
      ⊢ (|={Set.univ}=> bigSep Finset.univ (fun c : Dev nD => iprop(StableHlo.held (c : Thread nD τ) (Pipeline.ucRefs τ sig) (V0 m c) ∗ E0 m c)) : sProp 𝕄) := by
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G (F := F) c))
      ⊢ (bigSep Finset.univ fun c : Dev nD => iprop(bundle m c ∗ (semVal (barC c) 0 ∗ G (F := F) c)) : sProp 𝕄) from
        bigSep_mono fun c _ => bundle_intro m ρ c (G (F := F) c)) $$ H
  ihave H2 := bigSep_unpair $$ H'; icases H2 with ⟨HB, H3⟩
  ihave H4 := bigSep_unpair $$ H3
  imod (cells_made m) $$ H4 with ⟨%K, #HR, Hl⟩
  imodintro
  iapply (bigSep_with_persistent (R := records m K) (Φ := fun c => iprop(linear (F := F) c ∗ bundle m c)) fun c _ => start_intro m K c)
  isplitr; · iexact HR
  iapply bigSep_pair
  isplitl [Hl] <;> iassumption

theorem unscoped_eq : ∀ sm : SemLoc sig, sm.isScoped .tc = false → sm = .reg barrier0 := by decide +kernel

/-! ## The run -/

/-- What a finished device shows: its arguments as launched, its result what the ring computes, its barrier counter zero. -/
def Shows (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_v42) = (outV m c : Vec F S128x1024 .f32))
  ∧ s.sem (barC c) = 0

theorem shows_of (c : Dev nD) (s' : Phys nD τ sig (Elt F)) :
    iprop((StableHlo.held (c : Thread nD τ) (Pipeline.ucRefs τ sig) (V16 m (outs m) c) ∗ semVal (barC c) 0) ∗ SI s')
      ⊢ (|={Set.univ}=> iprop(⌜Shows m c s'.mem⌝ ∗ SI s') : sProp 𝕄) := by
  unfold StableHlo.held
  iintro ⟨⟨Hh, Hb⟩, HSI⟩
  icombine HSI Hb gives %hb
  ihave Hr := (pointsTo_read_all (Pipeline.ucRefs τ sig) (fun b => ((c : Thread nD τ).1, b)) (V16 m (outs m) c) s') $$ [Hh HSI]
  · isplitl [Hh] <;> iassumption
  icases Hr with ⟨%h, HSI⟩
  imodintro
  isplitr
  · ipureintro
    exact ⟨⟨(h (Proc.devRef .tc main_arg0) (Finset.mem_filter.mpr ⟨StableHlo.devRef_mem_tcRefs main_arg0, by decide⟩)).trans (V16_main_arg0 m (outs m) c),
      (h (Proc.devRef .tc main_arg1) (Finset.mem_filter.mpr ⟨StableHlo.devRef_mem_tcRefs main_arg1, by decide⟩)).trans (V16_main_arg1 m (outs m) c),
      (h (Proc.devRef .tc main_arg2) (Finset.mem_filter.mpr ⟨StableHlo.devRef_mem_tcRefs main_arg2, by decide⟩)).trans (V16_main_arg2 m (outs m) c),
      (h (Proc.devRef .tc main_arg3) (Finset.mem_filter.mpr ⟨StableHlo.devRef_mem_tcRefs main_arg3, by decide⟩)).trans (V16_main_arg3 m (outs m) c),
      (h (Proc.devRef .tc main_v42) (Finset.mem_filter.mpr ⟨StableHlo.devRef_mem_tcRefs main_v42, by decide⟩)).trans (V16_out m c)⟩, by simpa using hb⟩
  · iexact HSI

set_option backward.isDefEq.respectTransparency.types false in
/-- THE RUN, over any float values. -/
theorem run_main : θ_run defs (onTc (τ := τ) (main (F := F))) ⟨m, fun _ => 0, ρ⟩
    (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_v42) = (outV m c : Vec F S128x1024 .f32))
      ∧ r.2.sem = fun _ => 0) := by
  refine Pipeline.θ_run_regions_kit_dev_sems (pcfgs (F := F)) adm (pdats m) () cellOf_inj EP defs₀ 𝒱₀ L lv m ρ main
    (segs m 𝒱₀ L lv (EE m) () (pdats m) (reg m))
    (fun c Q => by
      rewrite [main_chain c, Seg.run_eq_chain,
        show (segs m 𝒱₀ L lv (EE m) () (pdats m) (reg m) c).map Seg.prog = [
          StableHlo.seq (hostOps0 c), StableHlo.seq hostOps0_1, StableHlo.seq hostOps0_2, StableHlo.seq hostOps0_3, StableHlo.seq hostOps0_4,
          StableHlo.seq hostOps0_5, StableHlo.seq hostOps0_6, StableHlo.seq hostOps0_7, StableHlo.seq hostOps0_8, StableHlo.seq hostOps0_9,
          StableHlo.seq hostOps0_10, StableHlo.seq hostOps0_11, StableHlo.seq hostOps0_12, StableHlo.seq hostOps0_13, StableHlo.seq hostOps0_14,
          Prog.lift (.customCall (Pipeline.entry 0) ()) ] from rfl]
      dsimp (config := { failIfUnchanged := false }) only
      exact .rfl)
    (fun c => by simp only [segs, Seg.pipes_host, Seg.pipes_region, Seg.pipes_nil]; decide) O₀ L_of_ne G u₀ fund
    (T₀ := fun c => iprop(StableHlo.held (c : Thread nD τ) (Pipeline.ucRefs τ sig) (V0 m c) ∗ E0 m c))
    (Tₙ := fun c => iprop(StableHlo.held (c : Thread nD τ) (Pipeline.ucRefs τ sig) (V16 m (outs m) c) ∗ semVal (barC c) 0))
    (hch := fun c => ⟨.rfl, .rfl, .rfl, .rfl, .rfl, .rfl, .rfl, .rfl, .rfl, .rfl, .rfl, .rfl, .rfl, .rfl, .rfl, pre_call m c,
      (post_call m c).trans (by unfold E1; iintro ⟨Hh, Hb, HO⟩; isplitr [HO]; · isplitl [Hh] <;> iassumption
                                iexact HO)⟩)
    (hinit := launch m ρ) (QY := Shows m) (hfin := fun c s' => shows_of m c s')
    (hQ := fun s h hs => ⟨fun c => (h c).1, sem_eq_zero hs fun c sm hsm => by
        obtain rfl := unscoped_eq sm hsm
        exact (h c).2⟩)

end Cert.KernelIdeal.Snake

end
-- ==== Proof.Same.lean ====
/-
  The kernel as printed and the ideal kernel have the same text: their body tables and their @main are equal.
-/
module

public import proofs.«01_k».proof.Kernel
public import proofs.«01_k».proof.Proof.Gen.Kernel
public import proofs.«01_k».proof.KernelIdeal
public import proofs.«01_k».proof.Proof.Gen.KernelIdeal
public import Idealize.ShloMosaic.PureOps.BitExact

@[expose] public section

set_option maxRecDepth 65536
noncomputable section
namespace Cert.Frames
open Idealize.ShloMosaic Idealize.ShloMosaic.TcCoe Idealize.SL.Sem

variable {F : FTy → Type} [FloatOps F]
/-- Two sequences are equal when their first programs and their continuations are. -/
theorem bind_eq {E : Type → Type} {α β : Type} {a a' : Prog E α} {f f' : α → Prog E β} (h : a = a') (g : ∀ x, f x = f' x) :
    (a >>= f) = (a' >>= f') := by rw [h, funext g]
/-- The type of the ideal kernel's @main. -/
abbrev TT (F : FTy → Type) [FloatOps F] := Prog (TpuEff KernelIdeal.nD KernelIdeal.τ KernelIdeal.sig (Elt F) (Pipeline.Sig KernelIdeal.Λ₀ (Fin 1) fun p => (KernelIdeal.pcfgs (F := F) p).Adm) .tc) PUnit
set_option maxHeartbeats 2000000
/-- The two ring kernels' bodies are equal. -/
theorem body_eq : @Cert.Kernel.cc0__body F _ _ = @Cert.KernelIdeal.cc0__body F _ _ := by
  have h : @Cert.Kernel.cc0__body F _ _ = @Cert.KernelIdeal.cc0__body F _ _ := rfl
  exact h
/-- The two body tables, before the pipeline, are equal. -/
theorem defs0_eq : (Kernel.defs₀ (F := F) : Defs KernelIdeal.nD KernelIdeal.τ KernelIdeal.sig (Elt F) KernelIdeal.Λ₀) = KernelIdeal.defs₀ := by
  funext p ℓ a
  cases p with
  | tc =>
    match ℓ, a with
    | 0, (t, s) =>
      have h : (Kernel.defs₀ (F := F) : Defs KernelIdeal.nD KernelIdeal.τ KernelIdeal.sig (Elt F) KernelIdeal.Λ₀) .tc 0 (t, s)
          = KernelIdeal.defs₀ .tc 0 (t, s) := rfl
      exact h
  | scScalar _ => rfl
  | scVector _ _ => rfl

/-- The type of the ideal kernel's body table. -/
abbrev DD (F : FTy → Type) [FloatOps F] := Defs KernelIdeal.nD KernelIdeal.τ KernelIdeal.sig (Elt F)
  (Pipeline.Sig KernelIdeal.Λ₀ (Fin 1) fun p => (KernelIdeal.pcfgs (F := F) p).Adm)

/-- The two body tables are equal. -/
theorem defs_eq : (Kernel.defs (F := F) : DD F) = KernelIdeal.defs := by
  have h : (Kernel.defs (F := F) : DD F) = Pipeline.defs KernelIdeal.pcfgs (Kernel.defs₀ (F := F)) := rfl
  rw [h, defs0_eq]
  unfold KernelIdeal.defs
  with_reducible rfl
set_option maxHeartbeats 4000000 in
theorem p1_eq (d) : (Kernel.main_part1 (F := F) d : TT F) = KernelIdeal.main_part1 d := by
  unfold Kernel.main_part1 KernelIdeal.main_part1
  iterate 10 refine bind_eq rfl fun _ => ?_
  rfl
set_option maxHeartbeats 20000000 in
theorem p0_eq (d) : (Kernel.main_part0 (F := F) d : TT F) = KernelIdeal.main_part0 d := by
  unfold Kernel.main_part0 KernelIdeal.main_part0
  iterate 59 refine bind_eq rfl fun _ => ?_
  rfl
set_option maxHeartbeats 1000000 in
/-- The two programs' @main are equal. -/
theorem main_eq (d) : (Kernel.main (F := F) d : TT F) = KernelIdeal.main d := by
  unfold Kernel.main KernelIdeal.main
  exact bind_eq (p0_eq d) fun _ => p1_eq d
end Cert.Frames
end
-- ==== Proof.Frames.lean ====
/-
  The frames: each program ends on every device with its arguments as launched and every counter at zero.
-/
module

public import proofs.«01_k».proof.Kernel
public import proofs.«01_k».proof.Proof.Gen.Kernel
public import proofs.«01_k».proof.Proof.LaunchRun
public import proofs.«01_k».proof.Proof.Same
public import proofs.«01_k».proof.Proof.Gen.ReferenceIdeal.Run
public import Idealize.ShloMosaic.Lib.Quiescent
public import Idealize.ShloMosaic.PureOps.BitExact
public import Idealize.ShloMosaic.PureOps.Ideal
public import proofs.«01_k».proof.Defs

@[expose] public section

noncomputable section

namespace Cert.Frames

open Idealize.ShloMosaic Idealize.ShloMosaic.TcCoe Idealize.SL.Sem

set_option maxHeartbeats 4000000 in
/-- The kernel as printed: its text is the ideal program's, so its run is that one at bits. -/
theorem kernel : Cert.quiescent_Kernel := by
  intro m ρ _
  have key : θ_run (Kernel.defs (F := Bits) : DD Bits) (onTc (τ := KernelIdeal.τ) (fun d => (Kernel.main (F := Bits) d : TT Bits)))
      ⟨m, fun _ => 0, ρ⟩ (fun r => (∀ c : Dev KernelIdeal.nD,
        r.2.mem ((c.tc : Thread KernelIdeal.nD KernelIdeal.τ).loc KernelIdeal.main_arg0)
            = m ((c.tc : Thread KernelIdeal.nD KernelIdeal.τ).loc KernelIdeal.main_arg0)
          ∧ r.2.mem ((c.tc : Thread KernelIdeal.nD KernelIdeal.τ).loc KernelIdeal.main_arg1)
            = m ((c.tc : Thread KernelIdeal.nD KernelIdeal.τ).loc KernelIdeal.main_arg1)
          ∧ r.2.mem ((c.tc : Thread KernelIdeal.nD KernelIdeal.τ).loc KernelIdeal.main_arg2)
            = m ((c.tc : Thread KernelIdeal.nD KernelIdeal.τ).loc KernelIdeal.main_arg2)
          ∧ r.2.mem ((c.tc : Thread KernelIdeal.nD KernelIdeal.τ).loc KernelIdeal.main_arg3)
            = m ((c.tc : Thread KernelIdeal.nD KernelIdeal.τ).loc KernelIdeal.main_arg3))
        ∧ r.2.sem = fun _ => 0) := by
    rw [defs_eq, funext (main_eq (F := Bits))]
    exact (θ_run Cert.KernelIdeal.defs _ _).mono (fun _ h => ⟨fun c => ⟨(h.1 c).1, (h.1 c).2.1, (h.1 c).2.2.1, (h.1 c).2.2.2.1⟩, h.2⟩)
      (Cert.KernelIdeal.Snake.run_main (F := Bits) m ρ)
  exact key

/-- The ideal kernel's frame. -/
theorem kernelIdeal : Cert.quiescent_KernelIdeal := fun m ρ _ =>
  (θ_run Cert.KernelIdeal.defs _ _).mono (fun _ h => ⟨fun c => ⟨(h.1 c).1, (h.1 c).2.1, (h.1 c).2.2.1, (h.1 c).2.2.2.1⟩, h.2⟩)
    (Cert.KernelIdeal.Snake.run_main (F := Ideal) m ρ)

/-- The reference's frame: it declares no semaphore. -/
theorem referenceIdeal : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

end Cert.Frames

end
-- ==== Proof.InRange.lean ====
/-
  The precondition read: its conditions on the shapes hold, and it says that every token's expert is one of the 64.
-/
module

public import proofs.«01_k».proof.Pre_routes_in_range_KernelIdeal
public import proofs.«01_k».proof.Pre_routes_in_range_ReferenceIdeal
public import Idealize.ShloMosaic.Lib.ReduceAll
public import Idealize.ShloMosaic.Lib.WordCmp
public import Idealize.ShloMosaic.Lib.Pointwise
public import Idealize.ShloMosaic.PureOps.Ideal

@[expose] public section

noncomputable section

namespace Cert.InRange

open Idealize.ShloMosaic

/-- The shapes of the predicate over one device's arrays fit. -/
theorem kernelFacts : Cert.Pre_routes_in_range_KernelIdeal.Facts where
  bcast_S_S2048x1 := by decide
  reducesTo_S2048x1_S_d0_1 := by decide
  h_S_ := by decide

/-- The shapes of the predicate over the whole arrays fit. -/
theorem referenceFacts : Cert.Pre_routes_in_range_ReferenceIdeal.Facts where
  bcast_S_S2048x1 := by decide
  reducesTo_S2048x1_S_d0_1 := by decide
  h_S_ := by decide

open Cert.Pre_routes_in_range_KernelIdeal in
/-- Where the predicate holds, every token's route is below 64. -/
theorem toNat_lt [Facts] (x : FVec Ideal S2048x512 .f32) (r : FVec Ideal S512x64 .f32) (idx : IVec S2048x1 32)
    (W : FVec Ideal S4x512x1024 .f32) (h : fn (F := Ideal) x r idx W = fun _ => 1#1) (t : Fin 2048) :
    (idx (ix2 t (0 : Fin 1))).toNat < 64 := by
  haveI : Subsingleton S_.Idx := ⟨fun a b => funext fun k => k.elim0⟩
  have key := Host.reduce_andi_all _ _ Facts.reducesTo_S2048x1_S_d0_1 Facts.h_S_ (fun k => k.elim0) (congrFun h _)
    (ix2 t (0 : Fin 1))
  have word : IntOp.andi (IntOp.cmpi .sge (idx (ix2 t (0 : Fin 1))) 0#32)
      (IntOp.cmpi .slt (idx (ix2 t (0 : Fin 1))) (BitVec.ofNat 32 64)) = 1#1 := key
  rw [WordCmp.andi_sge_zero_slt_ofNat (by decide)] at word
  by_contra hn
  rw [decide_eq_false hn] at word
  exact absurd word (by decide)

end Cert.InRange

end
-- ==== Proof.Spec.lean ====
/-
  The problem's mathematics: which tokens an expert keeps, and the row a kept token gets.
-/
module

public import Idealize.ShloMosaic.Lib.Pointwise
public import Idealize.ShloMosaic.PureOps.Ideal
public import Mathlib.Data.Nat.Count

@[expose] public section

noncomputable section

namespace Cert.Spec

open Idealize.ShloMosaic

/-- The expert of token `t`, as a word. Past the last token it is of no account. -/
def route (idx : IVec ⟨2, ![2048, 1]⟩ 32) (t : ℕ) : BitVec 32 :=
  if h : t < 2048 then idx (ix2 (⟨t, h⟩ : Fin 2048) (0 : Fin 1)) else 0#32

theorem route_of_lt (idx : IVec ⟨2, ![2048, 1]⟩ 32) (t : Fin 2048) : route idx t.val = idx (ix2 t (0 : Fin 1)) := dif_pos t.isLt

/-- How many tokens before `t` the expert with word `E` has. -/
def before (r : ℕ → BitVec 32) (E : BitVec 32) (t : ℕ) : ℕ := Nat.count (fun j => r j = E) t

/-- The place of token `t` among its expert's. -/
def rank (r : ℕ → BitVec 32) (t : ℕ) : ℕ := before r (r t) t

/-- The same count taken over all the tokens. -/
theorem count_before (r : ℕ → BitVec 32) (E : BitVec 32) (t N : ℕ) (h : t ≤ N) : Nat.count (fun j => r j = E ∧ j < t) N = before r E t := by
  unfold before
  rw [Nat.count_eq_card_filter_range, Nat.count_eq_card_filter_range]
  refine congrArg Finset.card (Finset.ext fun j => ?_)
  simp only [Finset.mem_filter, Finset.mem_range]
  exact ⟨fun h => ⟨h.2.2, h.2.1⟩, fun h' => ⟨lt_of_lt_of_le h'.1 h, h'.2, h'.1⟩⟩

/-- Two tokens of one expert at the same place are one. -/
theorem rank_inj {r : ℕ → BitVec 32} {E : BitVec 32} {s t : ℕ} (hs : r s = E) (ht : r t = E) (h : before r E s = before r E t) : s = t :=
  Nat.count_injective (p := fun j => r j = E) hs ht h

/-- Row `t` of `x` times the expert's matrix, at column `h`. -/
def rowOf (x : FVec Ideal ⟨2, ![2048, 512]⟩ .f32) (W : FVec Ideal ⟨3, ![64, 512, 1024]⟩ .f32) (t : Fin 2048) (E : Fin 64) (h : Fin 1024) : EReal :=
  ∑ k : Fin 512, x (ix2 t k) * W (ix3 E k h)

end Cert.Spec

end
-- ==== Proof.Prefix.lean ====
/-
  The sums before a position: eleven rounds of shifting by 1, 2, 4, … and adding make a row's running sums, and what they make of an
  expert's row of ones and zeros is the place of each token.
-/
module

public import proofs.«01_k».proof.Proof.Spec
public import proofs.«01_k».proof.Proof.State
public import Idealize.ShloMosaic.Lib.Pointwise
public import Idealize.ShloMosaic.Lib.IdealHost
public import Idealize.ShloMosaic.Lib.WordCmp
public import Idealize.ShloMosaic.Lib.Routing.Words

@[expose] public section

set_option maxRecDepth 65536

noncomputable section

namespace Cert.KernelIdeal.Snake

open Idealize.ShloMosaic Cert.KernelIdeal.Gen Cert.Spec

/-- The sum of the last `w` entries up to position `t`. -/
def win (f : ℕ → EReal) (w t : ℕ) : EReal := ∑ j ∈ Finset.range w, if j ≤ t then f (t - j) else 0

theorem win_one (f : ℕ → EReal) (t : ℕ) : win f 1 t = f t := by
  simp [win]

/-- One round: a window and the one as long before it. -/
theorem win_add (f : ℕ → EReal) (w t : ℕ) : win f w t + (if t < w then 0 else win f w (t - w)) = win f (w + w) t := by
  unfold win
  rw [Finset.sum_range_add]
  congr 1
  split
  · next h => exact (Finset.sum_eq_zero fun j _ => if_neg (by omega)).symm
  · next h =>
    refine Finset.sum_congr rfl fun j _ => ?_
    rw [Nat.sub_sub]
    exact if_congr (by omega) rfl rfl

/-- A window past the first position is the whole sum up to there. -/
theorem win_full (f : ℕ → EReal) (w t : ℕ) (h : t < w) : win f w t = ∑ u ∈ Finset.range (t + 1), f u := by
  unfold win
  obtain ⟨d, rfl⟩ : ∃ d, w = (t + 1) + d := ⟨w - (t + 1), by omega⟩
  rw [Finset.sum_range_add, Finset.sum_eq_zero (s := Finset.range d) fun j _ => if_neg (by omega), add_zero,
    ← Finset.sum_range_reflect (fun u => f u)]
  refine Finset.sum_congr rfl fun j hj => ?_
  rw [if_pos (by have := Finset.mem_range.1 hj; omega)]
  rfl

/-- Ones and zeros summed are counted. -/
theorem sum_count (P : ℕ → Prop) [DecidablePred P] (n : ℕ) : (∑ u ∈ Finset.range n, if P u then (1 : EReal) else 0) = ((Nat.count P n : ℕ) : EReal) := by
  induction n with
  | zero => simp
  | succ n ih =>
    rw [Finset.sum_range_succ, ih, Nat.count_succ]
    split <;> simp

/-- The float of a small natural's word is that natural. -/
theorem sitofp_nat (n : ℕ) (hn : n < 2 ^ 31) : (FloatOps.sitofp (F := Ideal) .f32 (BitVec.ofNat 32 n) : EReal) = (n : EReal) := by
  show ((((BitVec.ofNat 32 n).toInt : ℤ) : ℝ) : EReal) = _
  rw [WordCmp.toInt_ofNat_of_lt (by omega)]
  simp

/-- The float of a bit. -/
theorem sitofp_bit (P : Prop) [Decidable P] :
    (FloatOps.sitofp (F := Ideal) .f32 (BitVec.setWidth 32 (BitVec.ofBool (decide P))) : EReal) = if P then 1 else 0 := by
  by_cases h : P
  · rw [if_pos h, decide_eq_true h]
    exact (sitofp_nat 1 (by decide)).trans (by simp)
  · rw [if_neg h, decide_eq_false h]
    exact (sitofp_nat 0 (by decide)).trans (by simp)

/-- A `[8, 2048]` array and itself moved `k` places up, zeros before. -/
def stage {F : FTy → Type} [FloatOps F] (k k' : ℕ) (hs : (⟨2, ![8, 2048]⟩ : Shape).Slices ![0, 0] ⟨2, ![8, k']⟩)
    (hc : Shape.Concatenates [⟨2, ![8, k]⟩, ⟨2, ![8, k']⟩] ⟨2, ![8, 2048]⟩ 1) (x : FVec F ⟨2, ![8, 2048]⟩ .f32) : FVec F ⟨2, ![8, 2048]⟩ .f32 :=
  addf x (concatenate ⟨2, ![8, 2048]⟩ 1 [⟨⟨2, ![8, k]⟩, broadcast ⟨2, ![8, k]⟩ (Scalar.ofBits .f32 0x00000000#32 : F .f32)⟩,
    ⟨⟨2, ![8, k']⟩, extractStridedSlice ⟨2, ![8, k']⟩ ![0, 0] x hs⟩] hc)

theorem stage_apply {k k' : ℕ} (hs : (⟨2, ![8, 2048]⟩ : Shape).Slices ![0, 0] ⟨2, ![8, k']⟩)
    (hc : Shape.Concatenates [⟨2, ![8, k]⟩, ⟨2, ![8, k']⟩] ⟨2, ![8, 2048]⟩ 1) (x : FVec Ideal ⟨2, ![8, 2048]⟩ .f32) (f : ℕ → EReal) (r : Fin 8)
    (hx : ∀ t : Fin 2048, x (ix2 r t) = win f k t.val) (t : Fin 2048) : stage k k' hs hc x (ix2 r t) = win f (k + k) t.val := by
  rw [← win_add, ← hx t]
  pointwise [stage]
  refine congrArg (x (ix2 r t) + ·) ?_
  by_cases h : t.val < k
  · rw [dif_pos h, if_pos h]
  · rw [dif_neg h, if_neg h]
    have ht := t.isLt
    exact hx (⟨t.val - k, by omega⟩ : Fin 2048)

theorem pay1_apply (p : ℕ) (hp : p < 16) (row : Vec Ideal S1x2048 .i32) (r : Fin 8) (t : Fin 2048) :
    k0_pay1 (F := Ideal) (BitVec.ofNat 32 p) row (ix2 r t) = if row (ix2 (0 : Fin 1) t) = BitVec.ofNat 32 (4 * p + r.val) then 1 else 0 := by
  pointwise [k0_pay1]
  rw [show Scalar.muli (BitVec.ofNat 32 p) 4#32 = BitVec.ofNat 32 (p * 4) from WordCmp.muli_ofNat p 4, WordCmp.addi_ofNat, WordCmp.cmpi_eq_eq,
    sitofp_bit, Nat.mul_comm]

/-- The first four rounds. -/
theorem pay2_eq {F : FTy → Type} [FloatOps F] (v2 : BitVec 32) (row : Vec F S1x2048 .i32) : k0_pay2 v2 row =
    stage 8 2040 slices_S8x2048_o0_0_S8x2040 concatenates_S8x8_S8x2040_S8x2048_d1
    (stage 4 2044 slices_S8x2048_o0_0_S8x2044 concatenates_S8x4_S8x2044_S8x2048_d1
    (stage 2 2046 slices_S8x2048_o0_0_S8x2046 concatenates_S8x2_S8x2046_S8x2048_d1
    (stage 1 2047 slices_S8x2048_o0_0_S8x2047 concatenates_S8x1_S8x2047_S8x2048_d1 (k0_pay1 v2 row)))) := by
  have h : k0_pay2 v2 row = stage 8 2040 slices_S8x2048_o0_0_S8x2040 concatenates_S8x8_S8x2040_S8x2048_d1
    (stage 4 2044 slices_S8x2048_o0_0_S8x2044 concatenates_S8x4_S8x2044_S8x2048_d1
    (stage 2 2046 slices_S8x2048_o0_0_S8x2046 concatenates_S8x2_S8x2046_S8x2048_d1
    (stage 1 2047 slices_S8x2048_o0_0_S8x2047 concatenates_S8x1_S8x2047_S8x2048_d1 (k0_pay1 v2 row)))) := rfl
  exact h

/-- The last seven rounds. -/
def late {F : FTy → Type} [FloatOps F] (v61 : FVec F S8x2048 .f32) : FVec F S8x2048 .f32 :=
  stage 1024 1024 slices_S8x2048_o0_0_S8x1024 concatenates_S8x1024_S8x1024_S8x2048_d1
    (stage 512 1536 slices_S8x2048_o0_0_S8x1536 concatenates_S8x512_S8x1536_S8x2048_d1
    (stage 256 1792 slices_S8x2048_o0_0_S8x1792 concatenates_S8x256_S8x1792_S8x2048_d1
    (stage 128 1920 slices_S8x2048_o0_0_S8x1920 concatenates_S8x128_S8x1920_S8x2048_d1
    (stage 64 1984 slices_S8x2048_o0_0_S8x1984 concatenates_S8x64_S8x1984_S8x2048_d1
    (stage 32 2016 slices_S8x2048_o0_0_S8x2016 concatenates_S8x32_S8x2016_S8x2048_d1
    (stage 16 2032 slices_S8x2048_o0_0_S8x2032 concatenates_S8x16_S8x2032_S8x2048_d1 v61))))))

/-- A `[8, 2048]` array's first four rows, each 32 times over. -/
def rows32 {F : FTy → Type} (v : FVec F S8x2048 .f32) : FVec F S128x2048 .f32 :=
  shapeCast S128x2048 (broadcastTo S4x32x2048 (shapeCast S4x1x2048 (shapeCast S4x1x2048 (extractStridedSlice S4x2048 ![0, 0] v slices_S8x2048_o0_0_S4x2048)
    shapeCasts_S4x2048_S4x1x2048) shapeCasts_S4x1x2048_S4x1x2048) broadcasts_S4x1x2048_S4x32x2048) shapeCasts_S4x32x2048_S128x2048

/-- The sources from the ones and zeros and their running sums. -/
def pick {F : FTy → Type} [FloatOps F] (v45 v89 : FVec F S8x2048 .f32) : FVec F S128x2048 .f32 :=
  sitofp .f32 (extui 32 (andi (andi (cmpf .ogt (rows32 v45) (broadcast S128x2048 (Scalar.ofBits .f32 0x00000000#32)))
      (cmpf .oeq (sitofp .f32 (remsi (iota .tc S128x2048 32 [0] iota_S128x2048_d0_w32) (broadcast S128x2048 32#32))) (rows32 (subf v89 v45))))
    (cmpi .slt (remsi (iota .tc S128x2048 32 [0] iota_S128x2048_d0_w32) (broadcast S128x2048 32#32)) (broadcast S128x2048 25#32))) natLt_1_32)

theorem pay4_eq {F : FTy → Type} [FloatOps F] (v45 v61 : FVec F S8x2048 .f32) : k0_pay4 v45 v61 k0_pay3 = pick v45 (late v61) := by
  have h : k0_pay4 v45 v61 k0_pay3 = pick v45 (late v61) := rfl
  exact h

theorem rows32_apply (v : FVec Ideal S8x2048 .f32) (R : Fin 128) (t : Fin 2048) : rows32 v (ix2 R t) = v (ix2 (⟨R.val / 32, by omega⟩ : Fin 8) t) := by
  pointwise [rows32]

theorem pick_apply (v45 v89 : FVec Ideal S8x2048 .f32) (R : Fin 128) (t : Fin 2048) (b : Prop) [Decidable b] (n : ℕ)
    (h45 : v45 (ix2 (⟨R.val / 32, by omega⟩ : Fin 8) t) = if b then 1 else 0)
    (h89 : v89 (ix2 (⟨R.val / 32, by omega⟩ : Fin 8) t) = ((n : ℕ) : EReal) + if b then 1 else 0) :
    pick v45 v89 (ix2 R t) = if b ∧ R.val % 32 = n ∧ R.val % 32 < 25 then 1 else 0 := by
  have hR := R.isLt
  pointwise [pick, rows32_apply]
  rw [show (32#32 : BitVec 32) = BitVec.ofNat 32 32 from rfl, Routing.remsi_word _ (by omega) (by decide) (by decide), sitofp_nat _ (by omega),
    show (25#32 : BitVec 32) = BitVec.ofNat 32 25 from rfl, WordCmp.cmpi_slt_ofNat (by omega) (by decide), WordCmp.andi_ofBool, WordCmp.andi_ofBool,
    ← Bool.decide_and, ← Bool.decide_and, sitofp_bit, h45, h89]
  refine if_congr ?_ rfl rfl
  have e : ((n : ℕ) : EReal) + (if b then 1 else 0) - (if b then 1 else 0) = ((n : ℕ) : EReal) := by
    split
    · have h1 := EReal.add_sub_cancel_right (a := (n : EReal)) (b := 1)
      rwa [EReal.coe_one] at h1
    · simp
  rw [e, and_assoc]
  refine and_congr ?_ (and_congr ?_ Iff.rfl)
  · split <;> simp_all
  · norm_cast

/-- The sources: place `R % 32` of the device's expert `R / 32` takes token `t` where the token is that expert's, it is the
    `R % 32`-th of them, and the expert keeps that many. -/
theorem psrc_apply (p : ℕ) (hp : p < 16) (row : Vec Ideal S1x2048 .i32) (r : ℕ → BitVec 32) (hr : ∀ t : Fin 2048, row (ix2 (0 : Fin 1) t) = r t.val)
    (R : Fin 128) (t : Fin 2048) : psrcOf (F := Ideal) (BitVec.ofNat 32 p) row (ix2 R t) =
      if r t.val = BitVec.ofNat 32 (4 * p + R.val / 32) ∧ R.val % 32 = before r (BitVec.ofNat 32 (4 * p + R.val / 32)) t.val ∧ R.val % 32 < 25 then 1 else 0 := by
  have hR := R.isLt
  have h45 : ∀ u : Fin 2048, k0_pay1 (F := Ideal) (BitVec.ofNat 32 p) row (ix2 (⟨R.val / 32, by omega⟩ : Fin 8) u) =
      (fun u => if r u = BitVec.ofNat 32 (4 * p + R.val / 32) then (1 : EReal) else 0) u.val := fun u => by
    rw [pay1_apply p hp, hr]
  have h := stage_apply slices_S8x2048_o0_0_S8x2047 concatenates_S8x1_S8x2047_S8x2048_d1 (k0_pay1 (F := Ideal) (BitVec.ofNat 32 p) row)
    (fun u => if r u = BitVec.ofNat 32 (4 * p + R.val / 32) then (1 : EReal) else 0) ⟨R.val / 32, by omega⟩ fun u => by rw [h45 u, win_one]
  replace h := stage_apply slices_S8x2048_o0_0_S8x2046 concatenates_S8x2_S8x2046_S8x2048_d1 _ _ _ h
  replace h := stage_apply slices_S8x2048_o0_0_S8x2044 concatenates_S8x4_S8x2044_S8x2048_d1 _ _ _ h
  replace h := stage_apply slices_S8x2048_o0_0_S8x2040 concatenates_S8x8_S8x2040_S8x2048_d1 _ _ _ h
  rw [← pay2_eq] at h
  replace h := stage_apply slices_S8x2048_o0_0_S8x2032 concatenates_S8x16_S8x2032_S8x2048_d1 _ _ _ h
  replace h := stage_apply slices_S8x2048_o0_0_S8x2016 concatenates_S8x32_S8x2016_S8x2048_d1 _ _ _ h
  replace h := stage_apply slices_S8x2048_o0_0_S8x1984 concatenates_S8x64_S8x1984_S8x2048_d1 _ _ _ h
  replace h := stage_apply slices_S8x2048_o0_0_S8x1920 concatenates_S8x128_S8x1920_S8x2048_d1 _ _ _ h
  replace h := stage_apply slices_S8x2048_o0_0_S8x1792 concatenates_S8x256_S8x1792_S8x2048_d1 _ _ _ h
  replace h := stage_apply slices_S8x2048_o0_0_S8x1536 concatenates_S8x512_S8x1536_S8x2048_d1 _ _ _ h
  replace h := stage_apply slices_S8x2048_o0_0_S8x1024 concatenates_S8x1024_S8x1024_S8x2048_d1 _ _ _ h
  have ht := t.isLt
  replace h := h t
  rw [win_full _ _ _ (by omega), Finset.sum_range_succ, sum_count] at h
  exact (congrFun (pay4_eq _ _) _).trans (pick_apply _ _ R t _ _ (h45 t) h)

end Cert.KernelIdeal.Snake

end
-- ==== Proof.Expert.lean ====
/-
  What an expert's device makes: row `r` of its block is the row of the token that takes that place.
-/
module

public import proofs.«01_k».proof.Proof.Prefix
public import proofs.«01_k».proof.Proof.Windows

@[expose] public section

set_option maxRecDepth 65536

noncomputable section

namespace Cert.KernelIdeal.Snake

open Idealize.ShloMosaic Cert.KernelIdeal.Gen Cert.Spec

/-- The two products of an expert, one row and column at a time. -/
theorem expertVal_apply (s : Fin 4) (psrc : FVec Ideal S128x2048 .f32) (x : Vec Ideal S2048x512 .f32) (w : Vec Ideal S1x512x1024 .f32)
    (y : Fin 32) (h : Fin 1024) : expertVal s psrc x w (ix3 (0 : Fin 1) y h) =
      ∑ k : Fin 512, (∑ t : Fin 2048, psrc (ix2 (⟨32 * s.val + y.val, by omega⟩ : Fin 128) t) * x (ix2 t k)) * w (ix3 (0 : Fin 1) k h) := by
  pointwise [expertVal]

/-- A row whose source is one token is that token's row. -/
theorem expertVal_one (s : Fin 4) (psrc : FVec Ideal S128x2048 .f32) (x : Vec Ideal S2048x512 .f32) (w : Vec Ideal S1x512x1024 .f32)
    (y : Fin 32) (h : Fin 1024) (t : Fin 2048) (hp : ∀ u : Fin 2048, psrc (ix2 (⟨32 * s.val + y.val, by omega⟩ : Fin 128) u) = if u = t then 1 else 0) :
    expertVal s psrc x w (ix3 (0 : Fin 1) y h) = ∑ k : Fin 512, x (ix2 t k) * w (ix3 (0 : Fin 1) k h) := by
  rw [expertVal_apply]
  refine Finset.sum_congr rfl fun k _ => ?_
  refine congrArg (· * _) ?_
  rw [Finset.sum_eq_single t]
  · rw [hp, if_pos rfl, one_mul]
  · intro u _ hu
    rw [hp, if_neg hu, zero_mul]
  · intro h
    exact absurd (Finset.mem_univ t) h

theorem exIdx_eq (r : Fin 128) (h : Fin 1024) : exIdx r h = ix3 (0 : Fin 1) (⟨r.val % 32, Nat.mod_lt _ (by decide)⟩ : Fin 32) h := by
  funext k
  match k with
  | 0 => rfl
  | 1 => rfl
  | 2 => rfl

theorem ewOf_apply (w : Vec Ideal S4x512x1024 .f32) (s : Fin 4) (k : Fin 512) (h : Fin 1024) : ewOf w s (ix3 (0 : Fin 1) k h) = w (ix3 s k h) := by
  unfold ewOf
  refine congrArg w (funext fun a => Fin.ext ?_)
  match a with
  | 0 => exact Nat.mul_one s.val ▸ rfl
  | 1 => show 0 + 1 * k.val = k.val; omega
  | 2 => show 0 + 1 * h.val = h.val; omega

variable (m : (ℓ : Loc nD τ sig) → Buf (Elt Ideal) ℓ)

theorem posW_eq (d : Dev nD) : posW d = BitVec.ofNat 32 d.val := by revert d; decide

/-- The row a kept token's expert makes for it. -/
theorem blk_apply (d : Dev nD) (r : ℕ → BitVec 32) (hr : ∀ t : Fin 2048, rowV m d (ix2 (0 : Fin 1) t) = r t.val) (R : Fin 128) (h : Fin 1024)
    (t : Fin 2048) (ht : r t.val = BitVec.ofNat 32 (4 * d.val + R.val / 32)) (hn : rank r t.val = R.val % 32) (hk : R.val % 32 < 25) :
    (vals m).blk d R h = ∑ k : Fin 512, HMul.hMul (α := EReal) (β := EReal) (γ := EReal) (m ((d.tc : Thread nD τ).loc main_arg0) (ix2 t k))
      (m ((d.tc : Thread nD τ).loc main_arg3) (ix3 (⟨R.val / 32, by omega⟩ : Fin 4) k h)) := by
  have hR := R.isLt
  have hd := d.isLt
  have hpos : posW d = BitVec.ofNat 32 d.val := posW_eq d
  show expertVal (⟨R.val / 32, by omega⟩ : Fin 4) (psrcOf (posW d) (rowV m d)) (m ((d.tc : Thread nD τ).loc main_arg0))
    (ewOf (m ((d.tc : Thread nD τ).loc main_arg3)) ⟨R.val / 32, by omega⟩) (exIdx R h) = _
  rw [exIdx_eq, expertVal_one _ _ _ _ _ _ t]
  · refine Finset.sum_congr rfl fun k _ => ?_
    rw [ewOf_apply]
  · intro u
    have e : (⟨32 * (R.val / 32) + R.val % 32, by omega⟩ : Fin 128) = R := Fin.ext (Nat.div_add_mod _ _)
    rw [e, hpos, psrc_apply d.val hd _ r hr]
    refine if_congr ⟨fun hu => ?_, fun hu => ?_⟩ rfl rfl
    · refine Fin.ext (rank_inj hu.1 ht ?_)
      rw [← hu.2.1, ← hn, rank, ht]
    · subst hu
      refine ⟨ht, ?_, hk⟩
      rw [← hn, rank, ht]

end Cert.KernelIdeal.Snake

end
-- ==== Proof.Gather.lean ====
/-
  What a device gathers: which row of the ring a token's is, and the sum over the ring's slots.
-/
module

public import proofs.«01_k».proof.Proof.Prefix
public import proofs.«01_k».proof.Proof.Windows

@[expose] public section

set_option maxRecDepth 65536

noncomputable section

namespace Cert.KernelIdeal.Snake

open Idealize.ShloMosaic Cert.KernelIdeal.Gen Cert.Spec

/-- The device that holds an expert. -/
def home (e : Fin 64) : Dev nD := (⟨e.val / 4, by omega⟩ : Fin 16)

/-- The places of the device's tokens. -/
theorem place_apply (p : ℕ) (hp : p < 16) (v342 : Vec Ideal S1x128 .i32) (v346 : Vec Ideal S2048x1 .i32) (r : ℕ → BitVec 32) (i : Fin 128)
    (hv : v342 (ix2 (0 : Fin 1) i) = r (128 * p + i.val)) (hr : ∀ t : Fin 2048, v346 (ix2 t (0 : Fin 1)) = r t.val) :
    k0_pay12 (F := Ideal) (k0_pay11 (BitVec.ofNat 32 p) v342 v346) (Scalar.ofBits .bf16 0x3F80#16) (ix2 (0 : Fin 1) i) = ((rank r (128 * p + i.val) : ℕ) : EReal) := by
  have hi := i.isLt
  pointwise [k0_pay12, k0_pay11, k0_pay10, hr, hv]
  rw [show Scalar.muli (BitVec.ofNat 32 p) 128#32 = BitVec.ofNat 32 (p * 128) from WordCmp.muli_ofNat p 128, WordCmp.addi_ofNat, Nat.mul_comm p]
  have e : ∀ j : Fin 2048, (FloatOps.sitofp (F := Ideal) .f32 (BitVec.setWidth 32 (IntOp.andi (IntOp.cmpi .eq (r j.val) (r (128 * p + i.val)))
      (IntOp.cmpi .slt (BitVec.ofNat 32 j.val) (BitVec.ofNat 32 (128 * p + i.val))))) : EReal) =
      (fun j : ℕ => if r j = r (128 * p + i.val) ∧ j < 128 * p + i.val then (1 : EReal) else 0) j.val := fun j => by
    have hj := j.isLt
    rw [WordCmp.cmpi_eq_eq, WordCmp.cmpi_slt_ofNat (by omega) (by omega), WordCmp.andi_ofBool, ← Bool.decide_and, sitofp_bit]
  refine (Finset.sum_congr rfl fun j _ => e j).trans ?_
  rw [Fin.sum_univ_eq_sum_range (fun j : ℕ => if r j = r (128 * p + i.val) ∧ j < 128 * p + i.val then (1 : EReal) else 0) 2048, sum_count,
    count_before _ _ _ _ (by omega), rank]

/-- Whether a token was kept. -/
theorem kept_apply (v360 : FVec Ideal S1x128 .f32) (i : Fin 128) (n : ℕ) (h : v360 (ix2 (0 : Fin 1) i) = ((n : ℕ) : EReal)) :
    k0_pay19 v360 (ix2 (0 : Fin 1) i) = BitVec.ofBool (decide (n < 25)) := by
  pointwise [k0_pay19]
  rw [h]
  have e : Ideal.ofBits .f32 0x41C80000#32 = ((25 : ℕ) : EReal) := by
    rw [show ((25 : ℕ) : EReal) = ((25 : ℝ) : EReal) by norm_cast]
    simp [Ideal.ofBits, Ideal.ieee, -EReal.coe_mul]; norm_num
  rw [e]
  refine congrArg BitVec.ofBool (decide_eq_decide.2 ?_)
  exact Nat.cast_lt

theorem pay13_apply (v343 : IVec S1x128 32) (i : Fin 128) (e : Fin 64) (h : v343 (ix2 (0 : Fin 1) i) = BitVec.ofNat 32 e.val) :
    k0_pay13 v343 (ix2 (0 : Fin 1) i) = BitVec.ofNat 32 (e.val / 4) := by
  pointwise [k0_pay13, h]
  clear h
  revert e
  decide +kernel

/-- The place in the ring of the device with a number, as the kernel counts it. -/
theorem ring_place (v343 : IVec S1x128 32) (i : Fin 128) (e : Fin 64) (h : v343 (ix2 (0 : Fin 1) i) = BitVec.ofNat 32 e.val) :
    Scalar.select (IntOp.andi (k0_pay16 v343 (ix2 (0 : Fin 1) i)) (IntOp.cmpi .ne (k0_pay17 v343 (ix2 (0 : Fin 1) i)) 0#32))
      (IntOp.subi (k0_pay15 v343 (ix2 (0 : Fin 1) i)) 1#32) (k0_pay15 v343 (ix2 (0 : Fin 1) i)) = BitVec.ofNat 32 (e.val / 16) := by
  pointwise [k0_pay15, k0_pay16, k0_pay17, pay13_apply v343 i e h]
  clear h
  revert e
  decide +kernel

theorem ring_words (e : Fin 64) (q : Fin 16) :
    IntOp.addi (IntOp.muli (IntOp.remsi .vector (IntOp.addi (IntOp.subi (BitVec.ofNat 32 q.val)
      (IntOp.addi (IntOp.muli (IntOp.remsi .vector (BitVec.ofNat 32 (e.val / 4)) 4#32) 4#32)
        (Scalar.select (IntOp.cmpi .eq (IntOp.remsi .vector (IntOp.remsi .vector (BitVec.ofNat 32 (e.val / 4)) 4#32) 2#32) 0#32)
          (BitVec.ofNat 32 (e.val / 16)) (IntOp.subi 3#32 (BitVec.ofNat 32 (e.val / 16)))))) 16#32) 16#32) 128#32)
      (IntOp.muli (IntOp.remsi .vector (BitVec.ofNat 32 e.val) 4#32) 32#32) =
    BitVec.ofNat 32 ((q - pos (home e)).val * 128 + e.val % 4 * 32) := by
  revert e q
  decide +kernel

/-- The row of the ring that a token's is. -/
theorem g_apply (v343 : IVec S1x128 32) (v360 : FVec Ideal S1x128 .f32) (q : Fin 16) (i : Fin 128) (e : Fin 64) (n : ℕ)
   (h : v343 (ix2 (0 : Fin 1) i) = BitVec.ofNat 32 e.val) (h360 : v360 (ix2 (0 : Fin 1) i) = ((n : ℕ) : EReal)) :
   k0_pay18 (F := Ideal) v343 v360 (k0_pay14 v343) (k0_pay15 v343) (k0_pay16 v343) (k0_pay17 v343) (BitVec.ofNat 32 q.val) (ix2 (0 : Fin 1) i) =
     (((q - pos (home e)).val * 128 + e.val % 4 * 32 + n : ℕ) : EReal) := by
  have hp := ring_place v343 i e h
  have hq := (q - pos (home e)).isLt
  pointwise [k0_pay18, k0_pay14]
  rw [hp, pay13_apply v343 i e h, h, h360, ring_words e q, sitofp_nat _ (by omega)]
  norm_cast

/-- The selection of one slot. -/
theorem sel_apply (k : Fin 16) (g : FVec Ideal S1x128 .f32) (kept : IVec S1x128 1) (R i : Fin 128) (a n : ℕ) (hg : g (ix2 (0 : Fin 1) i) = ((a : ℕ) : EReal))
    (hk : kept (ix2 (0 : Fin 1) i) = BitVec.ofBool (decide (n < 25))) :
    selOf k g kept ioV (ix2 R i) = if a = R.val + 128 * k.val ∧ n < 25 then 1 else 0 := by
  have hR := R.isLt
  have hk' := k.isLt
  pointwise [selOf, ioV]
  rw [hg, hk, WordCmp.addi_ofNat, sitofp_nat _ (by omega), WordCmp.andi_ofBool, ← Bool.decide_and, sitofp_bit]
  exact if_congr (and_congr Nat.cast_inj Iff.rfl) rfl rfl

theorem contrib_apply (k : Fin 16) (g : FVec Ideal S1x128 .f32) (kept : IVec S1x128 1) (io : IVec S128x128 32) (w : Vec Ideal S1x128x1024 .bf16)
    (i : Fin 128) (h : Fin 1024) : contrib k g kept io w (ix2 i h) = ∑ R : Fin 128, selOf k g kept io (ix2 R i) * w (ix3 (0 : Fin 1) R h) := by
  pointwise [contrib]

end Cert.KernelIdeal.Snake

end
-- ==== Proof.Value.lean ====
/-
  What the kernel leaves: token by token, the row of a kept token's expert or zero.
-/
module

public import proofs.«01_k».proof.Proof.Expert
public import proofs.«01_k».proof.Proof.Gather
public import proofs.«01_k».proof.Proof.Region

@[expose] public section

set_option maxRecDepth 65536

noncomputable section

namespace Cert.KernelIdeal.Snake

open Idealize.ShloMosaic Cert.KernelIdeal.Gen Cert.Spec

/-- The slots a list of steps adds. -/
def accs : List Step → List (Fin 16)
  | [] => []
  | .acc k :: l => k :: accs l
  | .send _ _ :: l => accs l
  | .recv _ _ :: l => accs l
  | .fin _ _ :: l => accs l

theorem accs_all : accs (ringSteps ++ finSteps) = [1, 15, 2, 14, 3, 13, 4, 12, 5, 11, 6, 10, 7, 9, 8] := by
  have h : accs (ringSteps ++ finSteps) = [1, 15, 2, 14, 3, 13, 4, 12, 5, 11, 6, 10, 7, 9, 8] := by decide +kernel
  exact h

/-- The steps add their slots' contributions. -/
theorem outAfter_apply (v : Vals Ideal) (c : Dev nD) (g : FVec Ideal S1x128 .f32) (kept : IVec S1x128 1) (io : IVec S128x128 32)
    (i : Fin 128) (h : Fin 1024) (f : Fin 16 → EReal) (hf : ∀ k, contrib k g kept io (slotVal v c k) (ix2 i h) = f k) (l : List Step) :
    ∀ o : Vec Ideal S128x1024 .f32, outAfter v c g kept io l o (ix2 i h) = (o (ix2 i h) + ((accs l).map f).sum : EReal) := by
  induction l with
  | nil => intro o; simp [outAfter, accs]
  | cons s l ih =>
    intro o
    cases s with
    | acc k =>
      show outAfter v c g kept io l (accV v c g kept io k o) (ix2 i h) = _
      rw [ih]
      have e : accV v c g kept io k o (ix2 i h) = (o (ix2 i h) + f k : EReal) := by
        rw [← hf k]
        pointwise [accV]
      rw [e, accs, List.map_cons, List.sum_cons, add_assoc]
    | send _ _ => exact ih o
    | recv _ _ => exact ih o
    | fin _ _ => exact ih o

/-- The whole block is the sum over the slots. -/
theorem outBlk_sum (v : Vals Ideal) (c : Dev nD) (g : FVec Ideal S1x128 .f32) (kept : IVec S1x128 1) (io : IVec S128x128 32)
    (i : Fin 128) (h : Fin 1024) (f : Fin 16 → EReal) (hf : ∀ k, contrib k g kept io (slotVal v c k) (ix2 i h) = f k) :
    outAfter v c g kept io (ringSteps ++ finSteps) (contrib 0 g kept io (slotVal v c 0)) (ix2 i h) = ∑ k : Fin 16, f k := by
  rw [outAfter_apply v c g kept io i h f hf, hf, accs_all]
  simp only [List.map_cons, List.map_nil, List.sum_cons, List.sum_nil, Fin.sum_univ_succ]
  simp
  abel

theorem rowG_apply (c : Dev nD) (row : Vec Ideal S1x2048 .i32) (i : Fin 128) :
    rowG c row (ix2 (0 : Fin 1) i) = row (ix2 (0 : Fin 1) (⟨128 * c.val + i.val, by have := c.isLt; change _ < 16 at this; omega⟩ : Fin 2048)) := by
  have e : ∀ c : Dev nD, k0_off1 c 1 = 128 * c.val := by decide
  unfold rowG
  refine congrArg row (funext fun a => Fin.ext ?_)
  match a with
  | 0 => rfl
  | 1 => show k0_off1 c 1 + 1 * i.val = 128 * c.val + i.val; rw [e]; omega

theorem slotVal_apply (v : Vals Ideal) (c : Dev nD) (k : Fin 16) (R : Fin 128) (h : Fin 1024) :
    slotVal v c k (ix3 (0 : Fin 1) R h) = v.blk (owner c k) R h := by
  refine bufV_at v c _ k R h ?_ ?_ ?_
  · exact Nat.mul_one k.val ▸ rfl
  · show 0 + 1 * R.val = R.val; omega
  · show 0 + 1 * h.val = h.val; omega

variable (m : (ℓ : Loc nD τ sig) → Buf (Elt Ideal) ℓ)

theorem rowV_apply (c : Dev nD) (t : Fin 2048) : rowV m c (ix2 (0 : Fin 1) t) = m ((c.tc : Thread nD τ).loc main_arg2) (ix2 t (0 : Fin 1)) := by
  unfold rowV
  rw [v41_host]
  pointwise

theorem colV_apply (c : Dev nD) : colV m c = m ((c.tc : Thread nD τ).loc main_arg2) := by
  unfold colV
  rfl

/-- The device's block of the output: a kept token's row is its expert's, another's is zero. -/
theorem outV_apply (r : ℕ → BitVec 32) (hr : ∀ (d : Dev nD) (t : Fin 2048), m ((d.tc : Thread nD τ).loc main_arg2) (ix2 t (0 : Fin 1)) = r t.val)
    (c : Dev nD) (i : Fin 128) (h : Fin 1024) (t : Fin 2048) (ht : t.val = 128 * c.val + i.val) (e : Fin 64) (he : r t.val = BitVec.ofNat 32 e.val) :
    outV m c (ix2 i h) = if rank r t.val < 25 then
      ∑ k : Fin 512, HMul.hMul (α := EReal) (β := EReal) (γ := EReal) (m (((home e).tc : Thread nD τ).loc main_arg0) (ix2 t k))
        (m (((home e).tc : Thread nD τ).loc main_arg3) (ix3 (⟨e.val % 4, by omega⟩ : Fin 4) k h)) else 0 := by
  have hc : c.val < 16 := c.isLt
  have hi := i.isLt
  have hrow : ∀ (d : Dev nD) (u : Fin 2048), rowV m d (ix2 (0 : Fin 1) u) = r u.val := fun d u => by rw [rowV_apply, hr]
  have hg : rowG c (rowV m c) (ix2 (0 : Fin 1) i) = r (128 * c.val + i.val) := by rw [rowG_apply, hrow]
  have hpl := place_apply c.val hc (rowG c (rowV m c)) (colV m c) r i hg fun u => by rw [colV_apply, hr]
  have h10 : k0_pay10 (rowG c (rowV m c)) (ix2 (0 : Fin 1) i) = BitVec.ofNat 32 e.val := by
    pointwise [k0_pay10]
    rw [hg, ← ht, he]
  have hkept := kept_apply _ i _ hpl
  have hgv := g_apply _ _ (pos c) i e _ h10 hpl
  unfold outV outBlk
  rw [nbr_pos, posW_eq]
  have hcon : ∀ k : Fin 16, contrib k (gOf (rowG c (rowV m c)) (colV m c) (BitVec.ofNat 32 c.val) (BitVec.ofNat 32 (pos c).val))
      (keptOf (F := Ideal) (rowG c (rowV m c)) (colV m c) (BitVec.ofNat 32 c.val)) ioV (slotVal (vals m) c k) (ix2 i h) =
      if k = pos c - pos (home e) ∧ rank r t.val < 25 then
        ((vals m).blk (home e) (⟨e.val % 4 * 32 + rank r t.val % 32, by omega⟩ : Fin 128) h : EReal) else 0 := fun k => by
    rw [contrib_apply]
    have hs := fun R => sel_apply k _ _ R i _ _ hgv hkept
    have e1 : ∀ R, selOf k (gOf (rowG c (rowV m c)) (colV m c) (BitVec.ofNat 32 c.val) (BitVec.ofNat 32 (pos c).val))
      (keptOf (F := Ideal) (rowG c (rowV m c)) (colV m c) (BitVec.ofNat 32 c.val)) ioV (ix2 R i) = _ := hs
    rw [← ht] at e1
    have hk := k.isLt
    by_cases hn : rank r t.val < 25
    · by_cases hkk : k = pos c - pos (home e)
      · rw [if_pos ⟨hkk, hn⟩, Finset.sum_eq_single (⟨e.val % 4 * 32 + rank r t.val % 32, by omega⟩ : Fin 128)]
        · rw [e1, if_pos ⟨by rw [← hkk]; show _ = e.val % 4 * 32 + rank r t.val % 32 + 128 * k.val; omega, hn⟩, one_mul, slotVal_apply]
          have ho : owner c k = home e := by
            rw [hkk]
            unfold owner
            rw [sub_sub_cancel, devAt_pos]
          rw [ho]
        · intro R _ hR
          rw [e1, if_neg, zero_mul]
          rintro ⟨h1, -⟩
          rw [← hkk] at h1
          exact hR (Fin.ext (by show R.val = e.val % 4 * 32 + rank r t.val % 32; omega))
        · intro hx
          exact absurd (Finset.mem_univ _) hx
      · rw [if_neg fun hx => hkk hx.1]
        refine Finset.sum_eq_zero fun R _ => ?_
        rw [e1, if_neg, zero_mul]
        rintro ⟨h1, -⟩
        have hR := R.isLt
        exact hkk (Fin.ext (by omega))
    · rw [if_neg fun hx => hn hx.2]
      refine Finset.sum_eq_zero fun R _ => ?_
      rw [e1, if_neg fun hx => hn hx.2, zero_mul]
  refine (outBlk_sum (vals m) c _ _ ioV i h _ hcon).trans ?_
  by_cases hn : rank r t.val < 25
  · rw [if_pos hn, Finset.sum_eq_single (pos c - pos (home e))]
    · rw [if_pos ⟨rfl, hn⟩, blk_apply m _ r (hrow _) _ h t]
      · have ee : (e.val % 4 * 32 + rank r t.val % 32) / 32 = e.val % 4 := by omega
        refine Finset.sum_congr rfl fun k _ => ?_
        simp only [ee]
      · rw [he]
        refine congrArg (BitVec.ofNat 32) ?_
        show e.val = 4 * (e.val / 4) + (e.val % 4 * 32 + rank r t.val % 32) / 32
        omega
      · show _ = (e.val % 4 * 32 + rank r t.val % 32) % 32
        omega
      · show (e.val % 4 * 32 + rank r t.val % 32) % 32 < 25
        omega
    · intro k _ hk
      rw [if_neg fun hx => hk hx.1]
    · intro hx
      exact absurd (Finset.mem_univ _) hx
  · rw [if_neg hn]
    exact Finset.sum_eq_zero fun k _ => if_neg fun hx => hn hx.2

end Cert.KernelIdeal.Snake

end
-- ==== Proof.RefValue.lean ====
/-
  What the reference computes: token by token, the row of a kept token or zero.
-/
module

public import proofs.«01_k».proof.Proof.Spec
public import proofs.«01_k».proof.Proof.Gen.ReferenceIdeal.Run
public import Idealize.ShloMosaic.Lib.Pointwise
public import Idealize.ShloMosaic.Lib.IdealHost
public import Idealize.ShloMosaic.Lib.Routing.Ops
public import Idealize.ShloMosaic.Lib.Routing.OpsPair

@[expose] public section

set_option maxRecDepth 65536

noncomputable section

namespace Cert.ReferenceIdeal.RefValue

open Idealize.ShloMosaic Cert.ReferenceIdeal.Gen Cert.Spec Idealize.ShloMosaic.Routing

/-- The places as the reference counts them. -/
def rankV (e : IVec S2048 32) : IVec S2048 32 :=
  Host.reduce IntOp.addi (extui 32 (andi
    (cmpi .eq (broadcastInDim S2048x2048 ![0, 1] bcast_S1x2048_S2048x2048_0_1 (broadcastInDim S1x2048 ![1] bcast_S2048_S1x2048_1 e))
      (broadcastInDim S2048x2048 ![0, 1] bcast_S2048x1_S2048x2048_0_1 (broadcastInDim S2048x1 ![0] bcast_S2048_S2048x1_0 e)))
    (cmpi .slt (broadcastInDim S2048x2048 ![0, 1] bcast_S1x2048_S2048x2048_0_1 (broadcastInDim S1x2048 ![1] bcast_S2048_S1x2048_1 (iotaInDim S2048 32 0)))
      (broadcastInDim S2048x2048 ![0, 1] bcast_S2048x1_S2048x2048_0_1 (broadcastInDim S2048x1 ![0] bcast_S2048_S2048x1_0 (iotaInDim S2048 32 0)))))
    natLt_1_32) (constantI S_ 32 0#32) reducesTo_S2048x2048_S2048_d1 h_S_

/-- The experts' matrices as the reference gathers them. -/
def gatV (e : IVec S2048 32) (W : FVec Ideal S64x512x1024 .f32) : FVec Ideal S2048x512x1024 .f32 :=
  Host.gather gather_S64x512x1024_S2048x1_S2048x512x1024_12_0_n_n_0_1_15121024 W
    (broadcastInDim S2048x1 ![0] bcast_S2048_S2048x1_0 (select (cmpi .slt e (broadcastInDim S2048 ![] bcast_S_S2048 (constantI S_ 32 0#32)))
      (addi e (broadcastInDim S2048 ![] bcast_S_S2048 (constantI S_ 32 64#32))) e))

/-- The reference's result. -/
def refV (x : FVec Ideal S2048x512 .f32) (idx : IVec S2048x1 32) (W : FVec Ideal S64x512x1024 .f32) : FVec Ideal S2048x1024 .f32 :=
  select (broadcastInDim S2048x1024 ![0, 1] bcast_S2048x1_S2048x1024_0_1 (broadcastInDim S2048x1 ![0] bcast_S2048_S2048x1_0
      (cmpi .slt (rankV (shapeCast S2048 idx shapeCasts_S2048x1_S2048)) (broadcastInDim S2048 ![] bcast_S_S2048 (constantI S_ 32 25#32)))))
    (Host.dotGeneral dot_S2048x512_S2048x512x1024_S2048x1024_1_1_n_2_0_0 none x (gatV (shapeCast S2048 idx shapeCasts_S2048x1_S2048) W))
    (broadcastInDim S2048x1024 ![] bcast_S_S2048x1024 (id (constant S_ .f32 0x00000000#32)))

theorem flat_apply (idx : IVec S2048x1 32) (t : Fin 2048) : shapeCast S2048 idx shapeCasts_S2048x1_S2048 (ix1 t) = idx (ix2 t (0 : Fin 1)) := by
  pointwise

theorem rankV_apply (e : IVec S2048 32) (r : ℕ → BitVec 32) (hr : ∀ t : Fin 2048, e (ix1 t) = r t.val) (t : Fin 2048) :
    rankV e (ix1 t) = BitVec.ofNat 32 (rank r t.val) := by
  unfold rankV
  refine (reduce_count (by decide) _ natLt_1_32 reducesTo_S2048x2048_S2048_d1 h_S_ t (fun j => r j = r t.val ∧ j < t.val) fun q => ?_).trans ?_
  · change (andi _ _) (ix2 t q) = 1#1 ↔ _
    have hq := q.isLt
    have ht := t.isLt
    pointwise [hr]
    rw [WordCmp.cmpi_eq_eq, WordCmp.cmpi_slt_ofNat (by omega) (by omega), WordCmp.andi_ofBool, ← Bool.decide_and, WordCmp.ofBool_decide_eq_one_iff]
  · exact congrArg (BitVec.ofNat 32) (count_before _ _ _ _ t.isLt.le)

/-- The gather of whole matrices: where the row's word is an expert's, the entry is that expert's. -/
theorem gather_apply (W : FVec Ideal S64x512x1024 .f32) (g : IVec S2048x1 32) (t : Fin 2048) (E : Fin 64)
    (hE : g (ix2 t (0 : Fin 1)) = BitVec.ofNat 32 E.val) (k : Fin 512) (h : Fin 1024) :
    Host.gather gather_S64x512x1024_S2048x1_S2048x512x1024_12_0_n_n_0_1_15121024 W g (ix3 t k h) = W (ix3 E k h) := by
  unfold Host.gather
  refine congrArg W (funext fun a => Fin.ext ?_)
  match a with
  | ⟨0, _⟩ =>
    have hsi : ∀ j, gather_S64x512x1024_S2048x1_S2048x512x1024_12_0_n_n_0_1_15121024.siIdx (ix3 t k h) j = ix2 t (0 : Fin 1) := by
      intro j
      funext b
      match b with
      | ⟨0, _⟩ => rfl
      | ⟨1, _⟩ => exact Subsingleton.elim (α := Fin 1) _ _
    show min (g (gather_S64x512x1024_S2048x1_S2048x512x1024_12_0_n_n_0_1_15121024.siIdx (ix3 t k h) _)).toInt.toNat (64 - 1) + 0 + 0 = E.val
    have hl := E.isLt
    rw [hsi, hE, StableHlo.Predicate.toInt_ofNat_small _ (by omega)]
    omega
  | ⟨1, _⟩ => exact (Nat.zero_add k.val)
  | ⟨2, _⟩ => exact (Nat.zero_add h.val)

theorem gatV_apply (e : IVec S2048 32) (W : FVec Ideal S64x512x1024 .f32) (t : Fin 2048) (E : Fin 64) (hE : e (ix1 t) = BitVec.ofNat 32 E.val)
    (k : Fin 512) (h : Fin 1024) : gatV e W (ix3 t k h) = W (ix3 E k h) := by
  refine gather_apply W _ t E ?_ k h
  have hl := E.isLt
  pointwise
  rw [wrap_of_lt _ _ (by rw [hE, BitVec.toNat_ofNat]; omega), hE]

theorem refV_apply (x : FVec Ideal S2048x512 .f32) (idx : IVec S2048x1 32) (W : FVec Ideal S64x512x1024 .f32)
    (t : Fin 2048) (E : Fin 64) (hE : route idx t.val = BitVec.ofNat 32 E.val) (h : Fin 1024) :
    refV x idx W (ix2 t h) = if rank (route idx) t.val < 25 then rowOf x W t E h else 0 := by
  have hr : ∀ u : Fin 2048, shapeCast S2048 idx shapeCasts_S2048x1_S2048 (ix1 u) = route idx u.val := fun u => by
    rw [flat_apply, route_of_lt]
  have hg := gatV_apply (shapeCast S2048 idx shapeCasts_S2048x1_S2048) W t E ((hr t).trans hE)
  have hk := rankV_apply (shapeCast S2048 idx shapeCasts_S2048x1_S2048) (route idx) hr t
  pointwise [refV]
  rw [hk]
  simp only [hg]
  have hn : rank (route idx) t.val < 2 ^ 31 := by
    have := t.isLt
    exact lt_of_le_of_lt (Nat.count_le _) (by omega)
  rw [show (25#32 : BitVec 32) = BitVec.ofNat 32 25 from rfl, WordCmp.cmpi_slt_ofNat hn (by decide), WordCmp.select_decide]
  refine if_congr Iff.rfl rfl ?_
  exact Ideal.ofBits_zero_f32

/-- The generated run's term is `refV`. -/
theorem run_refV (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v26) = refV (m ((c.tc : Thread nD τ).loc main_arg0)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Value.run m ρ

end Cert.ReferenceIdeal.RefValue

end
-- ==== Proof.Algebra.lean ====
/-
  The equation: from agreeing arguments with routes in range, what device `c` leaves is block `c` of the
  reference's result.
-/
module

public import proofs.«01_k».proof.Proof.Value
public import proofs.«01_k».proof.Proof.RefValue
public import Idealize.ShloMosaic.Lib.Layout

@[expose] public section

set_option maxRecDepth 65536

noncomputable section

namespace Cert.Equation

open Idealize.ShloMosaic Cert.Spec

/-- An expert's matrix lies on the device that is home to the expert, at its place among the four. -/
theorem block_experts (W : (⟨3, ![64, 512, 1024]⟩ : Shape).Idx → EReal) (e : Fin 64) (k : Fin 512) (h : Fin 1024) :
    Layout.block ⟨3, ![4, 512, 1024]⟩ ⟨3, ![64, 512, 1024]⟩ 0 16 (Cert.KernelIdeal.Snake.home e) W
      (by decide) (ix3 (⟨e.val % 4, by omega⟩ : Fin 4) k h) = W (ix3 e k h) := by
  rw [Layout.block_apply]
  congr 1
  funext a
  refine Fin.ext ?_
  fin_cases a
  · change (e.val / 4) * 4 + e.val % 4 = e.val
    omega
  · rfl
  · rfl

/-- Row `i` of block `c` of the result is the whole's row `128 c + i`. -/
theorem block_rows (v : (⟨2, ![2048, 1024]⟩ : Shape).Idx → EReal) (c : Fin 16) (i : Fin 128) (h : Fin 1024)
    (t : Fin 2048) (ht : t.val = 128 * c.val + i.val) :
    Layout.block ⟨2, ![128, 1024]⟩ ⟨2, ![2048, 1024]⟩ 0 16 c v (by decide) (ix2 i h) = v (ix2 t h) := by
  rw [Layout.block_apply]
  congr 1
  funext a
  refine Fin.ext ?_
  fin_cases a
  · change c.val * 128 + i.val = t.val
    omega
  · rfl

open Cert.KernelIdeal Cert.KernelIdeal.Gen Cert.KernelIdeal.Snake in
/-- Device `c`'s result is block `c` of the reference's. -/
theorem outV_block (m : (ℓ : Loc nD τ sig) → Buf (Elt Ideal) ℓ)
    (x : FVec Ideal ⟨2, ![2048, 512]⟩ .f32) (idx : IVec ⟨2, ![2048, 1]⟩ 32) (W : FVec Ideal ⟨3, ![64, 512, 1024]⟩ .f32)
    (hin : ∀ t : Fin 2048, (idx (ix2 t (0 : Fin 1))).toNat < 64)
    (h0 : ∀ d : Dev nD, m ((d.tc : Thread nD τ).loc main_arg0) = x)
    (h2 : ∀ d : Dev nD, m ((d.tc : Thread nD τ).loc main_arg2) = idx)
    (h3 : ∀ d : Dev nD, m ((d.tc : Thread nD τ).loc main_arg3)
      = Layout.block ⟨3, ![4, 512, 1024]⟩ ⟨3, ![64, 512, 1024]⟩ 0 16 d W) (c : Dev nD) :
    outV m c = Layout.block ⟨2, ![128, 1024]⟩ ⟨2, ![2048, 1024]⟩ 0 16 c (Cert.ReferenceIdeal.RefValue.refV x idx W) := by
  funext j
  obtain ⟨i, h, rfl⟩ : ∃ (i : Fin 128) (h : Fin 1024), j = ix2 i h := ⟨j 0, j 1, by
    funext a; fin_cases a <;> rfl⟩
  have hc : c.val < 16 := c.isLt
  have hi := i.isLt
  let t : Fin 2048 := ⟨128 * c.val + i.val, by omega⟩
  have ht : t.val = 128 * c.val + i.val := rfl
  let e : Fin 64 := ⟨(idx (ix2 t (0 : Fin 1))).toNat, hin t⟩
  have he : route idx t.val = BitVec.ofNat 32 e.val := by
    rw [route_of_lt]
    exact BitVec.eq_of_toNat_eq (by rw [BitVec.toNat_ofNat, Nat.mod_eq_of_lt (idx (ix2 t (0 : Fin 1))).isLt])
  refine (outV_apply m (route idx) (fun d t => by rw [h2 d, route_of_lt]) c i h t ht e he).trans ?_
  refine Eq.trans ?_ (block_rows (Cert.ReferenceIdeal.RefValue.refV x idx W) c i h t ht).symm
  refine Eq.trans ?_ (Cert.ReferenceIdeal.RefValue.refV_apply x idx W t e he h).symm
  refine if_congr Iff.rfl ?_ rfl
  refine Finset.sum_congr rfl fun k _ => ?_
  rw [h0, h3]
  exact congrArg _ (block_experts W e k h)

end Cert.Equation

end
-- ==== Proof.Agree.lean ====
/-
  The value claim: kernel and reference both run, and every device's result is its block of the reference's.
-/
module

public import proofs.«01_k».proof.Defs
public import proofs.«01_k».proof.Proof.Algebra
public import proofs.«01_k».proof.Proof.InRange
public import proofs.«01_k».proof.Proof.LaunchRun

@[expose] public section

noncomputable section

namespace Cert.Agree

open Idealize.ShloMosaic Idealize.ShloMosaic.TcCoe Idealize.SL.Sem

set_option maxHeartbeats 1000000 in
/-- Kernel and reference compute the same function over the extended reals, where every route is one of the 64 experts. -/
theorem algebraic [hPre : Cert.Pre_routes_in_range_KernelIdeal.Facts] :
    Cert.algebraic_KernelIdeal_ReferenceIdeal_pre_routes_in_range_KernelIdeal := by
  intro m g m' g' hpre hag
  refine ⟨Cert.ReferenceIdeal.RefValue.refV
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)),
    ?_, ?_⟩
  · refine (θ_run Cert.KernelIdeal.defs _ _).mono (fun r h c => ?_) (Cert.KernelIdeal.Snake.run_main (F := Ideal) m g)
    obtain ⟨h0, h1, h2, h3, hv⟩ := h.1 c
    refine ⟨hv.trans (Cert.Equation.outV_block m _ _ _ (fun t => ?_) (fun d => (hag d).1) (fun d => (hag d).2.2.1)
      (fun d => (hag d).2.2.2) c), h0, h1, h2, h3⟩
    rw [← (hag c).2.2.1]
    exact Cert.InRange.toNat_lt _ _ _ _ (hpre c) t
  · exact (θ_run Cert.ReferenceIdeal.defs _ _).mono (fun _ h => h 0) (Cert.ReferenceIdeal.RefValue.run_refV m' g')

end Cert.Agree

end
-- ==== Proof.lean ====
/-
  The certificate's claim from its parts.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.InRange
public import proofs.«01_k».proof.Proof.Agree
public import Idealize.ShloMosaic.Adequacy
public import Idealize.ShloMosaic.Init

@[expose] public section

noncomputable section

namespace Cert.Proof

open Idealize.ShloMosaic Idealize.SL.Sem

/-- The claim: the frames of the three programs (those under the precondition are those without), the ideal
    program's provenance, and the value. -/
theorem claim : Cert.Claim := ⟨Cert.Kernel.Gen.facts, Cert.KernelIdeal.Gen.facts, Cert.ReferenceIdeal.Gen.facts,
  Cert.InRange.kernelFacts, Cert.InRange.referenceFacts,
  Cert.Frames.kernel, Cert.Frames.kernelIdeal, fun m g _ => Cert.Frames.kernelIdeal m g trivial,
  Cert.Frames.referenceIdeal, fun m g _ => Cert.Frames.referenceIdeal m g trivial, trivial,
  @Cert.Agree.algebraic Cert.InRange.kernelFacts⟩

end Cert.Proof

end
